-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame_KernelIdeal [hPre_tame_KernelIdeal : Cert.Pre_tame_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_tame_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame_ReferenceIdeal [hPre_tame_ReferenceIdeal : Cert.Pre_tame_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_tame_KernelIdeal [hKernelIdeal : Cert.KernelIdeal.Facts] [hPre_tame_KernelIdeal : Cert.Pre_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tame_ReferenceIdeal [hReferenceIdeal : Cert.ReferenceIdeal.Facts] [hPre_tame_ReferenceIdeal : Cert.Pre_tame_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_tame_KernelIdeal [hKernelIdeal : Cert.KernelIdeal.Facts] [hReferenceIdeal : Cert.ReferenceIdeal.Facts] [hPre_tame_KernelIdeal : Cert.Pre_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![128, 16, 16, 64]⟩ ⟨4, ![256, 16, 16, 64]⟩ (Layout.meshBlock [2, 2] ![[1], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![128, 16, 16, 64]⟩ ⟨4, ![256, 16, 16, 64]⟩ (Layout.meshBlock [2, 2] ![[1], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_tame_KernelIdeal : Cert.Pre_tame_KernelIdeal.Facts) (hPre_tame_ReferenceIdeal : Cert.Pre_tame_ReferenceIdeal.Facts),
    quiescent_Kernel (hKernel := hKernel)
    ∧ quiescent_KernelIdeal (hKernelIdeal := hKernelIdeal)
    ∧ quiescent_KernelIdeal_pre_tame_KernelIdeal (hKernelIdeal := hKernelIdeal) (hPre_tame_KernelIdeal := hPre_tame_KernelIdeal)
    ∧ quiescent_ReferenceIdeal (hReferenceIdeal := hReferenceIdeal)
    ∧ quiescent_ReferenceIdeal_pre_tame_ReferenceIdeal (hReferenceIdeal := hReferenceIdeal) (hPre_tame_ReferenceIdeal := hPre_tame_ReferenceIdeal)
    ∧ preserves_Kernel_KernelIdeal
    ∧ algebraic_KernelIdeal_ReferenceIdeal_pre_tame_KernelIdeal (hKernelIdeal := hKernelIdeal) (hReferenceIdeal := hReferenceIdeal) (hPre_tame_KernelIdeal := hPre_tame_KernelIdeal)
-- ==== Pre_tame_KernelIdeal.lean ====
abbrev S16x1x16x64 : Shape := ⟨4, ![16, 1, 16, 64]⟩
abbrev S128x16x16x64 : Shape := ⟨4, ![128, 16, 16, 64]⟩
abbrev S16x128 : Shape := ⟨2, ![16, 128]⟩
abbrev S16 : Shape := ⟨1, ![16]⟩
abbrev S_ : Shape := ⟨0, ![]⟩
abbrev S128 : Shape := ⟨1, ![128]⟩
abbrev S1x128 : Shape := ⟨2, ![1, 128]⟩
abbrev S16x1 : Shape := ⟨2, ![16, 1]⟩

class Facts : Prop where
  bcast_S_S16x128 : S_.BroadcastsInDim S16x128 (![] : Fin 0 → Fin S16x128.rank)
  bcast_S128_S1x128_1 : S128.BroadcastsInDim S1x128 (![1] : Fin 1 → Fin S1x128.rank)
  bcast_S16_S16x1_0 : S16.BroadcastsInDim S16x1 (![0] : Fin 1 → Fin S16x1.rank)
  bcast_S1x128_S16x128_0_1 : S1x128.BroadcastsInDim S16x128 (![0, 1] : Fin 2 → Fin S16x128.rank)
  bcast_S16x1_S16x128_0_1 : S16x1.BroadcastsInDim S16x128 (![0, 1] : Fin 2 → Fin S16x128.rank)
  bcast_S_S16x1x16x64 : S_.BroadcastsInDim S16x1x16x64 (![] : Fin 0 → Fin S16x1x16x64.rank)
  reducesTo_S16x1x16x64_S_d0_1_2_3 : S16x1x16x64.ReducesTo [0, 1, 2, 3] S_
  h_S_ : 0 < S_.numel
  bcast_S_S128x16x16x64 : S_.BroadcastsInDim S128x16x16x64 (![] : Fin 0 → Fin S128x16x16x64.rank)
  reducesTo_S128x16x16x64_S_d0_1_2_3 : S128x16x16x64.ReducesTo [0, 1, 2, 3] S_
  bcast_S_S16 : S_.BroadcastsInDim S16 (![] : Fin 0 → Fin S16.rank)
  reducesTo_S16_S_d0 : S16.ReducesTo [0] S_
  reducesTo_S16x128_S_d0_1 : S16x128.ReducesTo [0, 1] S_

variable [Facts]

def fn_part1 {F : FTy → Type} [FloatOps F] (main_arg4 : IVec S16 32) (main_v4 : IVec S16x128 1) (main_v10 : IVec S16x128 1) (main_v14 : IVec S_ 1) (main_v17 : IVec S128x16x16x64 1) (main_c_3 : IVec S_ 1) : IVec S_ 1 :=
  let main_v18 : IVec S_ 1 := (fun x v => Host.reduce IntOp.andi x v reducesTo_S128x16x16x64_S_d0_1_2_3 h_S_) main_v17 main_c_3
  let main_v19 : IVec S_ 1 := andi main_v14 main_v18
  let main_c_4 : IVec S_ 32 := constantI S_ 32 1#32
  let main_v20 : IVec S16 32 := broadcastInDim S16 ![] bcast_S_S16 main_c_4
  let main_v21 : IVec S16 1 := cmpi .sge main_arg4 main_v20
  let main_c_5 : IVec S_ 1 := constantI S_ 1 1#1
  let main_v22 : IVec S_ 1 := (fun x v => Host.reduce IntOp.andi x v reducesTo_S16_S_d0 h_S_) main_v21 main_c_5
  let main_v23 : IVec S_ 1 := andi main_v19 main_v22
  let main_v24 : IVec S16x128 1 := ori main_v4 main_v10
  let main_c_6 : IVec S_ 1 := constantI S_ 1 1#1
  let main_v25 : IVec S_ 1 := (fun x v => Host.reduce IntOp.andi x v reducesTo_S16x128_S_d0_1 h_S_) main_v24 main_c_6
  let main_v26 : IVec S_ 1 := andi main_v23 main_v25
  main_v26

def fn {F : FTy → Type} [FloatOps F] (main_arg0 : FVec F S16x1x16x64 .f32) (main_arg1 : FVec F S128x16x16x64 .f32) (main_arg2 : FVec F S128x16x16x64 .f32) (main_arg3 : IVec S16x128 32) (main_arg4 : IVec S16 32) : IVec S_ 1 :=
  let main_c : IVec S_ 32 := constantI S_ 32 0#32
  let main_v0 : IVec S16x128 32 := broadcastInDim S16x128 ![] bcast_S_S16x128 main_c
  let main_v1 : IVec S16x128 1 := cmpi .sge main_arg3 main_v0
  let main_c_0 : IVec S_ 32 := constantI S_ 32 256#32
  let main_v2 : IVec S16x128 32 := broadcastInDim S16x128 ![] bcast_S_S16x128 main_c_0
  let main_v3 : IVec S16x128 1 := cmpi .slt main_arg3 main_v2
  let main_v4 : IVec S16x128 1 := andi main_v1 main_v3
  let main_v5 : IVec S128 32 := iotaInDim S128 32 0
  let main_v6 : IVec S1x128 32 := broadcastInDim S1x128 ![1] bcast_S128_S1x128_1 main_v5
  let main_v7 : IVec S16x1 32 := broadcastInDim S16x1 ![0] bcast_S16_S16x1_0 main_arg4
  let main_v8 : IVec S16x128 32 := broadcastInDim S16x128 ![0, 1] bcast_S1x128_S16x128_0_1 main_v6
  let main_v9 : IVec S16x128 32 := broadcastInDim S16x128 ![0, 1] bcast_S16x1_S16x128_0_1 main_v7
  let main_v10 : IVec S16x128 1 := cmpi .sge main_v8 main_v9
  let main_v11 : FVec F S16x1x16x64 .f32 := Host.absf main_arg0
  let main_cst : FVec F S_ .f32 := constant S_ .f32 0x7F800000#32
  let main_v12 : FVec F S16x1x16x64 .f32 := broadcastInDim S16x1x16x64 ![] bcast_S_S16x1x16x64 main_cst
  let main_v13 : IVec S16x1x16x64 1 := cmpf .olt main_v11 main_v12
  let main_c_1 : IVec S_ 1 := constantI S_ 1 1#1
  let main_v14 : IVec S_ 1 := (fun x v => Host.reduce IntOp.andi x v reducesTo_S16x1x16x64_S_d0_1_2_3 h_S_) main_v13 main_c_1
  let main_v15 : FVec F S128x16x16x64 .f32 := Host.absf main_arg1
  let main_cst_2 : FVec F S_ .f32 := constant S_ .f32 0x7F800000#32
  let main_v16 : FVec F S128x16x16x64 .f32 := broadcastInDim S128x16x16x64 ![] bcast_S_S128x16x16x64 main_cst_2
  let main_v17 : IVec S128x16x16x64 1 := cmpf .olt main_v15 main_v16
  let main_c_3 : IVec S_ 1 := constantI S_ 1 1#1
  fn_part1 (F := F) main_arg4 main_v4 main_v10 main_v14 main_v17 main_c_3
-- ==== Pre_tame_ReferenceIdeal.lean ====
abbrev S16x1x16x64 : Shape := ⟨4, ![16, 1, 16, 64]⟩
abbrev S256x16x16x64 : Shape := ⟨4, ![256, 16, 16, 64]⟩
abbrev S16x128 : Shape := ⟨2, ![16, 128]⟩
abbrev S16 : Shape := ⟨1, ![16]⟩
abbrev S_ : Shape := ⟨0, ![]⟩
abbrev S128 : Shape := ⟨1, ![128]⟩
abbrev S1x128 : Shape := ⟨2, ![1, 128]⟩
abbrev S16x1 : Shape := ⟨2, ![16, 1]⟩

class Facts : Prop where
  bcast_S_S16x128 : S_.BroadcastsInDim S16x128 (![] : Fin 0 → Fin S16x128.rank)
  bcast_S128_S1x128_1 : S128.BroadcastsInDim S1x128 (![1] : Fin 1 → Fin S1x128.rank)
  bcast_S16_S16x1_0 : S16.BroadcastsInDim S16x1 (![0] : Fin 1 → Fin S16x1.rank)
  bcast_S1x128_S16x128_0_1 : S1x128.BroadcastsInDim S16x128 (![0, 1] : Fin 2 → Fin S16x128.rank)
  bcast_S16x1_S16x128_0_1 : S16x1.BroadcastsInDim S16x128 (![0, 1] : Fin 2 → Fin S16x128.rank)
  bcast_S_S16x1x16x64 : S_.BroadcastsInDim S16x1x16x64 (![] : Fin 0 → Fin S16x1x16x64.rank)
  reducesTo_S16x1x16x64_S_d0_1_2_3 : S16x1x16x64.ReducesTo [0, 1, 2, 3] S_
  h_S_ : 0 < S_.numel
  bcast_S_S256x16x16x64 : S_.BroadcastsInDim S256x16x16x64 (![] : Fin 0 → Fin S256x16x16x64.rank)
  reducesTo_S256x16x16x64_S_d0_1_2_3 : S256x16x16x64.ReducesTo [0, 1, 2, 3] S_
  bcast_S_S16 : S_.BroadcastsInDim S16 (![] : Fin 0 → Fin S16.rank)
  reducesTo_S16_S_d0 : S16.ReducesTo [0] S_
  reducesTo_S16x128_S_d0_1 : S16x128.ReducesTo [0, 1] S_

variable [Facts]

def fn_part1 {F : FTy → Type} [FloatOps F] (main_arg4 : IVec S16 32) (main_v4 : IVec S16x128 1) (main_v10 : IVec S16x128 1) (main_v14 : IVec S_ 1) (main_v17 : IVec S256x16x16x64 1) (main_c_3 : IVec S_ 1) : IVec S_ 1 :=
  let main_v18 : IVec S_ 1 := (fun x v => Host.reduce IntOp.andi x v reducesTo_S256x16x16x64_S_d0_1_2_3 h_S_) main_v17 main_c_3
  let main_v19 : IVec S_ 1 := andi main_v14 main_v18
  let main_c_4 : IVec S_ 32 := constantI S_ 32 1#32
  let main_v20 : IVec S16 32 := broadcastInDim S16 ![] bcast_S_S16 main_c_4
  let main_v21 : IVec S16 1 := cmpi .sge main_arg4 main_v20
  let main_c_5 : IVec S_ 1 := constantI S_ 1 1#1
  let main_v22 : IVec S_ 1 := (fun x v => Host.reduce IntOp.andi x v reducesTo_S16_S_d0 h_S_) main_v21 main_c_5
  let main_v23 : IVec S_ 1 := andi main_v19 main_v22
  let main_v24 : IVec S16x128 1 := ori main_v4 main_v10
  let main_c_6 : IVec S_ 1 := constantI S_ 1 1#1
  let main_v25 : IVec S_ 1 := (fun x v => Host.reduce IntOp.andi x v reducesTo_S16x128_S_d0_1 h_S_) main_v24 main_c_6
  let main_v26 : IVec S_ 1 := andi main_v23 main_v25
  main_v26

def fn {F : FTy → Type} [FloatOps F] (main_arg0 : FVec F S16x1x16x64 .f32) (main_arg1 : FVec F S256x16x16x64 .f32) (main_arg2 : FVec F S256x16x16x64 .f32) (main_arg3 : IVec S16x128 32) (main_arg4 : IVec S16 32) : IVec S_ 1 :=
  let main_c : IVec S_ 32 := constantI S_ 32 0#32
  let main_v0 : IVec S16x128 32 := broadcastInDim S16x128 ![] bcast_S_S16x128 main_c
  let main_v1 : IVec S16x128 1 := cmpi .sge main_arg3 main_v0
  let main_c_0 : IVec S_ 32 := constantI S_ 32 256#32
  let main_v2 : IVec S16x128 32 := broadcastInDim S16x128 ![] bcast_S_S16x128 main_c_0
  let main_v3 : IVec S16x128 1 := cmpi .slt main_arg3 main_v2
  let main_v4 : IVec S16x128 1 := andi main_v1 main_v3
  let main_v5 : IVec S128 32 := iotaInDim S128 32 0
  let main_v6 : IVec S1x128 32 := broadcastInDim S1x128 ![1] bcast_S128_S1x128_1 main_v5
  let main_v7 : IVec S16x1 32 := broadcastInDim S16x1 ![0] bcast_S16_S16x1_0 main_arg4
  let main_v8 : IVec S16x128 32 := broadcastInDim S16x128 ![0, 1] bcast_S1x128_S16x128_0_1 main_v6
  let main_v9 : IVec S16x128 32 := broadcastInDim S16x128 ![0, 1] bcast_S16x1_S16x128_0_1 main_v7
  let main_v10 : IVec S16x128 1 := cmpi .sge main_v8 main_v9
  let main_v11 : FVec F S16x1x16x64 .f32 := Host.absf main_arg0
  let main_cst : FVec F S_ .f32 := constant S_ .f32 0x7F800000#32
  let main_v12 : FVec F S16x1x16x64 .f32 := broadcastInDim S16x1x16x64 ![] bcast_S_S16x1x16x64 main_cst
  let main_v13 : IVec S16x1x16x64 1 := cmpf .olt main_v11 main_v12
  let main_c_1 : IVec S_ 1 := constantI S_ 1 1#1
  let main_v14 : IVec S_ 1 := (fun x v => Host.reduce IntOp.andi x v reducesTo_S16x1x16x64_S_d0_1_2_3 h_S_) main_v13 main_c_1
  let main_v15 : FVec F S256x16x16x64 .f32 := Host.absf main_arg1
  let main_cst_2 : FVec F S_ .f32 := constant S_ .f32 0x7F800000#32
  let main_v16 : FVec F S256x16x16x64 .f32 := broadcastInDim S256x16x16x64 ![] bcast_S_S256x16x16x64 main_cst_2
  let main_v17 : IVec S256x16x16x64 1 := cmpf .olt main_v15 main_v16
  let main_c_3 : IVec S_ 1 := constantI S_ 1 1#1
  fn_part1 (F := F) main_arg4 main_v4 main_v10 main_v14 main_v17 main_c_3
-- ==== Kernel.lean ====
abbrev S16x1x16x64 : Shape := ⟨4, ![16, 1, 16, 64]⟩
abbrev S128x16x16x64 : Shape := ⟨4, ![128, 16, 16, 64]⟩
abbrev S16x128 : Shape := ⟨2, ![16, 128]⟩
abbrev S16 : Shape := ⟨1, ![16]⟩
abbrev S16x16x64x128 : Shape := ⟨4, ![16, 16, 64, 128]⟩
abbrev S128 : Shape := ⟨1, ![128]⟩
abbrev S1x128 : Shape := ⟨2, ![1, 128]⟩
abbrev S16x1 : Shape := ⟨2, ![16, 1]⟩
abbrev S_ : Shape := ⟨0, ![]⟩
abbrev S16x1024 : Shape := ⟨2, ![16, 1024]⟩
abbrev S8x64x2048 : Shape := ⟨3, ![8, 64, 2048]⟩
abbrev S2x16x2 : Shape := ⟨3, ![2, 16, 2]⟩
abbrev S4x16x640 : Shape := ⟨3, ![4, 16, 640]⟩
abbrev S2x3 : Shape := ⟨2, ![2, 3]⟩
abbrev S2x4 : Shape := ⟨2, ![2, 4]⟩
abbrev S1x1x1 : Shape := ⟨3, ![1, 1, 1]⟩
abbrev S4x64x128 : Shape := ⟨3, ![4, 64, 128]⟩
abbrev S1x4x64x128 : Shape := ⟨4, ![1, 4, 64, 128]⟩
abbrev S16x2048 : Shape := ⟨2, ![16, 2048]⟩
abbrev S16x1x8x64 : Shape := ⟨4, ![16, 1, 8, 64]⟩
abbrev S16x8x64 : Shape := ⟨3, ![16, 8, 64]⟩
abbrev S16x1x64 : Shape := ⟨3, ![16, 1, 64]⟩
abbrev S16x64 : Shape := ⟨2, ![16, 64]⟩
abbrev S1x64x2048 : Shape := ⟨3, ![1, 64, 2048]⟩
abbrev S64x2048 : Shape := ⟨2, ![64, 2048]⟩
abbrev S1x16x64 : Shape := ⟨3, ![1, 16, 64]⟩
abbrev S1x16x1 : Shape := ⟨3, ![1, 16, 1]⟩
abbrev S1x1 : Shape := ⟨2, ![1, 1]⟩
abbrev S1x16x256 : Shape := ⟨3, ![1, 16, 256]⟩
abbrev S16x256 : Shape := ⟨2, ![16, 256]⟩
abbrev S1x16x384 : Shape := ⟨3, ![1, 16, 384]⟩
abbrev S16x384 : Shape := ⟨2, ![16, 384]⟩
abbrev S1x16x8 : Shape := ⟨3, ![1, 16, 8]⟩
abbrev S16x8 : Shape := ⟨2, ![16, 8]⟩
abbrev S16x512 : Shape := ⟨2, ![16, 512]⟩

abbrev nBuf : Space → Nat
  | .hbm => 19
  | .vmem => 6
  | .smem => 0
  | _ => 0

abbrev bufTy : (tb : Table) → Fin (tcTables nBuf tb) → BufTy
  | .hbm, ⟨0, _⟩ => ⟨S16x1x16x64, .f32⟩
  | .hbm, ⟨1, _⟩ => ⟨S128x16x16x64, .f32⟩
  | .hbm, ⟨2, _⟩ => ⟨S128x16x16x64, .f32⟩
  | .hbm, ⟨3, _⟩ => ⟨S16x128, .i32⟩
  | .hbm, ⟨4, _⟩ => ⟨S16, .i32⟩
  | .hbm, ⟨5, _⟩ => ⟨S16x16x64x128, .f32⟩
  | .hbm, ⟨6, _⟩ => ⟨S16x16x64x128, .f32⟩
  | .hbm, ⟨7, _⟩ => ⟨S128, .i32⟩
  | .hbm, ⟨8, _⟩ => ⟨S1x128, .i32⟩
  | .hbm, ⟨9, _⟩ => ⟨S16x1, .i32⟩
  | .hbm, ⟨10, _⟩ => ⟨S16x128, .i32⟩
  | .hbm, ⟨11, _⟩ => ⟨S16x128, .i32⟩
  | .hbm, ⟨12, _⟩ => ⟨S16x128, .i1⟩
  | .hbm, ⟨13, _⟩ => ⟨S_, .i32⟩
  | .hbm, ⟨14, _⟩ => ⟨S_, .i32⟩
  | .hbm, ⟨15, _⟩ => ⟨S16x128, .i32⟩
  | .hbm, ⟨16, _⟩ => ⟨S16x128, .i32⟩
  | .hbm, ⟨17, _⟩ => ⟨S16x1024, .f32⟩
  | .hbm, ⟨18, _⟩ => ⟨S16x1x16x64, .f32⟩
  | .local _ .vmem, ⟨0, _⟩ => ⟨S16x1x16x64, .f32⟩
  | .local _ .vmem, ⟨1, _⟩ => ⟨S16x128, .i32⟩
  | .local _ .vmem, ⟨2, _⟩ => ⟨S16x1024, .f32⟩
  | .local _ .vmem, ⟨3, _⟩ => ⟨S8x64x2048, .f32⟩
  | .local _ .vmem, ⟨4, _⟩ => ⟨S8x64x2048, .f32⟩
  | .local _ .vmem, ⟨5, _⟩ => ⟨S4x16x640, .f32⟩
  | _, _ => ⟨S16x1x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  (ofTc nBuf bufTy 1 81 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 4 → Nat :=
  let c0_i32_15 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v22 : BitVec 32 := Scalar.muli v2 c8_i32
  let v23 : BitVec 32 := Scalar.addi v22 c0_i32
  let c0_i32_22 : BitVec 32 := 0#32
  let c0_i32_23 : BitVec 32 := 0#32
  ![0, v23.toNat, 0, 0]
def k0_off2 (d0 : Dev nD) (c0_i32_33 : BitVec 32) : Fin 4 → Nat :=
  let c1_i32_35 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v22 : BitVec 32 := Scalar.muli v2 c8_i32
  let v35 : BitVec 32 := Scalar.addi v22 c0_i32_33
  let c0_i32_41 : BitVec 32 := 0#32
  let c0_i32_42 : BitVec 32 := 0#32
  ![1, v35.toNat, 0, 0]
def k0_off3 (d0 : Dev nD) (c0_i32_52 : BitVec 32) : Fin 4 → Nat :=
  let c2_i32_54 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v22 : BitVec 32 := Scalar.muli v2 c8_i32
  let v47 : BitVec 32 := Scalar.addi v22 c0_i32_52
  let c0_i32_60 : BitVec 32 := 0#32
  let c0_i32_61 : BitVec 32 := 0#32
  ![2, v47.toNat, 0, 0]
def k0_off4 (d0 : Dev nD) (c0_i32_71 : BitVec 32) : Fin 4 → Nat :=
  let c3_i32 : BitVec 32 := 3#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v22 : BitVec 32 := Scalar.muli v2 c8_i32
  let v59 : BitVec 32 := Scalar.addi v22 c0_i32_71
  let c0_i32_78 : BitVec 32 := 0#32
  let c0_i32_79 : BitVec 32 := 0#32
  ![3, v59.toNat, 0, 0]
def k0_off5 (d0 : Dev nD) (c0_i32_89 : BitVec 32) : Fin 4 → Nat :=
  let c4_i32 : BitVec 32 := 4#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v22 : BitVec 32 := Scalar.muli v2 c8_i32
  let v71 : BitVec 32 := Scalar.addi v22 c0_i32_89
  let c0_i32_96 : BitVec 32 := 0#32
  let c0_i32_97 : BitVec 32 := 0#32
  ![4, v71.toNat, 0, 0]
def k0_off6 (d0 : Dev nD) (c0_i32_107 : BitVec 32) : Fin 4 → Nat :=
  let c5_i32 : BitVec 32 := 5#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v22 : BitVec 32 := Scalar.muli v2 c8_i32
  let v83 : BitVec 32 := Scalar.addi v22 c0_i32_107
  let c0_i32_114 : BitVec 32 := 0#32
  let c0_i32_115 : BitVec 32 := 0#32
  ![5, v83.toNat, 0, 0]
def k0_off7 (d0 : Dev nD) (c0_i32_125 : BitVec 32) : Fin 4 → Nat :=
  let c6_i32 : BitVec 32 := 6#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v22 : BitVec 32 := Scalar.muli v2 c8_i32
  let v95 : BitVec 32 := Scalar.addi v22 c0_i32_125
  let c0_i32_132 : BitVec 32 := 0#32
  let c0_i32_133 : BitVec 32 := 0#32
  ![6, v95.toNat, 0, 0]
def k0_off8 (d0 : Dev nD) (c0_i32_143 : BitVec 32) : Fin 4 → Nat :=
  let c7_i32 : BitVec 32 := 7#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v22 : BitVec 32 := Scalar.muli v2 c8_i32
  let v107 : BitVec 32 := Scalar.addi v22 c0_i32_143
  let c0_i32_150 : BitVec 32 := 0#32
  let c0_i32_151 : BitVec 32 := 0#32
  ![7, v107.toNat, 0, 0]
def k0_off9 (d0 : Dev nD) (c0_i32_161 : BitVec 32) : Fin 4 → Nat :=
  let c8_i32_163 : BitVec 32 := 8#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v22 : BitVec 32 := Scalar.muli v2 c8_i32
  let v119 : BitVec 32 := Scalar.addi v22 c0_i32_161
  let c0_i32_169 : BitVec 32 := 0#32
  let c0_i32_170 : BitVec 32 := 0#32
  ![8, v119.toNat, 0, 0]
def k0_off10 (d0 : Dev nD) (c0_i32_180 : BitVec 32) : Fin 4 → Nat :=
  let c9_i32 : BitVec 32 := 9#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v22 : BitVec 32 := Scalar.muli v2 c8_i32
  let v131 : BitVec 32 := Scalar.addi v22 c0_i32_180
  let c0_i32_187 : BitVec 32 := 0#32
  let c0_i32_188 : BitVec 32 := 0#32
  ![9, v131.toNat, 0, 0]
def k0_off11 (d0 : Dev nD) (c0_i32_198 : BitVec 32) : Fin 4 → Nat :=
  let c10_i32 : BitVec 32 := 10#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v22 : BitVec 32 := Scalar.muli v2 c8_i32
  let v143 : BitVec 32 := Scalar.addi v22 c0_i32_198
  let c0_i32_205 : BitVec 32 := 0#32
  let c0_i32_206 : BitVec 32 := 0#32
  ![10, v143.toNat, 0, 0]
def k0_off12 (d0 : Dev nD) (c0_i32_216 : BitVec 32) : Fin 4 → Nat :=
  let c11_i32 : BitVec 32 := 11#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v22 : BitVec 32 := Scalar.muli v2 c8_i32
  let v155 : BitVec 32 := Scalar.addi v22 c0_i32_216
  let c0_i32_223 : BitVec 32 := 0#32
  let c0_i32_224 : BitVec 32 := 0#32
  ![11, v155.toNat, 0, 0]
def k0_off13 (d0 : Dev nD) (c0_i32_234 : BitVec 32) : Fin 4 → Nat :=
  let c12_i32 : BitVec 32 := 12#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v22 : BitVec 32 := Scalar.muli v2 c8_i32
  let v167 : BitVec 32 := Scalar.addi v22 c0_i32_234
  let c0_i32_241 : BitVec 32 := 0#32
  let c0_i32_242 : BitVec 32 := 0#32
  ![12, v167.toNat, 0, 0]
def k0_off14 (d0 : Dev nD) (c0_i32_252 : BitVec 32) : Fin 4 → Nat :=
  let c13_i32 : BitVec 32 := 13#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v22 : BitVec 32 := Scalar.muli v2 c8_i32
  let v179 : BitVec 32 := Scalar.addi v22 c0_i32_252
  let c0_i32_259 : BitVec 32 := 0#32
  let c0_i32_260 : BitVec 32 := 0#32
  ![13, v179.toNat, 0, 0]
def k0_off15 (d0 : Dev nD) (c0_i32_270 : BitVec 32) : Fin 4 → Nat :=
  let c14_i32 : BitVec 32 := 14#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v22 : BitVec 32 := Scalar.muli v2 c8_i32
  let v191 : BitVec 32 := Scalar.addi v22 c0_i32_270
  let c0_i32_277 : BitVec 32 := 0#32
  let c0_i32_278 : BitVec 32 := 0#32
  ![14, v191.toNat, 0, 0]
def k0_off16 (d0 : Dev nD) (c0_i32_288 : BitVec 32) : Fin 4 → Nat :=
  let c15_i32 : BitVec 32 := 15#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v22 : BitVec 32 := Scalar.muli v2 c8_i32
  let v203 : BitVec 32 := Scalar.addi v22 c0_i32_288
  let c0_i32_295 : BitVec 32 := 0#32
  let c0_i32_296 : BitVec 32 := 0#32
  ![15, v203.toNat, 0, 0]
def k0_dev1 (d0 : Dev nD) : Nat :=
  let c0_i32_760 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_759 : BitVec 32 := 2#32
  let v1316 : BitVec 32 := Scalar.muli v2 c2_i32_759
  let v1317 : BitVec 32 := Scalar.addi c0_i32_760 v1316
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_3 v5
  let c1_i32_761 : BitVec 32 := 1#32
  let v1318 : BitVec 32 := Scalar.muli v8 c1_i32_761
  let v1319 : BitVec 32 := Scalar.addi v1317 v1318
  v1319.toNat
def k0_dev2 (d0 : Dev nD) : Nat :=
  let c0_i32_764 : BitVec 32 := 0#32
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v12 : BitVec 32 := Scalar.subi c1_i32_6 v2
  let c2_i32_763 : BitVec 32 := 2#32
  let v1320 : BitVec 32 := Scalar.muli v12 c2_i32_763
  let v1321 : BitVec 32 := Scalar.addi c0_i32_764 v1320
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_765 : BitVec 32 := 1#32
  let v1322 : BitVec 32 := Scalar.muli v5 c1_i32_765
  let v1323 : BitVec 32 := Scalar.addi v1321 v1322
  v1323.toNat
def k0_dev3 (d0 : Dev nD) : Nat :=
  let c0_i32_768 : BitVec 32 := 0#32
  let c1_i32_9 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v16 : BitVec 32 := Scalar.subi c1_i32_9 v2
  let c2_i32_767 : BitVec 32 := 2#32
  let v1324 : BitVec 32 := Scalar.muli v16 c2_i32_767
  let v1325 : BitVec 32 := Scalar.addi c0_i32_768 v1324
  let c1_i32_10 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v17 : BitVec 32 := Scalar.subi c1_i32_10 v5
  let c1_i32_769 : BitVec 32 := 1#32
  let v1326 : BitVec 32 := Scalar.muli v17 c1_i32_769
  let v1327 : BitVec 32 := Scalar.addi v1325 v1326
  v1327.toNat
def k0_off17 (d0 : Dev nD) : Fin 4 → Nat :=
  let c0_771 : Index := 0#32
  let c0_772 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v22 : BitVec 32 := Scalar.muli v2 c8_i32
  let v1328 : Index := Scalar.indexCast v22
  let c0_773 : Index := 0#32
  ![0, 0, v1328.toNat, 0]
def k0_off18 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let v1509 : Index := Scalar.indexCast v7
  let c0_1073 : Index := 0#32
  let c0_1074 : Index := 0#32
  ![v1509.toNat, 0, 0]
def k0_off19 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let v1513 : Index := Scalar.indexCast v7
  let c0_1075 : Index := 0#32
  let c512 : Index := 512#32
  ![v1513.toNat, 0, 512]
def k0_off20 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let v1517 : Index := Scalar.indexCast v7
  let c0_1076 : Index := 0#32
  let c520 : Index := 520#32
  ![v1517.toNat, 0, 520]
def k0_off21 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let v1537 : Index := Scalar.indexCast v7
  let c0_1087 : Index := 0#32
  let c64_1088 : Index := 64#32
  ![v1537.toNat, 0, 64]
def k0_off22 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let v1541 : Index := Scalar.indexCast v7
  let c0_1089 : Index := 0#32
  let c513 : Index := 513#32
  ![v1541.toNat, 0, 513]
def k0_off23 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let v1545 : Index := Scalar.indexCast v7
  let c0_1090 : Index := 0#32
  let c521 : Index := 521#32
  ![v1545.toNat, 0, 521]
def k0_off24 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let v1565 : Index := Scalar.indexCast v7
  let c0_1101 : Index := 0#32
  let c128 : Index := 128#32
  ![v1565.toNat, 0, 128]
def k0_off25 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let v1569 : Index := Scalar.indexCast v7
  let c0_1102 : Index := 0#32
  let c514 : Index := 514#32
  ![v1569.toNat, 0, 514]
def k0_off26 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let v1573 : Index := Scalar.indexCast v7
  let c0_1103 : Index := 0#32
  let c522 : Index := 522#32
  ![v1573.toNat, 0, 522]
def k0_off27 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let v1593 : Index := Scalar.indexCast v7
  let c0_1114 : Index := 0#32
  let c192 : Index := 192#32
  ![v1593.toNat, 0, 192]
def k0_off28 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let v1597 : Index := Scalar.indexCast v7
  let c0_1115 : Index := 0#32
  let c515 : Index := 515#32
  ![v1597.toNat, 0, 515]
def k0_off29 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let v1601 : Index := Scalar.indexCast v7
  let c0_1116 : Index := 0#32
  let c523 : Index := 523#32
  ![v1601.toNat, 0, 523]
def k0_off30 (d0 : Dev nD) : Fin 2 → Nat :=
  let c0_i32_1117 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  ![0, v7.toNat]
def k0_off31 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let c0_i32_1123 : BitVec 32 := 0#32
  let c0_i32_1124 : BitVec 32 := 0#32
  ![v7.toNat, 0, 0]
def k0_dev4 (d0 : Dev nD) : Nat :=
  let c0_i32_1121 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1120 : BitVec 32 := 2#32
  let v1605 : BitVec 32 := Scalar.muli v2 c2_i32_1120
  let v1606 : BitVec 32 := Scalar.addi c0_i32_1121 v1605
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_3 v5
  let c1_i32_1122 : BitVec 32 := 1#32
  let v1607 : BitVec 32 := Scalar.muli v8 c1_i32_1122
  let v1608 : BitVec 32 := Scalar.addi v1606 v1607
  v1608.toNat
def k0_dev5 (d0 : Dev nD) : Nat :=
  let c0_i32_1131 : BitVec 32 := 0#32
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v12 : BitVec 32 := Scalar.subi c1_i32_6 v2
  let c2_i32_1130 : BitVec 32 := 2#32
  let v1617 : BitVec 32 := Scalar.muli v12 c2_i32_1130
  let v1618 : BitVec 32 := Scalar.addi c0_i32_1131 v1617
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1132 : BitVec 32 := 1#32
  let v1619 : BitVec 32 := Scalar.muli v5 c1_i32_1132
  let v1620 : BitVec 32 := Scalar.addi v1618 v1619
  v1620.toNat
def k0_dev6 (d0 : Dev nD) : Nat :=
  let c0_i32_1141 : BitVec 32 := 0#32
  let c1_i32_9 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v16 : BitVec 32 := Scalar.subi c1_i32_9 v2
  let c2_i32_1140 : BitVec 32 := 2#32
  let v1629 : BitVec 32 := Scalar.muli v16 c2_i32_1140
  let v1630 : BitVec 32 := Scalar.addi c0_i32_1141 v1629
  let c1_i32_10 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v17 : BitVec 32 := Scalar.subi c1_i32_10 v5
  let c1_i32_1142 : BitVec 32 := 1#32
  let v1631 : BitVec 32 := Scalar.muli v17 c1_i32_1142
  let v1632 : BitVec 32 := Scalar.addi v1630 v1631
  v1632.toNat
def k0_off32 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let v1817 : Index := Scalar.indexCast v7
  let c0_1445 : Index := 0#32
  let c256 : Index := 256#32
  ![v1817.toNat, 0, 256]
def k0_off33 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let v1821 : Index := Scalar.indexCast v7
  let c0_1446 : Index := 0#32
  let c516 : Index := 516#32
  ![v1821.toNat, 0, 516]
def k0_off34 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let v1825 : Index := Scalar.indexCast v7
  let c0_1447 : Index := 0#32
  let c524 : Index := 524#32
  ![v1825.toNat, 0, 524]
def k0_off35 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let v1845 : Index := Scalar.indexCast v7
  let c0_1458 : Index := 0#32
  let c320 : Index := 320#32
  ![v1845.toNat, 0, 320]
def k0_off36 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let v1849 : Index := Scalar.indexCast v7
  let c0_1459 : Index := 0#32
  let c517 : Index := 517#32
  ![v1849.toNat, 0, 517]
def k0_off37 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let v1853 : Index := Scalar.indexCast v7
  let c0_1460 : Index := 0#32
  let c525 : Index := 525#32
  ![v1853.toNat, 0, 525]
def k0_off38 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let v1873 : Index := Scalar.indexCast v7
  let c0_1471 : Index := 0#32
  let c384 : Index := 384#32
  ![v1873.toNat, 0, 384]
def k0_off39 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let v1877 : Index := Scalar.indexCast v7
  let c0_1472 : Index := 0#32
  let c518 : Index := 518#32
  ![v1877.toNat, 0, 518]
def k0_off40 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let v1881 : Index := Scalar.indexCast v7
  let c0_1473 : Index := 0#32
  let c526 : Index := 526#32
  ![v1881.toNat, 0, 526]
def k0_off41 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let v1901 : Index := Scalar.indexCast v7
  let c0_1484 : Index := 0#32
  let c448 : Index := 448#32
  ![v1901.toNat, 0, 448]
def k0_off42 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let v1905 : Index := Scalar.indexCast v7
  let c0_1485 : Index := 0#32
  let c519 : Index := 519#32
  ![v1905.toNat, 0, 519]
def k0_off43 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let v1909 : Index := Scalar.indexCast v7
  let c0_1486 : Index := 0#32
  let c527 : Index := 527#32
  ![v1909.toNat, 0, 527]
def k0_off44 (d0 : Dev nD) : Fin 2 → Nat :=
  let c1_i32_1487 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  ![1, v7.toNat]
def k0_off45 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let c0_i32_1493 : BitVec 32 := 0#32
  let c256_i32_1494 : BitVec 32 := 256#32
  ![v7.toNat, 0, 256]
def k0_dev7 (d0 : Dev nD) : Nat :=
  let c0_i32_1491 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1490 : BitVec 32 := 2#32
  let v1913 : BitVec 32 := Scalar.muli v2 c2_i32_1490
  let v1914 : BitVec 32 := Scalar.addi c0_i32_1491 v1913
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_3 v5
  let c1_i32_1492 : BitVec 32 := 1#32
  let v1915 : BitVec 32 := Scalar.muli v8 c1_i32_1492
  let v1916 : BitVec 32 := Scalar.addi v1914 v1915
  v1916.toNat
def k0_dev8 (d0 : Dev nD) : Nat :=
  let c0_i32_1501 : BitVec 32 := 0#32
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v12 : BitVec 32 := Scalar.subi c1_i32_6 v2
  let c2_i32_1500 : BitVec 32 := 2#32
  let v1925 : BitVec 32 := Scalar.muli v12 c2_i32_1500
  let v1926 : BitVec 32 := Scalar.addi c0_i32_1501 v1925
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1502 : BitVec 32 := 1#32
  let v1927 : BitVec 32 := Scalar.muli v5 c1_i32_1502
  let v1928 : BitVec 32 := Scalar.addi v1926 v1927
  v1928.toNat
def k0_dev9 (d0 : Dev nD) : Nat :=
  let c0_i32_1511 : BitVec 32 := 0#32
  let c1_i32_9 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v16 : BitVec 32 := Scalar.subi c1_i32_9 v2
  let c2_i32_1510 : BitVec 32 := 2#32
  let v1937 : BitVec 32 := Scalar.muli v16 c2_i32_1510
  let v1938 : BitVec 32 := Scalar.addi c0_i32_1511 v1937
  let c1_i32_10 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v17 : BitVec 32 := Scalar.subi c1_i32_10 v5
  let c1_i32_1512 : BitVec 32 := 1#32
  let v1939 : BitVec 32 := Scalar.muli v17 c1_i32_1512
  let v1940 : BitVec 32 := Scalar.addi v1938 v1939
  v1940.toNat
def k0_off46 (d0 : Dev nD) : Fin 2 → Nat :=
  let c0_i32_1519 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v9 : BitVec 32 := Scalar.muli v2 c2_i32_4
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v10 : BitVec 32 := Scalar.subi c1_i32_5 v5
  let v11 : BitVec 32 := Scalar.addi v9 v10
  ![0, v11.toNat]
def k0_off47 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v9 : BitVec 32 := Scalar.muli v2 c2_i32_4
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v10 : BitVec 32 := Scalar.subi c1_i32_5 v5
  let v11 : BitVec 32 := Scalar.addi v9 v10
  let c0_i32_1525 : BitVec 32 := 0#32
  let c0_i32_1526 : BitVec 32 := 0#32
  ![v11.toNat, 0, 0]
def k0_off48 (d0 : Dev nD) : Fin 2 → Nat :=
  let c1_i32_1529 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v9 : BitVec 32 := Scalar.muli v2 c2_i32_4
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v10 : BitVec 32 := Scalar.subi c1_i32_5 v5
  let v11 : BitVec 32 := Scalar.addi v9 v10
  ![1, v11.toNat]
def k0_off49 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v9 : BitVec 32 := Scalar.muli v2 c2_i32_4
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v10 : BitVec 32 := Scalar.subi c1_i32_5 v5
  let v11 : BitVec 32 := Scalar.addi v9 v10
  let c0_i32_1535 : BitVec 32 := 0#32
  let c256_i32_1536 : BitVec 32 := 256#32
  ![v11.toNat, 0, 256]
def k0_off50 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let v1973 : Index := Scalar.indexCast v7
  let c0_1540 : Index := 0#32
  let c512_1541 : Index := 512#32
  ![v1973.toNat, 0, 512]
def k0_off51 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2 : BitVec 32 := 2#32
  let v6 : BitVec 32 := Scalar.muli v2 c2_i32_2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let v1976 : Index := Scalar.indexCast v7
  let c0_1542 : Index := 0#32
  let c520_1543 : Index := 520#32
  ![v1976.toNat, 0, 520]
def k0_off52 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1517 : BitVec 32 := 2#32
  let v1949 : BitVec 32 := Scalar.muli v2 c2_i32_1517
  let c1_i32_1518 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1950 : BitVec 32 := Scalar.subi c1_i32_1518 v5
  let v1951 : BitVec 32 := Scalar.addi v1949 v1950
  let v1979 : Index := Scalar.indexCast v1951
  let c0_1544 : Index := 0#32
  let c512_1545 : Index := 512#32
  ![v1979.toNat, 0, 512]
def k0_off53 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1517 : BitVec 32 := 2#32
  let v1949 : BitVec 32 := Scalar.muli v2 c2_i32_1517
  let c1_i32_1518 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1950 : BitVec 32 := Scalar.subi c1_i32_1518 v5
  let v1951 : BitVec 32 := Scalar.addi v1949 v1950
  let v1982 : Index := Scalar.indexCast v1951
  let c0_1546 : Index := 0#32
  let c520_1547 : Index := 520#32
  ![v1982.toNat, 0, 520]
def k0_off54 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1517 : BitVec 32 := 2#32
  let v1949 : BitVec 32 := Scalar.muli v2 c2_i32_1517
  let c1_i32_1518 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1950 : BitVec 32 := Scalar.subi c1_i32_1518 v5
  let v1951 : BitVec 32 := Scalar.addi v1949 v1950
  let v1998 : Index := Scalar.indexCast v1951
  let c0_1551 : Index := 0#32
  let c0_1552 : Index := 0#32
  ![v1998.toNat, 0, 0]
def k0_off55 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1517 : BitVec 32 := 2#32
  let v1949 : BitVec 32 := Scalar.muli v2 c2_i32_1517
  let c1_i32_1518 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1950 : BitVec 32 := Scalar.subi c1_i32_1518 v5
  let v1951 : BitVec 32 := Scalar.addi v1949 v1950
  let v2014 : Index := Scalar.indexCast v1951
  let c0_1555 : Index := 0#32
  let c64_1556 : Index := 64#32
  ![v2014.toNat, 0, 64]
def k0_off56 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1517 : BitVec 32 := 2#32
  let v1949 : BitVec 32 := Scalar.muli v2 c2_i32_1517
  let c1_i32_1518 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1950 : BitVec 32 := Scalar.subi c1_i32_1518 v5
  let v1951 : BitVec 32 := Scalar.addi v1949 v1950
  let v2030 : Index := Scalar.indexCast v1951
  let c0_1559 : Index := 0#32
  let c128_1560 : Index := 128#32
  ![v2030.toNat, 0, 128]
def k0_off57 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1517 : BitVec 32 := 2#32
  let v1949 : BitVec 32 := Scalar.muli v2 c2_i32_1517
  let c1_i32_1518 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1950 : BitVec 32 := Scalar.subi c1_i32_1518 v5
  let v1951 : BitVec 32 := Scalar.addi v1949 v1950
  let v2046 : Index := Scalar.indexCast v1951
  let c0_1563 : Index := 0#32
  let c192_1564 : Index := 192#32
  ![v2046.toNat, 0, 192]
def k0_off58 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1517 : BitVec 32 := 2#32
  let v1949 : BitVec 32 := Scalar.muli v2 c2_i32_1517
  let c1_i32_1518 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1950 : BitVec 32 := Scalar.subi c1_i32_1518 v5
  let v1951 : BitVec 32 := Scalar.addi v1949 v1950
  let v2062 : Index := Scalar.indexCast v1951
  let c0_1567 : Index := 0#32
  let c256_1568 : Index := 256#32
  ![v2062.toNat, 0, 256]
def k0_off59 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1517 : BitVec 32 := 2#32
  let v1949 : BitVec 32 := Scalar.muli v2 c2_i32_1517
  let c1_i32_1518 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1950 : BitVec 32 := Scalar.subi c1_i32_1518 v5
  let v1951 : BitVec 32 := Scalar.addi v1949 v1950
  let v2078 : Index := Scalar.indexCast v1951
  let c0_1571 : Index := 0#32
  let c320_1572 : Index := 320#32
  ![v2078.toNat, 0, 320]
def k0_off60 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1517 : BitVec 32 := 2#32
  let v1949 : BitVec 32 := Scalar.muli v2 c2_i32_1517
  let c1_i32_1518 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1950 : BitVec 32 := Scalar.subi c1_i32_1518 v5
  let v1951 : BitVec 32 := Scalar.addi v1949 v1950
  let v2094 : Index := Scalar.indexCast v1951
  let c0_1575 : Index := 0#32
  let c384_1576 : Index := 384#32
  ![v2094.toNat, 0, 384]
def k0_off61 (d0 : Dev nD) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1517 : BitVec 32 := 2#32
  let v1949 : BitVec 32 := Scalar.muli v2 c2_i32_1517
  let c1_i32_1518 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1950 : BitVec 32 := Scalar.subi c1_i32_1518 v5
  let v1951 : BitVec 32 := Scalar.addi v1949 v1950
  let v2110 : Index := Scalar.indexCast v1951
  let c0_1579 : Index := 0#32
  let c448_1580 : Index := 448#32
  ![v2110.toNat, 0, 448]
def k0_mult1 (d0 : Dev nD) : BitVec 32 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_1539 : BitVec 32 := 512#32
  let v1972 : BitVec 32 := Scalar.muli v2 c512_i32_1539
  v1972
def k0_off62 (d0 : Dev nD) : Fin 2 → Nat :=
  let c0_1581 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_1539 : BitVec 32 := 512#32
  let v1972 : BitVec 32 := Scalar.muli v2 c512_i32_1539
  let v2123 : BitVec 32 := v1972
  let v2125 : Index := Scalar.indexCast v2123
  ![0, v2125.toNat]
def k0_off63 (d0 : Dev nD) : Fin 2 → Nat :=
  let c0_i32_1582 : BitVec 32 := 0#32
  let c1_i32_7 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v13 : BitVec 32 := Scalar.subi c1_i32_7 v2
  let c2_i32_8 : BitVec 32 := 2#32
  let v14 : BitVec 32 := Scalar.muli v13 c2_i32_8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v15 : BitVec 32 := Scalar.addi v14 v5
  ![0, v15.toNat]
def k0_off64 (d0 : Dev nD) : Fin 3 → Nat :=
  let c1_i32_7 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v13 : BitVec 32 := Scalar.subi c1_i32_7 v2
  let c2_i32_8 : BitVec 32 := 2#32
  let v14 : BitVec 32 := Scalar.muli v13 c2_i32_8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v15 : BitVec 32 := Scalar.addi v14 v5
  let c0_i32_1588 : BitVec 32 := 0#32
  let c0_i32_1589 : BitVec 32 := 0#32
  ![v15.toNat, 0, 0]
def k0_off65 (d0 : Dev nD) : Fin 2 → Nat :=
  let c0_i32_1592 : BitVec 32 := 0#32
  let c1_i32_11 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v18 : BitVec 32 := Scalar.subi c1_i32_11 v2
  let c2_i32_12 : BitVec 32 := 2#32
  let v19 : BitVec 32 := Scalar.muli v18 c2_i32_12
  let c1_i32_13 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v20 : BitVec 32 := Scalar.subi c1_i32_13 v5
  let v21 : BitVec 32 := Scalar.addi v19 v20
  ![0, v21.toNat]
def k0_off66 (d0 : Dev nD) : Fin 3 → Nat :=
  let c1_i32_11 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v18 : BitVec 32 := Scalar.subi c1_i32_11 v2
  let c2_i32_12 : BitVec 32 := 2#32
  let v19 : BitVec 32 := Scalar.muli v18 c2_i32_12
  let c1_i32_13 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v20 : BitVec 32 := Scalar.subi c1_i32_13 v5
  let v21 : BitVec 32 := Scalar.addi v19 v20
  let c0_i32_1598 : BitVec 32 := 0#32
  let c0_i32_1599 : BitVec 32 := 0#32
  ![v21.toNat, 0, 0]
def k0_off67 (d0 : Dev nD) : Fin 2 → Nat :=
  let c1_i32_1602 : BitVec 32 := 1#32
  let c1_i32_7 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v13 : BitVec 32 := Scalar.subi c1_i32_7 v2
  let c2_i32_8 : BitVec 32 := 2#32
  let v14 : BitVec 32 := Scalar.muli v13 c2_i32_8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v15 : BitVec 32 := Scalar.addi v14 v5
  ![1, v15.toNat]
def k0_off68 (d0 : Dev nD) : Fin 3 → Nat :=
  let c1_i32_7 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v13 : BitVec 32 := Scalar.subi c1_i32_7 v2
  let c2_i32_8 : BitVec 32 := 2#32
  let v14 : BitVec 32 := Scalar.muli v13 c2_i32_8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v15 : BitVec 32 := Scalar.addi v14 v5
  let c0_i32_1608 : BitVec 32 := 0#32
  let c256_i32_1609 : BitVec 32 := 256#32
  ![v15.toNat, 0, 256]
def k0_off69 (d0 : Dev nD) : Fin 2 → Nat :=
  let c1_i32_1612 : BitVec 32 := 1#32
  let c1_i32_11 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v18 : BitVec 32 := Scalar.subi c1_i32_11 v2
  let c2_i32_12 : BitVec 32 := 2#32
  let v19 : BitVec 32 := Scalar.muli v18 c2_i32_12
  let c1_i32_13 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v20 : BitVec 32 := Scalar.subi c1_i32_13 v5
  let v21 : BitVec 32 := Scalar.addi v19 v20
  ![1, v21.toNat]
def k0_off70 (d0 : Dev nD) : Fin 3 → Nat :=
  let c1_i32_11 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v18 : BitVec 32 := Scalar.subi c1_i32_11 v2
  let c2_i32_12 : BitVec 32 := 2#32
  let v19 : BitVec 32 := Scalar.muli v18 c2_i32_12
  let c1_i32_13 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v20 : BitVec 32 := Scalar.subi c1_i32_13 v5
  let v21 : BitVec 32 := Scalar.addi v19 v20
  let c0_i32_1618 : BitVec 32 := 0#32
  let c256_i32_1619 : BitVec 32 := 256#32
  ![v21.toNat, 0, 256]
def k0_off71 (d0 : Dev nD) : Fin 3 → Nat :=
  let c1_i32_1622 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2167 : BitVec 32 := Scalar.subi c1_i32_1622 v2
  let c2_i32_1623 : BitVec 32 := 2#32
  let v2168 : BitVec 32 := Scalar.muli v2167 c2_i32_1623
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2169 : BitVec 32 := Scalar.addi v2168 v5
  let v2176 : Index := Scalar.indexCast v2169
  let c0_1629 : Index := 0#32
  let c512_1630 : Index := 512#32
  ![v2176.toNat, 0, 512]
def k0_off72 (d0 : Dev nD) : Fin 3 → Nat :=
  let c1_i32_1622 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2167 : BitVec 32 := Scalar.subi c1_i32_1622 v2
  let c2_i32_1623 : BitVec 32 := 2#32
  let v2168 : BitVec 32 := Scalar.muli v2167 c2_i32_1623
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2169 : BitVec 32 := Scalar.addi v2168 v5
  let v2179 : Index := Scalar.indexCast v2169
  let c0_1631 : Index := 0#32
  let c520_1632 : Index := 520#32
  ![v2179.toNat, 0, 520]
def k0_off73 (d0 : Dev nD) : Fin 3 → Nat :=
  let c1_i32_1624 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2170 : BitVec 32 := Scalar.subi c1_i32_1624 v2
  let c2_i32_1625 : BitVec 32 := 2#32
  let v2171 : BitVec 32 := Scalar.muli v2170 c2_i32_1625
  let c1_i32_1626 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2172 : BitVec 32 := Scalar.subi c1_i32_1626 v5
  let v2173 : BitVec 32 := Scalar.addi v2171 v2172
  let v2182 : Index := Scalar.indexCast v2173
  let c0_1633 : Index := 0#32
  let c512_1634 : Index := 512#32
  ![v2182.toNat, 0, 512]
def k0_off74 (d0 : Dev nD) : Fin 3 → Nat :=
  let c1_i32_1624 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2170 : BitVec 32 := Scalar.subi c1_i32_1624 v2
  let c2_i32_1625 : BitVec 32 := 2#32
  let v2171 : BitVec 32 := Scalar.muli v2170 c2_i32_1625
  let c1_i32_1626 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2172 : BitVec 32 := Scalar.subi c1_i32_1626 v5
  let v2173 : BitVec 32 := Scalar.addi v2171 v2172
  let v2185 : Index := Scalar.indexCast v2173
  let c0_1635 : Index := 0#32
  let c520_1636 : Index := 520#32
  ![v2185.toNat, 0, 520]
def k0_off75 (d0 : Dev nD) : Fin 3 → Nat :=
  let c1_i32_1622 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2167 : BitVec 32 := Scalar.subi c1_i32_1622 v2
  let c2_i32_1623 : BitVec 32 := 2#32
  let v2168 : BitVec 32 := Scalar.muli v2167 c2_i32_1623
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2169 : BitVec 32 := Scalar.addi v2168 v5
  let v2198 : Index := Scalar.indexCast v2169
  let c0_1638 : Index := 0#32
  let c0_1639 : Index := 0#32
  ![v2198.toNat, 0, 0]
def k0_off76 (d0 : Dev nD) : Fin 3 → Nat :=
  let c1_i32_1624 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2170 : BitVec 32 := Scalar.subi c1_i32_1624 v2
  let c2_i32_1625 : BitVec 32 := 2#32
  let v2171 : BitVec 32 := Scalar.muli v2170 c2_i32_1625
  let c1_i32_1626 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2172 : BitVec 32 := Scalar.subi c1_i32_1626 v5
  let v2173 : BitVec 32 := Scalar.addi v2171 v2172
  let v2201 : Index := Scalar.indexCast v2173
  let c0_1640 : Index := 0#32
  let c0_1641 : Index := 0#32
  ![v2201.toNat, 0, 0]
def k0_off77 (d0 : Dev nD) : Fin 3 → Nat :=
  let c1_i32_1622 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2167 : BitVec 32 := Scalar.subi c1_i32_1622 v2
  let c2_i32_1623 : BitVec 32 := 2#32
  let v2168 : BitVec 32 := Scalar.muli v2167 c2_i32_1623
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2169 : BitVec 32 := Scalar.addi v2168 v5
  let v2214 : Index := Scalar.indexCast v2169
  let c0_1642 : Index := 0#32
  let c64_1643 : Index := 64#32
  ![v2214.toNat, 0, 64]
def k0_off78 (d0 : Dev nD) : Fin 3 → Nat :=
  let c1_i32_1624 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2170 : BitVec 32 := Scalar.subi c1_i32_1624 v2
  let c2_i32_1625 : BitVec 32 := 2#32
  let v2171 : BitVec 32 := Scalar.muli v2170 c2_i32_1625
  let c1_i32_1626 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2172 : BitVec 32 := Scalar.subi c1_i32_1626 v5
  let v2173 : BitVec 32 := Scalar.addi v2171 v2172
  let v2217 : Index := Scalar.indexCast v2173
  let c0_1644 : Index := 0#32
  let c64_1645 : Index := 64#32
  ![v2217.toNat, 0, 64]
def k0_off79 (d0 : Dev nD) : Fin 3 → Nat :=
  let c1_i32_1622 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2167 : BitVec 32 := Scalar.subi c1_i32_1622 v2
  let c2_i32_1623 : BitVec 32 := 2#32
  let v2168 : BitVec 32 := Scalar.muli v2167 c2_i32_1623
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2169 : BitVec 32 := Scalar.addi v2168 v5
  let v2230 : Index := Scalar.indexCast v2169
  let c0_1646 : Index := 0#32
  let c128_1647 : Index := 128#32
  ![v2230.toNat, 0, 128]
def k0_off80 (d0 : Dev nD) : Fin 3 → Nat :=
  let c1_i32_1624 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2170 : BitVec 32 := Scalar.subi c1_i32_1624 v2
  let c2_i32_1625 : BitVec 32 := 2#32
  let v2171 : BitVec 32 := Scalar.muli v2170 c2_i32_1625
  let c1_i32_1626 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2172 : BitVec 32 := Scalar.subi c1_i32_1626 v5
  let v2173 : BitVec 32 := Scalar.addi v2171 v2172
  let v2233 : Index := Scalar.indexCast v2173
  let c0_1648 : Index := 0#32
  let c128_1649 : Index := 128#32
  ![v2233.toNat, 0, 128]
def k0_off81 (d0 : Dev nD) : Fin 3 → Nat :=
  let c1_i32_1622 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2167 : BitVec 32 := Scalar.subi c1_i32_1622 v2
  let c2_i32_1623 : BitVec 32 := 2#32
  let v2168 : BitVec 32 := Scalar.muli v2167 c2_i32_1623
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2169 : BitVec 32 := Scalar.addi v2168 v5
  let v2246 : Index := Scalar.indexCast v2169
  let c0_1650 : Index := 0#32
  let c192_1651 : Index := 192#32
  ![v2246.toNat, 0, 192]
def k0_off82 (d0 : Dev nD) : Fin 3 → Nat :=
  let c1_i32_1624 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2170 : BitVec 32 := Scalar.subi c1_i32_1624 v2
  let c2_i32_1625 : BitVec 32 := 2#32
  let v2171 : BitVec 32 := Scalar.muli v2170 c2_i32_1625
  let c1_i32_1626 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2172 : BitVec 32 := Scalar.subi c1_i32_1626 v5
  let v2173 : BitVec 32 := Scalar.addi v2171 v2172
  let v2249 : Index := Scalar.indexCast v2173
  let c0_1652 : Index := 0#32
  let c192_1653 : Index := 192#32
  ![v2249.toNat, 0, 192]
def k0_off83 (d0 : Dev nD) : Fin 3 → Nat :=
  let c1_i32_1622 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2167 : BitVec 32 := Scalar.subi c1_i32_1622 v2
  let c2_i32_1623 : BitVec 32 := 2#32
  let v2168 : BitVec 32 := Scalar.muli v2167 c2_i32_1623
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2169 : BitVec 32 := Scalar.addi v2168 v5
  let v2262 : Index := Scalar.indexCast v2169
  let c0_1654 : Index := 0#32
  let c256_1655 : Index := 256#32
  ![v2262.toNat, 0, 256]
def k0_off84 (d0 : Dev nD) : Fin 3 → Nat :=
  let c1_i32_1624 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2170 : BitVec 32 := Scalar.subi c1_i32_1624 v2
  let c2_i32_1625 : BitVec 32 := 2#32
  let v2171 : BitVec 32 := Scalar.muli v2170 c2_i32_1625
  let c1_i32_1626 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2172 : BitVec 32 := Scalar.subi c1_i32_1626 v5
  let v2173 : BitVec 32 := Scalar.addi v2171 v2172
  let v2265 : Index := Scalar.indexCast v2173
  let c0_1656 : Index := 0#32
  let c256_1657 : Index := 256#32
  ![v2265.toNat, 0, 256]
def k0_off85 (d0 : Dev nD) : Fin 3 → Nat :=
  let c1_i32_1622 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2167 : BitVec 32 := Scalar.subi c1_i32_1622 v2
  let c2_i32_1623 : BitVec 32 := 2#32
  let v2168 : BitVec 32 := Scalar.muli v2167 c2_i32_1623
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2169 : BitVec 32 := Scalar.addi v2168 v5
  let v2278 : Index := Scalar.indexCast v2169
  let c0_1658 : Index := 0#32
  let c320_1659 : Index := 320#32
  ![v2278.toNat, 0, 320]
def k0_off86 (d0 : Dev nD) : Fin 3 → Nat :=
  let c1_i32_1624 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2170 : BitVec 32 := Scalar.subi c1_i32_1624 v2
  let c2_i32_1625 : BitVec 32 := 2#32
  let v2171 : BitVec 32 := Scalar.muli v2170 c2_i32_1625
  let c1_i32_1626 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2172 : BitVec 32 := Scalar.subi c1_i32_1626 v5
  let v2173 : BitVec 32 := Scalar.addi v2171 v2172
  let v2281 : Index := Scalar.indexCast v2173
  let c0_1660 : Index := 0#32
  let c320_1661 : Index := 320#32
  ![v2281.toNat, 0, 320]
def k0_off87 (d0 : Dev nD) : Fin 3 → Nat :=
  let c1_i32_1622 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2167 : BitVec 32 := Scalar.subi c1_i32_1622 v2
  let c2_i32_1623 : BitVec 32 := 2#32
  let v2168 : BitVec 32 := Scalar.muli v2167 c2_i32_1623
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2169 : BitVec 32 := Scalar.addi v2168 v5
  let v2294 : Index := Scalar.indexCast v2169
  let c0_1662 : Index := 0#32
  let c384_1663 : Index := 384#32
  ![v2294.toNat, 0, 384]
def k0_off88 (d0 : Dev nD) : Fin 3 → Nat :=
  let c1_i32_1624 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2170 : BitVec 32 := Scalar.subi c1_i32_1624 v2
  let c2_i32_1625 : BitVec 32 := 2#32
  let v2171 : BitVec 32 := Scalar.muli v2170 c2_i32_1625
  let c1_i32_1626 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2172 : BitVec 32 := Scalar.subi c1_i32_1626 v5
  let v2173 : BitVec 32 := Scalar.addi v2171 v2172
  let v2297 : Index := Scalar.indexCast v2173
  let c0_1664 : Index := 0#32
  let c384_1665 : Index := 384#32
  ![v2297.toNat, 0, 384]
def k0_off89 (d0 : Dev nD) : Fin 3 → Nat :=
  let c1_i32_1622 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2167 : BitVec 32 := Scalar.subi c1_i32_1622 v2
  let c2_i32_1623 : BitVec 32 := 2#32
  let v2168 : BitVec 32 := Scalar.muli v2167 c2_i32_1623
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2169 : BitVec 32 := Scalar.addi v2168 v5
  let v2310 : Index := Scalar.indexCast v2169
  let c0_1666 : Index := 0#32
  let c448_1667 : Index := 448#32
  ![v2310.toNat, 0, 448]
def k0_off90 (d0 : Dev nD) : Fin 3 → Nat :=
  let c1_i32_1624 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2170 : BitVec 32 := Scalar.subi c1_i32_1624 v2
  let c2_i32_1625 : BitVec 32 := 2#32
  let v2171 : BitVec 32 := Scalar.muli v2170 c2_i32_1625
  let c1_i32_1626 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2172 : BitVec 32 := Scalar.subi c1_i32_1626 v5
  let v2173 : BitVec 32 := Scalar.addi v2171 v2172
  let v2313 : Index := Scalar.indexCast v2173
  let c0_1668 : Index := 0#32
  let c448_1669 : Index := 448#32
  ![v2313.toNat, 0, 448]
def k0_mult2 (d0 : Dev nD) : BitVec 32 :=
  let c1_i32_1627 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2174 : BitVec 32 := Scalar.subi c1_i32_1627 v2
  let c512_i32_1628 : BitVec 32 := 512#32
  let v2175 : BitVec 32 := Scalar.muli v2174 c512_i32_1628
  v2175
def k0_off91 (d0 : Dev nD) : Fin 2 → Nat :=
  let c0_1670 : Index := 0#32
  let c1_i32_1627 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2174 : BitVec 32 := Scalar.subi c1_i32_1627 v2
  let c512_i32_1628 : BitVec 32 := 512#32
  let v2175 : BitVec 32 := Scalar.muli v2174 c512_i32_1628
  let v2326 : BitVec 32 := v2175
  let v2328 : Index := Scalar.indexCast v2326
  ![0, v2328.toNat]
abbrev stage0_0 : Fin 1 → Memref sig .tc .vmem S16x1x16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S16x1x16x64 : Shape := ⟨4, ![16, 1, 16, 64]⟩
abbrev S256x16x16x64 : Shape := ⟨4, ![256, 16, 16, 64]⟩
abbrev S16x128 : Shape := ⟨2, ![16, 128]⟩
abbrev S16 : Shape := ⟨1, ![16]⟩
abbrev S_ : Shape := ⟨0, ![]⟩
abbrev S16x128x1 : Shape := ⟨3, ![16, 128, 1]⟩
abbrev S16x128x16x16x64 : Shape := ⟨5, ![16, 128, 16, 16, 64]⟩
abbrev S16x2048x16x64 : Shape := ⟨4, ![16, 2048, 16, 64]⟩
abbrev S16x16x1x2048 : Shape := ⟨4, ![16, 16, 1, 2048]⟩
abbrev S128 : Shape := ⟨1, ![128]⟩
abbrev S1x128 : Shape := ⟨2, ![1, 128]⟩
abbrev S16x1 : Shape := ⟨2, ![16, 1]⟩
abbrev S16x128x16 : Shape := ⟨3, ![16, 128, 16]⟩
abbrev S16x2048 : Shape := ⟨2, ![16, 2048]⟩
abbrev S16x1x1x2048 : Shape := ⟨4, ![16, 1, 1, 2048]⟩
abbrev S16x16x1 : Shape := ⟨3, ![16, 16, 1]⟩
abbrev S16x16x1x1 : Shape := ⟨4, ![16, 16, 1, 1]⟩
abbrev S16x16x64x1 : Shape := ⟨4, ![16, 16, 64, 1]⟩

abbrev nBuf : Space → Nat
  | .hbm => 56
  | .vmem => 0
  | .smem => 0
  | _ => 0

abbrev bufTy : (tb : Table) → Fin (tcTables nBuf tb) → BufTy
  | .hbm, ⟨0, _⟩ => ⟨S16x1x16x64, .f32⟩
  | .hbm, ⟨1, _⟩ => ⟨S256x16x16x64, .f32⟩
  | .hbm, ⟨2, _⟩ => ⟨S256x16x16x64, .f32⟩
  | .hbm, ⟨3, _⟩ => ⟨S16x128, .i32⟩
  | .hbm, ⟨4, _⟩ => ⟨S16, .i32⟩
  | .hbm, ⟨5, _⟩ => ⟨S_, .i32⟩
  | .hbm, ⟨6, _⟩ => ⟨S16x128, .i32⟩
  | .hbm, ⟨7, _⟩ => ⟨S16x128, .i1⟩
  | .hbm, ⟨8, _⟩ => ⟨S_, .i32⟩
  | .hbm, ⟨9, _⟩ => ⟨S16x128, .i32⟩
  | .hbm, ⟨10, _⟩ => ⟨S16x128, .i32⟩
  | .hbm, ⟨11, _⟩ => ⟨S16x128, .i32⟩
  | .hbm, ⟨12, _⟩ => ⟨S16x128x1, .i32⟩
  | .hbm, ⟨13, _⟩ => ⟨S16x128x16x16x64, .f32⟩
  | .hbm, ⟨14, _⟩ => ⟨S16x2048x16x64, .f32⟩
  | .hbm, ⟨15, _⟩ => ⟨S_, .i32⟩
  | .hbm, ⟨16, _⟩ => ⟨S16x128, .i32⟩
  | .hbm, ⟨17, _⟩ => ⟨S16x128, .i1⟩
  | .hbm, ⟨18, _⟩ => ⟨S_, .i32⟩
  | .hbm, ⟨19, _⟩ => ⟨S16x128, .i32⟩
  | .hbm, ⟨20, _⟩ => ⟨S16x128, .i32⟩
  | .hbm, ⟨21, _⟩ => ⟨S16x128, .i32⟩
  | .hbm, ⟨22, _⟩ => ⟨S16x128x1, .i32⟩
  | .hbm, ⟨23, _⟩ => ⟨S16x128x16x16x64, .f32⟩
  | .hbm, ⟨24, _⟩ => ⟨S16x2048x16x64, .f32⟩
  | .hbm, ⟨25, _⟩ => ⟨S16x16x1x2048, .f32⟩
  | .hbm, ⟨26, _⟩ => ⟨S_, .f32⟩
  | .hbm, ⟨27, _⟩ => ⟨S16x16x1x2048, .f32⟩
  | .hbm, ⟨28, _⟩ => ⟨S16x16x1x2048, .f32⟩
  | .hbm, ⟨29, _⟩ => ⟨S128, .i32⟩
  | .hbm, ⟨30, _⟩ => ⟨S1x128, .i32⟩
  | .hbm, ⟨31, _⟩ => ⟨S16x1, .i32⟩
  | .hbm, ⟨32, _⟩ => ⟨S16x128, .i32⟩
  | .hbm, ⟨33, _⟩ => ⟨S16x128, .i32⟩
  | .hbm, ⟨34, _⟩ => ⟨S16x128, .i1⟩
  | .hbm, ⟨35, _⟩ => ⟨S16x128x16, .i1⟩
  | .hbm, ⟨36, _⟩ => ⟨S16x2048, .i1⟩
  | .hbm, ⟨37, _⟩ => ⟨S16x1x1x2048, .i1⟩
  | .hbm, ⟨38, _⟩ => ⟨S_, .f32⟩
  | .hbm, ⟨39, _⟩ => ⟨S_, .f32⟩
  | .hbm, ⟨40, _⟩ => ⟨S16x16x1x2048, .i1⟩
  | .hbm, ⟨41, _⟩ => ⟨S16x16x1x2048, .f32⟩
  | .hbm, ⟨42, _⟩ => ⟨S16x16x1x2048, .f32⟩
  | .hbm, ⟨43, _⟩ => ⟨S_, .f32⟩
  | .hbm, ⟨44, _⟩ => ⟨S16x16x1, .f32⟩
  | .hbm, ⟨45, _⟩ => ⟨S16x16x1x1, .f32⟩
  | .hbm, ⟨46, _⟩ => ⟨S16x16x1x2048, .f32⟩
  | .hbm, ⟨47, _⟩ => ⟨S16x16x1x2048, .f32⟩
  | .hbm, ⟨48, _⟩ => ⟨S16x16x1x2048, .f32⟩
  | .hbm, ⟨49, _⟩ => ⟨S_, .f32⟩
  | .hbm, ⟨50, _⟩ => ⟨S16x16x1, .f32⟩
  | .hbm, ⟨51, _⟩ => ⟨S16x16x1x1, .f32⟩
  | .hbm, ⟨52, _⟩ => ⟨S16x16x1x2048, .f32⟩
  | .hbm, ⟨53, _⟩ => ⟨S16x16x1x2048, .f32⟩
  | .hbm, ⟨54, _⟩ => ⟨S16x16x64x1, .f32⟩
  | .hbm, ⟨55, _⟩ => ⟨S16x1x16x64, .f32⟩
  | _, _ => ⟨S16x1x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Proof.Proto.lean ====
/-
# The protocol of the exchange kernel: its cells, what each carries, and the values it moves

The kernel runs on a 2 × 2 mesh; device `c` is `(x, y)` with `c = 2x + y`. Each device holds the 128 pages of its `y` and
works the eight heads of its `x`; it leaves the unnormalised output, the row maximum and the weight of those heads in slot `c`
of a communication buffer and sends that slot to its three peers in two chunks (lanes 0–255 and 256–639). This module names
those values as functions of what the devices were given, and the schedule of the semaphore cells: the barrier cell, three
send cells per chunk and one receive cell per chunk and sender.
-/
module

public import proofs.«01_k».proof.Proof.Gen.KernelIdeal.Skeleton
public import proofs.«01_k».proof.Proof.Gen.KernelIdeal.Frame
public import Idealize.ShloMosaic.Lib.Pipeline.Launch
public import Idealize.ShloMosaic.Lib.Pipeline.Kit
public import Idealize.ShloMosaic.Lib.Pipeline.BigSepL
public import Idealize.ShloMosaic.Lib.Rounds
public import Idealize.ShloMosaic.Lib.Ring.Trips
public import Idealize.ShloMosaic.Lib.Tactic
public import Idealize.ShloMosaic.Lib.ValueIdxCore

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The protocol's ghost state (a duty is the device that pays it), beside the pipeline's and the local copies' counters. -/
abbrev UB : Type := URounds (GSem nD τ sig) (Dev nD)
abbrev UU : Type := UR sig nD τ × (UB × Counters)
local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER (F := F)).LandsIn (upEmb : UEmb _ 𝕄) := by unfold ER; infer_instance

/-! ## The three peers of a device -/

/-- Peer 0 differs in `y`, peer 1 in `x`, peer 2 in both. -/
def peer (i : Fin 3) (c : Dev nD) : Dev nD := (![![1, 0, 3, 2], ![2, 3, 0, 1], ![3, 2, 1, 0]] : Fin 3 → Fin 4 → Fin 4) i c

theorem peer_peer (i : Fin 3) (c : Dev nD) : peer i (peer i c) = c := by revert i c; decide
theorem peer_ne (i : Fin 3) (c : Dev nD) : peer i c ≠ c := by revert i c; decide
theorem ne_peer (i : Fin 3) (c : Dev nD) : c ≠ peer i c := by revert i c; decide
def swap (i : Fin 3) : Dev nD ≃ Dev nD := ⟨peer i, peer i, peer_peer i, peer_peer i⟩

theorem univ_peers (c : Dev nD) : (Finset.univ : Finset (Dev nD)) = {c, peer 0 c, peer 1 c, peer 2 c} := by revert c; decide
theorem erase_peers (c : Dev nD) : (Finset.univ : Finset (Dev nD)).erase c = {peer 0 c, peer 1 c, peer 2 c} := by revert c; decide

/-! ## The values, as functions of what the devices were given -/

/-- What every device's kernel reads: the queries, the masked block table, the keys and the values laid out for it. -/
structure Ins (F : FTy → Type) where
  q : Dev nD → (cc0_stg0_0 : Ref sig .tc).ty.Contents (Elt F)
  bt : Dev nD → (cc0_stg1_0 : Ref sig .tc).ty.Contents (Elt F)
  kt : Dev nD → (main_v1 : Ref sig .tc).ty.Contents (Elt F)
  vt : Dev nD → (main_v2 : Ref sig .tc).ty.Contents (Elt F)

/-- A device's `y` as the kernel computes it, and the page numbers it owns. -/
def yWord (p : Dev nD) : BitVec 32 := Scalar.remsi (Scalar.divsi (Dev.word p) 1#32) 2#32
def ids (p : Dev nD) : IVec S16x128 32 := k0_pay1 (yWord p)

theorem inb_col (j : Fin 128) : ∀ a, (![0, j.val] : Fin 2 → Nat) a + S16x1.size a ≤ S16x128.size a := by
  intro a; have := j.isLt; fin_cases a
  · exact Nat.le_refl 16
  · show j.val + 1 ≤ 128; omega
/-- Column `j` of a block table. -/
def col (bt : (cc0_stg1_0 : Ref sig .tc).ty.Contents (Elt F)) (j : Fin 128) : Vec F S16x1 .i32 :=
  (Memref.whole cc0_stg1_0).view.readAt (Elt F) (Rect.unit (s := S16x128) ![0, j.val] S16x1.size (inb_col j)).toLoadRect bt

/-- One comparison of a column against the page numbers, added to a count. -/
def accStep (pg : IVec S16x128 32) (a : FVec F S16x128 .f32) (v : Vec F S16x1 .i32) : FVec F S16x128 .f32 :=
  addf a (sitofp .f32 (extui 32 (cmpi .eq (broadcastTo S16x128 (shapeCast S16x1 v shapeCasts_S16x1_S16x1 : IVec S16x1 32) broadcasts_S16x1_S16x128) pg) natLt_1_32))
/-- The count over the columns `a`, `a + 4`, …, `n` of them. -/
def acc (pg : IVec S16x128 32) (v : Fin 128 → Vec F S16x1 .i32) (a : ℕ) : ℕ → FVec F S16x128 .f32
  | 0 => k0_pay2
  | n + 1 => accStep pg (acc pg v a n) (v (Fin.ofNat 128 (4 * n + a)))
/-- How often each page of the device occurs in each row of the block table, once per key slot of a page. -/
def cKeyOf (pg : IVec S16x128 32) (v : Fin 128 → Vec F S16x1 .i32) : FVec F S16x2048 .f32 :=
  k0_pay94 pg (acc pg v 2 31) (acc pg v 3 31) (acc pg v 0 32) (acc pg v 1 32) (shapeCast S16x1 (v 126) shapeCasts_S16x1_S16x1) (v 127)
def cKey (I : Ins F) (p : Dev nD) : FVec F S16x2048 .f32 := cKeyOf (ids p) (col (I.bt p))

/-- The scaled queries of the device's eight heads. -/
def qHalf (I : Ins F) (p : Dev nD) : FVec F S16x8x64 .f32 :=
  k0_pay95 ((Memref.whole cc0_stg0_0).view.readAt (Elt F) (Rect.unit (s := S16x1x16x64) (k0_off17 p) S16x1x8x64.size (k0_off17_inb p)).toLoadRect (I.q p))
theorem slices_head (i : Fin 8) : S16x8x64.Slices ![0, i.val, 0] S16x1x64 := by revert i; decide
def qRow (qh : FVec F S16x8x64 .f32) (i : Fin 8) : FVec F S16x64 .f32 :=
  shapeCast S16x64 (extractStridedSlice S16x1x64 ![0, i.val, 0] qh (slices_head i)) shapeCasts_S16x1x64_S16x64

/-- What the 32 copies of one operand leave in its scratch buffer: head `8x + i`, feature `d`, key `128 t + n`. -/
def gath (p : Dev nD) (f : S16x16x64x128.Idx → Elt F .f32) : S8x64x2048.Idx → Elt F .f32 := fun j =>
  f (ValueIdx.ix4 (n0 := 16) (n1 := 16) (n2 := 64) (n3 := 128)
    ⟨(j 2).val / 128, by have : (j 2).val < 2048 := (j 2).isLt; omega⟩
    ⟨8 * (p.val / 2) + (j 0).val, by have : (j 0).val < 8 := (j 0).isLt; have : p.val < 4 := p.isLt; omega⟩ (j 1)
    ⟨(j 2).val % 128, Nat.mod_lt _ (by decide)⟩)
def row (f : S8x64x2048.Idx → Elt F .f32) (i : Fin 8) : Vec F S1x64x2048 .f32 := fun j =>
  f (ValueIdx.ix3 (n0 := 8) (n1 := 64) (n2 := 2048) i (j 1) (j 2))
def kRow (I : Ins F) (p : Dev nD) (i : Fin 8) : Vec F S1x64x2048 .f32 := row (gath p (I.kt p)) i
def vRow (I : Ins F) (p : Dev nD) (i : Fin 8) : Vec F S1x64x2048 .f32 := row (gath p (I.vt p)) i

/-- Head `i` of device `p`: its unnormalised output, its row maximum, its weight. -/
def hO (I : Ins F) (p : Dev nD) (i : Fin 8) : FVec F S1x16x64 .f32 := k0_pay100 (cKey I p) (qRow (qHalf I p) i) (kRow I p i) (vRow I p i)
def hM (I : Ins F) (p : Dev nD) (i : Fin 8) : FVec F S1x16x1 .f32 := k0_pay101 (qRow (qHalf I p) i) (kRow I p i)
def hL (I : Ins F) (p : Dev nD) (i : Fin 8) : FVec F S1x16x1 .f32 := k0_pay102 (cKey I p) (qRow (qHalf I p) i) (kRow I p i)

/-- What device `p` leaves at lane `l`, row `b` of its slot: eight outputs of 64 lanes, eight maxima, eight weights. -/
def slotV (I : Ins F) (p : Dev nD) (b : Fin 16) (l : ℕ) (junk : Elt F .f32) : Elt F .f32 :=
  if h : l < 512 then hO I p ⟨l / 64, by omega⟩ (ValueIdx.ix3 (n0 := 1) (n1 := 16) (n2 := 64) 0 b ⟨l % 64, Nat.mod_lt _ (by decide)⟩)
  else if h : l < 520 then hM I p ⟨l - 512, by omega⟩ (ValueIdx.ix3 (n0 := 1) (n1 := 16) (n2 := 1) 0 b 0)
  else if h : l < 528 then hL I p ⟨l - 520, by omega⟩ (ValueIdx.ix3 (n0 := 1) (n1 := 16) (n2 := 1) 0 b 0)
  else junk
/-- The communication buffer with slot `p` as device `p` left it, anything elsewhere. -/
def commV (I : Ins F) (p : Dev nD) (f : S4x16x640.Idx → Elt F .f32) : S4x16x640.Idx → Elt F .f32 := fun j =>
  if (j 0).val = p.val then slotV I p (j 1) (j 2).val (f j) else f j

/-- The maxima and the weights of device `p`'s eight heads side by side. -/
def mRow (I : Ins F) (p : Dev nD) : Vec F S1x16x8 .f32 := fun j => hM I p (j 2) (ValueIdx.ix3 (n0 := 1) (n1 := 16) (n2 := 1) 0 (j 1) 0)
def lRow (I : Ins F) (p : Dev nD) : Vec F S1x16x8 .f32 := fun j => hL I p (j 2) (ValueIdx.ix3 (n0 := 1) (n1 := 16) (n2 := 1) 0 (j 1) 0)

/-- One head of the combination of two devices' halves. -/
theorem slices_lane (i : Fin 8) : S16x8.Slices ![0, i.val] S16x1 := by revert i; decide
def comb1 (a b w : FVec F S16x8 .f32) (oa ob : Vec F S1x16x64 .f32) (i : Fin 8) : FVec F S16x64 .f32 :=
  mulf (addf (mulf (shapeCast S16x64 oa shapeCasts_S1x16x64_S16x64) (broadcastTo S16x64 (extractStridedSlice S16x1 ![0, i.val] a (slices_lane i)) broadcasts_S16x1_S16x64))
    (mulf (shapeCast S16x64 ob shapeCasts_S1x16x64_S16x64) (broadcastTo S16x64 (extractStridedSlice S16x1 ![0, i.val] b (slices_lane i)) broadcasts_S16x1_S16x64)))
    (broadcastTo S16x64 (extractStridedSlice S16x1 ![0, i.val] w (slices_lane i)) broadcasts_S16x1_S16x64)
/-- The combination of the halves of devices `p` and `p'`: the eight heads they share, normalised. -/
def combH (I : Ins F) (p p' : Dev nD) (i : Fin 8) : FVec F S16x64 .f32 :=
  comb1 (k0_pay156 (mRow I p) (mRow I p')) (k0_pay157 (mRow I p) (mRow I p')) (k0_pay158 (mRow I p) (lRow I p) (mRow I p') (lRow I p')) (hO I p i) (hO I p' i) i

/-- The result of device `c`: its own heads combined with peer 0's, the others from peers 1 and 2. -/
def outV (I : Ins F) (c : Dev nD) : S16x1024.Idx → Elt F .f32 := fun j =>
  if (j 1).val / 512 = c.val / 2 then
    combH I c (peer 0 c) ⟨(j 1).val % 512 / 64, by omega⟩ (ValueIdx.ix2 (n0 := 16) (n1 := 64) (j 0) ⟨(j 1).val % 64, Nat.mod_lt _ (by decide)⟩)
  else
    combH I (peer 1 c) (peer 2 c) ⟨(j 1).val % 512 / 64, by omega⟩ (ValueIdx.ix2 (n0 := 16) (n1 := 64) (j 0) ⟨(j 1).val % 64, Nat.mod_lt _ (by decide)⟩)

/-! ## The cells -/

abbrev barS : SemLoc sig := .reg (SemArray.scalar (sig.barrier 0 rfl) : Sems sig S_).sem
abbrev sendQ (k : Fin 2) (i : Fin 3) : DmaSem sig := ⟨67 + (3 * k.val + i.val), by have := k.isLt; have := i.isLt; show _ < 81; omega⟩
abbrev recvQ (k : Fin 2) (p : Dev nD) : DmaSem sig := ⟨73 + (4 * k.val + p.val), by have := k.isLt; have : p.val < 4 := p.isLt; show _ < 81; omega⟩
abbrev barCell (c : Dev nD) : GSem nD τ sig := ((c : Thread nD τ), barS)
abbrev sendCell (c : Dev nD) (k : Fin 2) (i : Fin 3) : GSem nD τ sig := ((c : Thread nD τ), .dma (sendQ k i))
abbrev recvCell (c : Dev nD) (k : Fin 2) (p : Dev nD) : GSem nD τ sig := ((c : Thread nD τ), .dma (recvQ k p))

/-! ## The windows of the communication buffer -/

abbrev winR0 (p : Dev nD) : Rect S4x16x640 := Rect.unit (s := S4x16x640) (k0_off31 p) S1x16x256.size (k0_off31_inb p)
abbrev winR1 (p : Dev nD) : Rect S4x16x640 := Rect.unit (s := S4x16x640) (k0_off45 p) S1x16x384.size (k0_off45_inb p)
abbrev win0 (p : Dev nD) : Memref sig .tc .vmem S16x256 .f32 := ((Memref.whole cc0_scratch3).slice (winR0 p) (fun _ => rfl)).squeeze S16x256 squeezes_S1x16x256_S16x256
abbrev win1 (p : Dev nD) : Memref sig .tc .vmem S16x384 .f32 := ((Memref.whole cc0_scratch3).slice (winR1 p) (fun _ => rfl)).squeeze S16x384 squeezes_S1x16x384_S16x384

theorem set_win0 (p : Dev nD) : (win0 p).view.set = (Memref.whole cc0_scratch3).view.setOn (winR0 p).set := by
  rw [show (win0 p).view.set = ((Memref.whole cc0_scratch3).view.slice (winR0 p)).set from View.set_reshape _ _, View.set_slice]; rfl
theorem set_win1 (p : Dev nD) : (win1 p).view.set = (Memref.whole cc0_scratch3).view.setOn (winR1 p).set := by
  rw [show (win1 p).view.set = ((Memref.whole cc0_scratch3).view.slice (winR1 p)).set from View.set_reshape _ _, View.set_slice]; rfl

/-- The credit of a copy of a window. -/
def N0 : ℕ := (win0 0).view.dmaCredit
def N1 : ℕ := (win1 0).view.dmaCredit
theorem credit0 (p : Dev nD) : (win0 p).view.dmaCredit = N0 := rfl
theorem credit1 (p : Dev nD) : (win1 p).view.dmaCredit = N1 := rfl

theorem mem_winR0 (p : Dev nD) (j : S4x16x640.Idx) : j ∈ (winR0 p).set ↔ ((j 0).val = p.val ∧ (j 2).val < 256) := by
  have hp : 2 * (p.val / 2) + p.val % 2 = p.val := by omega
  have h1 : (j 1).val < 16 := (j 1).isLt
  rw [Rect.mem_set_unit, k0_off31_eq]
  constructor
  · intro h
    have h0 := h 0; have h2 := h 2
    change 2 * (p.val / 2) + p.val % 2 ≤ (j 0).val ∧ (j 0).val < 2 * (p.val / 2) + p.val % 2 + 1 at h0
    change 0 ≤ (j 2).val ∧ (j 2).val < 0 + 256 at h2
    omega
  · rintro ⟨h0, h2⟩ a
    match a with
    | ⟨0, _⟩ => show 2 * (p.val / 2) + p.val % 2 ≤ (j 0).val ∧ (j 0).val < 2 * (p.val / 2) + p.val % 2 + 1; omega
    | ⟨1, _⟩ => show 0 ≤ (j 1).val ∧ (j 1).val < 0 + 16; omega
    | ⟨2, _⟩ => show 0 ≤ (j 2).val ∧ (j 2).val < 0 + 256; omega
theorem mem_winR1 (p : Dev nD) (j : S4x16x640.Idx) : j ∈ (winR1 p).set ↔ ((j 0).val = p.val ∧ 256 ≤ (j 2).val) := by
  have hp : 2 * (p.val / 2) + p.val % 2 = p.val := by omega
  have h1 : (j 1).val < 16 := (j 1).isLt
  have h2' : (j 2).val < 640 := (j 2).isLt
  rw [Rect.mem_set_unit, k0_off45_eq]
  constructor
  · intro h
    have h0 := h 0; have h2 := h 2
    change 2 * (p.val / 2) + p.val % 2 ≤ (j 0).val ∧ (j 0).val < 2 * (p.val / 2) + p.val % 2 + 1 at h0
    change 256 ≤ (j 2).val ∧ (j 2).val < 256 + 384 at h2
    omega
  · rintro ⟨h0, h2⟩ a
    match a with
    | ⟨0, _⟩ => show 2 * (p.val / 2) + p.val % 2 ≤ (j 0).val ∧ (j 0).val < 2 * (p.val / 2) + p.val % 2 + 1; omega
    | ⟨1, _⟩ => show 0 ≤ (j 1).val ∧ (j 1).val < 0 + 16; omega
    | ⟨2, _⟩ => show 256 ≤ (j 2).val ∧ (j 2).val < 256 + 384; omega

/-- The two windows of slot `p` of the communication buffer on device `c`, at a share. -/
abbrev winPts0 (c p : Dev nD) (q : PosShare TreeShare) (f : Buf (Elt F) ((Memref.whole cc0_scratch3).view.loc (c : Thread nD τ))) : sProp 𝕄 :=
  (Memref.whole cc0_scratch3).view.loc (c : Thread nD τ) ↦[(Memref.whole cc0_scratch3).view.setOn (winR0 p).set]{q} f
abbrev winPts1 (c p : Dev nD) (q : PosShare TreeShare) (f : Buf (Elt F) ((Memref.whole cc0_scratch3).view.loc (c : Thread nD τ))) : sProp 𝕄 :=
  (Memref.whole cc0_scratch3).view.loc (c : Thread nD τ) ↦[(Memref.whole cc0_scratch3).view.setOn (winR1 p).set]{q} f
def winPts (k : Fin 2) (c p : Dev nD) (q : PosShare TreeShare) (f : Buf (Elt F) ((Memref.whole cc0_scratch3).view.loc (c : Thread nD τ))) : sProp 𝕄 :=
  if k = 0 then winPts0 c p q f else winPts1 c p q f
omit [FloatOps F] in
theorem winPts_zero (c p : Dev nD) (q : PosShare TreeShare) (f : Buf (Elt F) ((Memref.whole cc0_scratch3).view.loc (c : Thread nD τ))) : winPts 0 c p q f = winPts0 c p q f := rfl
omit [FloatOps F] in
theorem winPts_one (c p : Dev nD) (q : PosShare TreeShare) (f : Buf (Elt F) ((Memref.whole cc0_scratch3).view.loc (c : Thread nD τ))) : winPts 1 c p q f = winPts1 c p q f := rfl
omit [FloatOps F] in
instance winPts_storable (k : Fin 2) (c p : Dev nD) (q : PosShare TreeShare) (f) : BI.Storable (upEmb : UEmb _ 𝕄) (winPts (F := F) k c p q f) := by
  unfold winPts; split <;> infer_instance

/-! ## The schedule -/

/-- The share of a window the send to peer `i` carries; the device keeps the left half for its own reads. -/
abbrev sendShare (i : Fin 3) : PosShare TreeShare := Ring.shares3 (fullShare : PosShare TreeShare).right i

/-- A device entering the barrier hands the waiter its own windows of the waiter's slot, and that its receive cells for it are open. -/
def barPay (c p : Dev nD) : sProp 𝕄 :=
  iprop((∃ f, winPts 0 p c fullShare f) ∗ (∃ f, winPts 1 p c fullShare f) ∗ reached ER (recvCell p 0 c) 0 ∗ reached ER (recvCell p 1 c) 0)
/-- A finished send gives back the share it carried. -/
def sendPay (c : Dev nD) (k : Fin 2) (i : Fin 3) : sProp 𝕄 := iprop(∃ f, winPts k c c (sendShare i) f)
/-- A landed chunk of device `p`. -/
def recvPay (I : Ins F) (c : Dev nD) (k : Fin 2) (p : Dev nD) : sProp 𝕄 := iprop(∃ f, winPts k c p fullShare (commV I p f))

/-- The chunk, the peer and the sender a copy semaphore is for. -/
def kOf (q : DmaSem sig) : Fin 2 := if q.val < 70 then 0 else if q.val < 73 then 1 else if q.val < 77 then 0 else 1
def iOf (q : DmaSem sig) : Fin 3 := ⟨(q.val - 67) % 3, Nat.mod_lt _ (by decide)⟩
def pOf (q : DmaSem sig) : Dev nD := ⟨(q.val - 73) % 4, Nat.mod_lt _ (by decide)⟩

/-- Who pays the single round of a cell. -/
def dutyOf (c : Dev nD) : SemLoc sig → Finset (Dev nD)
  | .reg _ => Finset.univ.erase c
  | .dma q => if q.val < 67 then ∅ else if q.val < 73 then {c} else if pOf q = c then ∅ else {pOf q}
def amtOf : SemLoc sig → ℕ
  | .reg _ => 1
  | .dma q => if kOf q = 0 then N0 else N1
def payOf (I : Ins F) (c d : Dev nD) : SemLoc sig → sProp 𝕄
  | .reg _ => barPay c d
  | .dma q => if q.val < 73 then sendPay c (kOf q) (iOf q) else recvPay I c (kOf q) (pOf q)

theorem N0_pos : 0 < N0 := View.dmaCredit_pos _ (by decide)
theorem N1_pos : 0 < N1 := View.dmaCredit_pos _ (by decide)

def talkRd (I : Ins F) : Rounds.Schedule (GSem nD τ sig) (Dev nD) 𝕄 where
  duties g r := if r = 0 ∧ g.1.2 = .tc then dutyOf g.1.1 g.2 else ∅
  unitless _ := False
  amount g _ _ := amtOf g.2
  payload g _ d := payOf I g.1.1 d g.2
  amount_pos g _ _ _ := by
    show 0 < amtOf g.2
    unfold amtOf
    split
    · exact Nat.one_pos
    · split
      · exact N0_pos
      · exact N1_pos

instance talkRd_payload_storable (I : Ins F) (g : GSem nD τ sig) (r : ℕ) (d : Dev nD) : BI.Storable (upEmb : UEmb _ 𝕄) ((talkRd I).payload g r d) := by
  show BI.Storable upEmb (payOf I g.1.1 d g.2)
  unfold payOf barPay sendPay recvPay
  (repeat' split) <;> infer_instance

section Sched
variable (I : Ins F) (c : Dev nD)

abbrev Nk (k : Fin 2) : ℕ := if k = 0 then N0 else N1

theorem kOf_send (k : Fin 2) (i : Fin 3) : kOf (sendQ k i) = k := by revert k i; decide
theorem iOf_send (k : Fin 2) (i : Fin 3) : iOf (sendQ k i) = i := by revert k i; decide
theorem kOf_recv (k : Fin 2) (p : Dev nD) : kOf (recvQ k p) = k := by revert k p; decide
theorem pOf_recv (k : Fin 2) (p : Dev nD) : pOf (recvQ k p) = p := by revert k p; decide
theorem dutyOf_send (k : Fin 2) (i : Fin 3) : dutyOf c (.dma (sendQ k i)) = {c} := by revert c k i; decide
theorem dutyOf_recv (k : Fin 2) (i : Fin 3) : dutyOf c (.dma (recvQ k (peer i c))) = {peer i c} := by revert c k i; decide

theorem duties_bar : (talkRd I).duties (barCell c) 0 = Finset.univ.erase c := by dsimp only [talkRd]; exact if_pos ⟨rfl, rfl⟩
theorem duties_send (k : Fin 2) (i : Fin 3) : (talkRd I).duties (sendCell c k i) 0 = {c} := by
  dsimp only [talkRd]; rw [if_pos ⟨rfl, rfl⟩]; exact dutyOf_send c k i
theorem duties_recv (k : Fin 2) (i : Fin 3) : (talkRd I).duties (recvCell c k (peer i c)) 0 = {peer i c} := by
  dsimp only [talkRd]; rw [if_pos ⟨rfl, rfl⟩]; exact dutyOf_recv c k i
theorem duties_recv' (k : Fin 2) (i : Fin 3) : (talkRd I).duties (recvCell (peer i c) k c) 0 = {c} := by
  have h := duties_recv I (peer i c) k i; rwa [peer_peer] at h
theorem duties_later (g : GSem nD τ sig) : ∀ r, 1 ≤ r → (talkRd I).duties g r = ∅ :=
  fun r hr => by dsimp only [talkRd]; exact if_neg fun h => by omega

theorem amount_bar (d : Dev nD) : (talkRd I).amount (barCell c) 0 d = 1 := rfl
theorem amount_send (k : Fin 2) (i : Fin 3) (d : Dev nD) : (talkRd I).amount (sendCell c k i) 0 d = Nk k := by
  show (if kOf (sendQ k i) = 0 then N0 else N1) = _; rw [kOf_send]
theorem amount_recv (k : Fin 2) (p d : Dev nD) : (talkRd I).amount (recvCell c k p) 0 d = Nk k := by
  show (if kOf (recvQ k p) = 0 then N0 else N1) = _; rw [kOf_recv]

theorem expect_bar : (talkRd I).expect (barCell c) 0 = 3 := by
  unfold Schedule.expect Schedule.amountOf
  rw [duties_bar, Finset.sum_congr rfl fun d _ => amount_bar I c d, Finset.sum_const, Finset.card_erase_of_mem (Finset.mem_univ _)]; rfl
theorem expect_send (k : Fin 2) (i : Fin 3) : (talkRd I).expect (sendCell c k i) 0 = Nk k := by
  unfold Schedule.expect Schedule.amountOf; rw [duties_send, Finset.sum_singleton, amount_send]
theorem expect_recv (k : Fin 2) (i : Fin 3) : (talkRd I).expect (recvCell c k (peer i c)) 0 = Nk k := by
  unfold Schedule.expect Schedule.amountOf; rw [duties_recv, Finset.sum_singleton, amount_recv]

theorem payload_bar (d : Dev nD) : (talkRd I).payload (barCell c) 0 d = barPay c d := rfl
theorem payload_send (k : Fin 2) (i : Fin 3) (d : Dev nD) : (talkRd I).payload (sendCell c k i) 0 d = sendPay c k i := by
  show (if (sendQ k i).val < 73 then sendPay c (kOf (sendQ k i)) (iOf (sendQ k i)) else _) = _
  rw [if_pos (by revert k i; decide), kOf_send, iOf_send]
theorem payload_recv (k : Fin 2) (p d : Dev nD) : (talkRd I).payload (recvCell c k p) 0 d = recvPay I c k p := by
  show (if (recvQ k p).val < 73 then _ else recvPay I c (kOf (recvQ k p)) (pOf (recvQ k p))) = _
  rw [if_neg (by revert k p; decide), kOf_recv, pOf_recv]

theorem rest_bar : bigSep ((talkRd I).duties (barCell c) 0 \ ∅) (fun u => (talkRd I).payload (barCell c) 0 u)
    = iprop(barPay c (peer 0 c) ∗ barPay c (peer 1 c) ∗ barPay c (peer 2 c)) := by
  rw [Finset.sdiff_empty, duties_bar, erase_peers, bigSep_insert (by revert c; decide), bigSep_insert (by revert c; decide), bigSep_singleton]
  rfl
theorem rest_send (k : Fin 2) (i : Fin 3) : bigSep ((talkRd I).duties (sendCell c k i) 0 \ ∅) (fun u => (talkRd I).payload (sendCell c k i) 0 u) = sendPay c k i := by
  rw [Finset.sdiff_empty, duties_send, bigSep_singleton, payload_send]
theorem rest_recv (k : Fin 2) (i : Fin 3) : bigSep ((talkRd I).duties (recvCell c k (peer i c)) 0 \ ∅) (fun u => (talkRd I).payload (recvCell c k (peer i c)) 0 u)
    = recvPay I c k (peer i c) := by
  rw [Finset.sdiff_empty, duties_recv, bigSep_singleton, payload_recv]

end Sched

/-! ## What a core owes, and the levels -/

/-- The cells a core pays, the last first: chunk 1 to peers 2, 1, 0, chunk 0 to peers 2, 1, 0, then the barrier of peers 2, 1, 0. -/
def payCell (c : Dev nD) : ℕ → GSem nD τ sig
  | 0 => recvCell (peer 2 c) 1 c | 1 => recvCell (peer 1 c) 1 c | 2 => recvCell (peer 0 c) 1 c
  | 3 => recvCell (peer 2 c) 0 c | 4 => recvCell (peer 1 c) 0 c | 5 => recvCell (peer 0 c) 0 c
  | 6 => barCell (peer 2 c) | 7 => barCell (peer 1 c) | _ => barCell (peer 0 c)
/-- A core's debt with `n` payments to go. -/
def debt (c : Dev nD) : ℕ → CellTallies nD τ sig Unit
  | 0 => 0
  | n + 1 => debt c n + tallyAt (payCell c n) () (amtOf (payCell c n).2)
abbrev O₀ (c : Dev nD) : CellTallies nD τ sig Unit := debt c 9

def L (g : GSem nD τ sig) : Finset Unit := if g.1.2 = .tc then {()} else ∅
def lvOf : SemLoc sig → ℕ
  | .reg _ => 1
  | .dma q => if 73 ≤ q.val then 2 else 0
def lv (g : GSem nD τ sig) (_ : Unit) : ℕ := lvOf g.2
theorem L_of_ne (g : GSem nD τ sig) (h : g.1.2 ≠ .tc) : L g = ∅ := if_neg h
theorem L_tc (c : Dev nD) (sm : SemLoc sig) : L ((c : Thread nD τ), sm) = {()} := if_pos rfl

theorem debt_pos {c : Dev nD} {n : ℕ} {g : GSem nD τ sig} {u : Unit} (h : 0 < debt c n g u) : ∃ k < n, g = payCell c k := by
  induction n with
  | zero => exact absurd h (Nat.lt_irrefl 0)
  | succ n ih =>
    by_cases hg : g = payCell c n
    · exact ⟨n, Nat.lt_succ_self n, hg⟩
    · have h' : 0 < debt c n g u := by
        have e : debt c (n + 1) g u = debt c n g u := by
          show (debt c n + tallyAt (payCell c n) () (amtOf (payCell c n).2)) g u = _
          rw [Pi.add_apply, Finsupp.add_apply, tallyAt_apply, if_neg (fun h => hg h.1), Nat.add_zero]
        rwa [e] at h
      obtain ⟨k, hk, e⟩ := ih h'
      exact ⟨k, hk.trans (Nat.lt_succ_self n), e⟩

theorem payCell_tc (c : Dev nD) (k : ℕ) : (payCell c k).1.2 = .tc := by
  unfold payCell; split <;> rfl
theorem lv_payCell (c : Dev nD) (k : ℕ) : 1 ≤ lv (payCell c k) () := by
  unfold payCell
  split <;> (revert c; decide)
theorem lv_payCell_lt (c : Dev nD) (k : ℕ) (h : k < 6) : 2 ≤ lv (payCell c k) () := by
  have : k = 0 ∨ k = 1 ∨ k = 2 ∨ k = 3 ∨ k = 4 ∨ k = 5 := by omega
  rcases this with rfl | rfl | rfl | rfl | rfl | rfl <;> (revert c; decide)

omit [FloatOps F] in
/-- A core may wait for its local copies whatever it still owes. -/
theorem mayWait_local (c : Dev nD) (n : ℕ) (q : DmaSem sig) (hq : q.val < 73) :
    (levAts L lv : sProp 𝕄) ⊢ MayWait (c : Thread nD τ) (.dma q) () (debt c n) :=
  MayOwe.of_cut (L := L) (lev := lv) 0 (fun p hp => by rw [Finset.mem_singleton.mp hp, L_tc]; exact Finset.mem_singleton_self _)
    (fun g u hg => by
      obtain ⟨k, _, rfl⟩ := debt_pos hg
      unfold L; rw [if_pos (payCell_tc c k)]; exact Finset.mem_singleton_self _)
    (fun p hp => by rw [Finset.mem_singleton.mp hp]; show (if 73 ≤ q.val then 2 else 0) ≤ 0; rw [if_neg (by omega)])
    (fun g u hg => by obtain ⟨k, _, rfl⟩ := debt_pos hg; exact lv_payCell c k)
omit [FloatOps F] in
/-- It may wait at the barrier owing only its copies. -/
theorem mayWait_bar (c : Dev nD) : (levAts L lv : sProp 𝕄) ⊢ MayWait (c : Thread nD τ) barS () (debt c 6) :=
  MayOwe.of_cut (L := L) (lev := lv) 1 (fun p hp => by rw [Finset.mem_singleton.mp hp, L_tc]; exact Finset.mem_singleton_self _)
    (fun g u hg => by
      obtain ⟨k, _, rfl⟩ := debt_pos hg
      unfold L; rw [if_pos (payCell_tc c k)]; exact Finset.mem_singleton_self _)
    (fun p hp => by rw [Finset.mem_singleton.mp hp]; exact Nat.le_refl 1)
    (fun g u hg => by obtain ⟨k, hk, rfl⟩ := debt_pos hg; exact lv_payCell_lt c k hk)

end Cert.KernelIdeal.Talk
-- ==== Proof.Steps.lean ====
/-
# The steps of the exchange, each once: entering the barrier, leaving it, sending a chunk, waiting for one, waiting for a send

Every step is stated at a symbolic device, peer and chunk; the debt a core carries is counted down by payments.
-/
module

public import proofs.«01_k».proof.Proof.Proto

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-! ## The cells and their invariants -/

def barEmb : Dev nD ↪ GSem nD τ sig := ⟨fun c => barCell c, fun _ _ h => congrArg (fun g : GSem nD τ sig => g.1.1) h⟩
/-- The fourteen send and receive semaphores of a device. -/
abbrev talkQ (k : Fin 14) : DmaSem sig := ⟨67 + k.val, by have := k.isLt; show _ < 81; omega⟩
theorem talkQ_inj {a b : Fin 14} (h : (SemLoc.dma (talkQ a) : SemLoc sig) = .dma (talkQ b)) : a = b := by revert a b; decide
def scEmb : Dev nD × Fin 14 ↪ GSem nD τ sig :=
  ⟨fun ck => ((ck.1 : Thread nD τ), .dma (talkQ ck.2)), fun _ _ h =>
    Prod.ext (congrArg (fun g : GSem nD τ sig => g.1.1) h) (talkQ_inj (congrArg Prod.snd h))⟩
abbrev barCells : Finset (GSem nD τ sig) := Finset.univ.map barEmb
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem send_mem (c : Dev nD) (k : Fin 2) (i : Fin 3) : sendCell c k i ∈ (barCells ∪ scCells : Finset (GSem nD τ sig)) :=
  Finset.mem_union_right _ (Finset.mem_map_of_mem scEmb (Finset.mem_univ (c, (⟨3 * k.val + i.val, by omega⟩ : Fin 14))))
theorem recv_mem (c : Dev nD) (k : Fin 2) (p : Dev nD) : recvCell c k p ∈ (barCells ∪ scCells : Finset (GSem nD τ sig)) := by
  have hp : p.val < 4 := p.isLt
  refine Finset.mem_union_right _ (Finset.mem_map.mpr ⟨(c, (⟨6 + (4 * k.val + p.val), by omega⟩ : Fin 14)), Finset.mem_univ _, ?_⟩)
  show ((c : Thread nD τ), SemLoc.dma _) = ((c : Thread nD τ), SemLoc.dma _)
  congr 2
  exact Fin.ext (show 67 + (6 + (4 * k.val + p.val)) = 73 + (4 * k.val + p.val) by omega)

/-- All the invariants, under one map of names. -/
def invs (I : Ins F) (K : GSem nD τ sig → ℕ) : sProp 𝕄 := bigSep (barCells ∪ scCells) fun g => cellInv ER (talkRd I) (K g) g
instance invs_persistent (I : Ins F) (K : GSem nD τ sig → ℕ) : BI.Persistent (invs I K) := by unfold invs; infer_instance
theorem inv_at (I : Ins F) (K : GSem nD τ sig → ℕ) {g : GSem nD τ sig} (hg : g ∈ (barCells ∪ scCells : Finset (GSem nD τ sig))) :
    invs I K ⊢ cellInv ER (talkRd I) (K g) g := bigSep_elim hg

section Steps
variable (I : Ins F) (K : GSem nD τ sig → ℕ) (c : Dev nD) {Q : PUnit → sProp 𝕄}

/-- Entering the barrier of peer `i`: its windows of this device's buffer go to it. -/
theorem step_signal {β : Type} {Q : β → sProp 𝕄} (i : Fin 3) {n : Dev nD} (hn : n = peer i c) (d : ℕ) (hd : payCell c d = barCell (peer i c)) {W : Waits sig Unit}
    {s : Sem sig} (hs : SemLoc.reg s = barS) (f0 f1 : Buf (Elt F) ((Memref.whole cc0_scratch3).view.loc (c : Thread nD τ)))
    {k : PUnit → Prog (TpuEff nD τ sig (Elt F) Λ₀ .tc) β} :
    iprop(invs I K ∗ owes (c : Thread nD τ) (debt c (d + 1)) W ∗ dutyTok ER (barCell (peer i c)) 0 c ∗ reached ER (barCell (peer i c)) 0
        ∗ winPts0 c (peer i c) fullShare f0 ∗ winPts1 c (peer i c) fullShare f1
        ∗ reached ER (recvCell c 0 (peer i c)) 0 ∗ reached ER (recvCell c 1 (peer i c)) 0)
      ⊢ iprop((owes (c : Thread nD τ) (debt c d) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((n, Proc.tc) : Thread nD τ) s (1#32).toInt) k) Q) := by
  subst hn
  obtain rfl : s = _ := SemLoc.reg.inj hs
  iintro ⟨#HI, HO, Htok, #Hr, Hw0, Hw1, #Hr0, #Hr1⟩ Hk
  iapply (Rounds.wp_signal 𝒱₀ ER (talkRd I) (c : Thread nD τ) none (dst := (peer i c : Thread nD τ)) (κ := K (barCell (peer i c)))
      (r := 0) (d := c) (by rw [duties_bar]; exact Finset.mem_erase.mpr ⟨ne_peer i c, Finset.mem_univ _⟩)
      ((amount_bar I (peer i c) c).trans (by decide)) () (debt c d)
      (by show debt c d + tallyAt (payCell c d) () (amtOf (payCell c d).2) = _; rw [hd]; rfl)) $$ [HO Htok Hw0 Hw1]
  · isplitr; · iapply (inv_at I K (bar_mem (peer i c))); iexact HI
    isplitl [HO]; · iexact HO
    isplitl [Htok]; · iexact Htok
    isplitl [Hw0 Hw1]
    · rw [payload_bar]; unfold barPay
      isplitl [Hw0]; · iexists f0; rw [winPts_zero]; iexact Hw0
      isplitl [Hw1]; · iexists f1; rw [winPts_one]; iexact Hw1
      isplitr
      · iexact Hr0
      · iexact Hr1
    iexact Hr
  iexact Hk

/-- What peer `p` hands over, its two windows of this device's slot named one by one. -/
abbrev handed (c p : Dev nD) : sProp 𝕄 :=
  iprop((∃ f, winPts0 p c fullShare f) ∗ (∃ f, winPts1 p c fullShare f) ∗ reached ER (recvCell p 0 c) 0 ∗ reached ER (recvCell p 1 c) 0)
theorem barPay_eq (c p : Dev nD) : (barPay c p : sProp 𝕄) = handed c p := rfl
/-- Leaving its own barrier, every peer's windows of this device's slot in hand. -/
theorem step_bar {β : Type} {Q : β → sProp 𝕄} {W : Waits sig Unit} {s : Sem sig} (hs : SemLoc.reg s = barS)
    {k : PUnit → Prog (TpuEff nD τ sig (Elt F) Λ₀ .tc) β} :
    iprop(invs I K ∗ cred (tallyAt (barCell c) () 3) ∗ owes (c : Thread nD τ) (debt c 6) W ∗ levAts L lv ∗ atPos ER (barCell c) 0 ∅ 0)
      ⊢ iprop(((owes (c : Thread nD τ) (debt c 6) (insert (barS, ()) W) ∗ atPos ER (barCell c) (0 + 1) ∅ 0
              ∗ handed c (peer 0 c) ∗ handed c (peer 1 c) ∗ handed c (peer 2 c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait s (3#32).toInt) k) Q) := by
  obtain rfl : s = _ := SemLoc.reg.inj hs
  iintro ⟨#HI, Hc, HO, #Hlev, Hat⟩ Hk
  iapply (Rounds.wp_wait_rest_token 𝒱₀ ER (talkRd I) (c : Thread nD τ) none (κ := K (barCell c))
      (wpE_semWait_eq 𝒱₀ (c : Thread nD τ) none Set.univ) (Set.mem_univ _) () (O := debt c 6) (W := W) (R := 0) (m := 0) (T := ∅)
      (by rw [expect_bar]; decide)) $$ [Hc HO Hat]
  · isplitr; · iapply (inv_at I K (bar_mem c)); iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar I c)) $$ Hpay
  rw [barPay_eq, barPay_eq, barPay_eq]
  iapply Hk
  isplitl [HO]; · iexact HO
  isplitl [Hat]; · iexact Hat
  iexact Hp

/-- A copied window as the receiver holds it: a window read and written back through the same view is the source on it. -/
theorem landed_eq0 (p : Dev nD) (fd fs : S4x16x640.Idx → Elt F .f32) (j : S4x16x640.Idx) (hj : j ∈ (Memref.whole cc0_scratch3).view.setOn (winR0 p).set) :
    (win0 p).view.write (Elt F) fd ((win0 p).view.read (Elt F) fs) Finset.univ j = fs j := by
  rw [← set_win0] at hj
  obtain ⟨x, _, rfl⟩ := Finset.mem_map.mp hj
  exact View.write_emb_of_mem _ _ (Finset.mem_univ _)
theorem landed_eq1 (p : Dev nD) (fd fs : S4x16x640.Idx → Elt F .f32) (j : S4x16x640.Idx) (hj : j ∈ (Memref.whole cc0_scratch3).view.setOn (winR1 p).set) :
    (win1 p).view.write (Elt F) fd ((win1 p).view.read (Elt F) fs) Finset.univ j = fs j := by
  rw [← set_win1] at hj
  obtain ⟨x, _, rfl⟩ := Finset.mem_map.mp hj
  exact View.write_emb_of_mem _ _ (Finset.mem_univ _)

theorem slotV_idem (p : Dev nD) (b : Fin 16) (l : ℕ) (x : Elt F .f32) : slotV I p b l (slotV I p b l x) = slotV I p b l x := by
  unfold slotV; split_ifs <;> rfl
/-- A landed chunk of device `p` holds what the sender left, on the receiver's window. -/
theorem landed_commV (p : Dev nD) (f g : S4x16x640.Idx → Elt F .f32) (j : S4x16x640.Idx) (h : g j = commV I p f j) : g j = commV I p g j := by
  by_cases hj : (j 0).val = p.val
  · unfold commV at h ⊢
    rw [if_pos hj] at h ⊢
    rw [h]; exact (slotV_idem I p (j 1) _ _).symm
  · unfold commV; rw [if_neg hj]
theorem landed_pts0 (p c' : Dev nD) (f fd : S4x16x640.Idx → Elt F .f32) :
    ((win0 p).view.loc (c' : Thread nD τ) ↦[(win0 p).view.set]{fullShare} ((win0 p).view.write (Elt F) fd ((win0 p).view.read (Elt F) (commV I p f)) Finset.univ) : sProp 𝕄)
      = winPts0 c' p fullShare (commV I p ((win0 p).view.write (Elt F) fd ((win0 p).view.read (Elt F) (commV I p f)) Finset.univ)) := by
  rw [set_win0]
  exact pointsTo_congr fun j hj => landed_commV I p f _ j (landed_eq0 p fd _ j hj)
theorem landed_pts1 (p c' : Dev nD) (f fd : S4x16x640.Idx → Elt F .f32) :
    ((win1 p).view.loc (c' : Thread nD τ) ↦[(win1 p).view.set]{fullShare} ((win1 p).view.write (Elt F) fd ((win1 p).view.read (Elt F) (commV I p f)) Finset.univ) : sProp 𝕄)
      = winPts1 c' p fullShare (commV I p ((win1 p).view.write (Elt F) fd ((win1 p).view.read (Elt F) (commV I p f)) Finset.univ)) := by
  rw [set_win1]
  exact pointsTo_congr fun j hj => landed_commV I p f _ j (landed_eq1 p fd _ j hj)

/-- Sending chunk 0 of its own slot to peer `i`. -/
theorem step_send0 {β : Type} {Q : β → sProp 𝕄} (i : Fin 3) {n : Dev nD} (hn : n = peer i c) (d : ℕ) (hd : payCell c d = recvCell (peer i c) 0 c) {W : Waits sig Unit}
    {sS sR : DmaSem sig} (hS : sS = sendQ 0 i) (hR : sR = recvQ 0 c)
    {hsrc hdst : (win0 c).view.WordExact} {hsc : (win0 c).view.ref.isScScratch = false}
    {hsem : DmaTarget.Typed .vmem (.dma sR) (.remote (Dev.tc n : Thread nD τ) (win0 c) (.dma sS) hsc)}
    (f fd : S4x16x640.Idx → Elt F .f32)
    {k : PUnit → Prog (TpuEff nD τ sig (Elt F) Λ₀ .tc) β} :
    iprop(invs I K ∗ winPts0 c c (sendShare i) (commV I c f) ∗ winPts0 (peer i c) c fullShare fd ∗ owes (c : Thread nD τ) (debt c (d + 1)) W
        ∗ dutyTok ER (sendCell c 0 i) 0 c ∗ reached ER (sendCell c 0 i) 0 ∗ dutyTok ER (recvCell (peer i c) 0 c) 0 c ∗ reached ER (recvCell (peer i c) 0 c) 0)
      ⊢ iprop(((cred (tallyAt (sendCell c 0 i) () N0) ∗ owes (c : Thread nD τ) (debt c d) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (win0 c) (.remote (Dev.tc n : Thread nD τ) (win0 c) (.dma sS) hsc) (.dma sR) hsrc hdst hsem) k) Q) := by
  subst hn hS hR
  have e1 : winPts0 c c (sendShare i) (commV I c f) = ((win0 c).view.loc (c : Thread nD τ) ↦[(win0 c).view.set]{sendShare i} (commV I c f) : sProp 𝕄) := by
    rw [set_win0]
  have e2 : winPts0 (peer i c) c fullShare fd = ((win0 c).view.loc (peer i c : Thread nD τ) ↦[(win0 c).view.set]{fullShare} fd : sProp 𝕄) := by
    rw [set_win0]
  rw [e1, e2]
  iintro ⟨#HI, Hs, Hd, HO, Ht, #Hr, Ht', #Hr'⟩ Hk
  iapply (Rounds.wp_send_pointsTo 𝒱₀ ER (talkRd I) (c : Thread nD τ) none (c' := (peer i c : Thread nD τ)) (κ₁ := K (sendCell c 0 i)) (κ₂ := K (recvCell (peer i c) 0 c))
    (src := win0 c) (dst := win0 c) (sS := .dma (sendQ 0 i)) (sem := .dma (recvQ 0 c)) (r₁ := 0) (r₂ := 0) (d₁ := c) (d₂ := c) (fs := commV I c f) (fd := fd)
    (by rw [duties_send]; exact Finset.mem_singleton_self _) (by rw [duties_recv']; exact Finset.mem_singleton_self _)
    () () N0 (credit0 c) (amount_send I c 0 i c) (amount_recv I (peer i c) 0 c c) (debt c d)
    (by show debt c d + tallyAt (payCell c d) () (amtOf (payCell c d).2) = _
        rw [hd]; congr 2; exact congrArg (fun x : Fin 2 => if x = 0 then N0 else N1) (kOf_recv 0 c))
    (by rw [payload_send, ← e1]; unfold sendPay; iintro H; iexists (commV I c f); exact .rfl)
    (by
      rw [payload_recv]; unfold recvPay
      iintro H
      iexists ((win0 c).view.write (Elt F) fd ((win0 c).view.read (Elt F) (commV I c f)) Finset.univ)
      rw [winPts_zero]
      iapply (Entails.of_eq (landed_pts0 I c (peer i c) f fd)) $$ H)) $$ [Hs Hd HO Ht Ht']
  · isplitr; · iapply (inv_at I K (send_mem c 0 i)); iexact HI
    isplitr; · iapply (inv_at I K (recv_mem (peer i c) 0 c)); iexact HI
    isplitl [Hs]; · iexact Hs
    isplitl [Hd]; · iexact Hd
    isplitl [HO]; · iexact HO
    isplitl [Ht]; · iexact Ht
    isplitr; · iexact Hr
    isplitl [Ht']; · iexact Ht'
    iexact Hr'
  iexact Hk

/-- Waiting for chunk 0 of peer `i`. -/
theorem step_recv0 {β : Type} {Q : β → sProp 𝕄} (i : Fin 3) {W : Waits sig Unit} {sR : DmaSem sig} (hR : sR = recvQ 0 (peer i c))
    {sp : Space} {src : Memref sig .tc sp S16x256 .f32} {dst : Memref sig .tc .vmem S16x256 .f32} (hdst : dst.view.dmaCredit = N0) {h1 h2}
    {k : PUnit → Prog (TpuEff nD τ sig (Elt F) Λ₀ .tc) β} :
    iprop(invs I K ∗ cred (tallyAt (recvCell c 0 (peer i c)) () N0) ∗ owes (c : Thread nD τ) (debt c 0) W ∗ atPos ER (recvCell c 0 (peer i c)) 0 ∅ 0)
      ⊢ iprop(((owes (c : Thread nD τ) (debt c 0) (insert (SemLoc.dma sR, ()) W) ∗ atPos ER (recvCell c 0 (peer i c)) (0 + 1) ∅ 0
              ∗ (∃ f, winPts0 c (peer i c) fullShare (commV I (peer i c) f)))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR src dst h1 h2) k) Q) := by
  subst hR
  iintro ⟨#HI, Hc, HO, Hat⟩ Hk
  iapply (Rounds.wp_wait_rest_token 𝒱₀ ER (talkRd I) (c : Thread nD τ) none (κ := K (recvCell c 0 (peer i c)))
      (wpE_waitDma2_eq 𝒱₀ (c : Thread nD τ) none Set.univ) (Set.mem_univ _) () (O := debt c 0) (W := W) (R := 0) (m := 0) (T := ∅)
      (by rw [expect_recv, Nat.zero_add, hdst]; rfl)) $$ [Hc HO Hat]
  · isplitr; · iapply (inv_at I K (recv_mem c 0 (peer i c))); iexact HI
    isplitl [Hc]; · rw [hdst]; iexact Hc
    isplitl [HO]; · iexact HO
    isplitr; · rw [show debt c 0 = 0 from rfl, MayWait_zero]; iempintro
    iexact Hat
  iintro ⟨HO, Hat, -, Hpay⟩
  ihave Hp := (Entails.of_eq (rest_recv I c 0 i)) $$ Hpay
  iapply Hk
  isplitl [HO]; · iexact HO
  isplitl [Hat]; · iexact Hat
  unfold recvPay
  iexact Hp

/-- Waiting for its own send of chunk 0 to peer `i`. -/
theorem step_sent0 {β : Type} {Q : β → sProp 𝕄} (i : Fin 3) {W : Waits sig Unit} {sS : DmaSem sig} (hS : sS = sendQ 0 i)
    {sp : Space} {src : Memref sig .tc sp S16x256 .f32} {dst : Memref sig .tc .vmem S16x256 .f32} (hdst : dst.view.dmaCredit = N0) {h1 h2}
    {k : PUnit → Prog (TpuEff nD τ sig (Elt F) Λ₀ .tc) β} :
    iprop(invs I K ∗ cred (tallyAt (sendCell c 0 i) () N0) ∗ owes (c : Thread nD τ) (debt c 0) W ∗ atPos ER (sendCell c 0 i) 0 ∅ 0)
      ⊢ iprop(((owes (c : Thread nD τ) (debt c 0) (insert (SemLoc.dma sS, ()) W) ∗ atPos ER (sendCell c 0 i) (0 + 1) ∅ 0
              ∗ (∃ f, winPts0 c c (sendShare i) f))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst h1 h2) k) Q) := by
  subst hS
  iintro ⟨#HI, Hc, HO, Hat⟩ Hk
  iapply (Rounds.wp_wait_rest_token 𝒱₀ ER (talkRd I) (c : Thread nD τ) none (κ := K (sendCell c 0 i))
      (wpE_waitDma2_eq 𝒱₀ (c : Thread nD τ) none Set.univ) (Set.mem_univ _) () (O := debt c 0) (W := W) (R := 0) (m := 0) (T := ∅)
      (by rw [expect_send, Nat.zero_add, hdst]; rfl)) $$ [Hc HO Hat]
  · isplitr; · iapply (inv_at I K (send_mem c 0 i)); iexact HI
    isplitl [Hc]; · rw [hdst]; iexact Hc
    isplitl [HO]; · iexact HO
    isplitr; · rw [show debt c 0 = 0 from rfl, MayWait_zero]; iempintro
    iexact Hat
  iintro ⟨HO, Hat, -, Hpay⟩
  ihave Hp := (Entails.of_eq (rest_send I c 0 i)) $$ Hpay
  iapply Hk
  isplitl [HO]; · iexact HO
  isplitl [Hat]; · iexact Hat
  unfold sendPay
  iexact Hp

/-- Sending chunk 1 of its own slot to peer `i`. -/
theorem step_send1 {β : Type} {Q : β → sProp 𝕄} (i : Fin 3) {n : Dev nD} (hn : n = peer i c) (d : ℕ) (hd : payCell c d = recvCell (peer i c) 1 c) {W : Waits sig Unit}
    {sS sR : DmaSem sig} (hS : sS = sendQ 1 i) (hR : sR = recvQ 1 c)
    {hsrc hdst : (win1 c).view.WordExact} {hsc : (win1 c).view.ref.isScScratch = false}
    {hsem : DmaTarget.Typed .vmem (.dma sR) (.remote (Dev.tc n : Thread nD τ) (win1 c) (.dma sS) hsc)}
    (f fd : S4x16x640.Idx → Elt F .f32)
    {k : PUnit → Prog (TpuEff nD τ sig (Elt F) Λ₀ .tc) β} :
    iprop(invs I K ∗ winPts1 c c (sendShare i) (commV I c f) ∗ winPts1 (peer i c) c fullShare fd ∗ owes (c : Thread nD τ) (debt c (d + 1)) W
        ∗ dutyTok ER (sendCell c 1 i) 0 c ∗ reached ER (sendCell c 1 i) 0 ∗ dutyTok ER (recvCell (peer i c) 1 c) 0 c ∗ reached ER (recvCell (peer i c) 1 c) 0)
      ⊢ iprop(((cred (tallyAt (sendCell c 1 i) () N1) ∗ owes (c : Thread nD τ) (debt c d) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (win1 c) (.remote (Dev.tc n : Thread nD τ) (win1 c) (.dma sS) hsc) (.dma sR) hsrc hdst hsem) k) Q) := by
  subst hn hS hR
  have e1 : winPts1 c c (sendShare i) (commV I c f) = ((win1 c).view.loc (c : Thread nD τ) ↦[(win1 c).view.set]{sendShare i} (commV I c f) : sProp 𝕄) := by
    rw [set_win1]
  have e2 : winPts1 (peer i c) c fullShare fd = ((win1 c).view.loc (peer i c : Thread nD τ) ↦[(win1 c).view.set]{fullShare} fd : sProp 𝕄) := by
    rw [set_win1]
  rw [e1, e2]
  iintro ⟨#HI, Hs, Hd, HO, Ht, #Hr, Ht', #Hr'⟩ Hk
  iapply (Rounds.wp_send_pointsTo 𝒱₀ ER (talkRd I) (c : Thread nD τ) none (c' := (peer i c : Thread nD τ)) (κ₁ := K (sendCell c 1 i)) (κ₂ := K (recvCell (peer i c) 1 c))
    (src := win1 c) (dst := win1 c) (sS := .dma (sendQ 1 i)) (sem := .dma (recvQ 1 c)) (r₁ := 0) (r₂ := 0) (d₁ := c) (d₂ := c) (fs := commV I c f) (fd := fd)
    (by rw [duties_send]; exact Finset.mem_singleton_self _) (by rw [duties_recv']; exact Finset.mem_singleton_self _)
    () () N1 (credit1 c) (amount_send I c 1 i c) (amount_recv I (peer i c) 1 c c) (debt c d)
    (by show debt c d + tallyAt (payCell c d) () (amtOf (payCell c d).2) = _
        rw [hd]; congr 2; exact congrArg (fun x : Fin 2 => if x = 0 then N0 else N1) (kOf_recv 1 c))
    (by rw [payload_send, ← e1]; unfold sendPay; iintro H; iexists (commV I c f); exact .rfl)
    (by
      rw [payload_recv]; unfold recvPay
      iintro H
      iexists ((win1 c).view.write (Elt F) fd ((win1 c).view.read (Elt F) (commV I c f)) Finset.univ)
      rw [winPts_one]
      iapply (Entails.of_eq (landed_pts1 I c (peer i c) f fd)) $$ H)) $$ [Hs Hd HO Ht Ht']
  · isplitr; · iapply (inv_at I K (send_mem c 1 i)); iexact HI
    isplitr; · iapply (inv_at I K (recv_mem (peer i c) 1 c)); iexact HI
    isplitl [Hs]; · iexact Hs
    isplitl [Hd]; · iexact Hd
    isplitl [HO]; · iexact HO
    isplitl [Ht]; · iexact Ht
    isplitr; · iexact Hr
    isplitl [Ht']; · iexact Ht'
    iexact Hr'
  iexact Hk

/-- Waiting for chunk 1 of peer `i`. -/
theorem step_recv1 {β : Type} {Q : β → sProp 𝕄} (i : Fin 3) {W : Waits sig Unit} {sR : DmaSem sig} (hR : sR = recvQ 1 (peer i c))
    {sp : Space} {src : Memref sig .tc sp S16x384 .f32} {dst : Memref sig .tc .vmem S16x384 .f32} (hdst : dst.view.dmaCredit = N1) {h1 h2}
    {k : PUnit → Prog (TpuEff nD τ sig (Elt F) Λ₀ .tc) β} :
    iprop(invs I K ∗ cred (tallyAt (recvCell c 1 (peer i c)) () N1) ∗ owes (c : Thread nD τ) (debt c 0) W ∗ atPos ER (recvCell c 1 (peer i c)) 0 ∅ 0)
      ⊢ iprop(((owes (c : Thread nD τ) (debt c 0) (insert (SemLoc.dma sR, ()) W) ∗ atPos ER (recvCell c 1 (peer i c)) (0 + 1) ∅ 0
              ∗ (∃ f, winPts1 c (peer i c) fullShare (commV I (peer i c) f)))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR src dst h1 h2) k) Q) := by
  subst hR
  iintro ⟨#HI, Hc, HO, Hat⟩ Hk
  iapply (Rounds.wp_wait_rest_token 𝒱₀ ER (talkRd I) (c : Thread nD τ) none (κ := K (recvCell c 1 (peer i c)))
      (wpE_waitDma2_eq 𝒱₀ (c : Thread nD τ) none Set.univ) (Set.mem_univ _) () (O := debt c 0) (W := W) (R := 0) (m := 0) (T := ∅)
      (by rw [expect_recv, Nat.zero_add, hdst]; rfl)) $$ [Hc HO Hat]
  · isplitr; · iapply (inv_at I K (recv_mem c 1 (peer i c))); iexact HI
    isplitl [Hc]; · rw [hdst]; iexact Hc
    isplitl [HO]; · iexact HO
    isplitr; · rw [show debt c 0 = 0 from rfl, MayWait_zero]; iempintro
    iexact Hat
  iintro ⟨HO, Hat, -, Hpay⟩
  ihave Hp := (Entails.of_eq (rest_recv I c 1 i)) $$ Hpay
  iapply Hk
  isplitl [HO]; · iexact HO
  isplitl [Hat]; · iexact Hat
  unfold recvPay
  iexact Hp

/-- Waiting for its own send of chunk 1 to peer `i`. -/
theorem step_sent1 {β : Type} {Q : β → sProp 𝕄} (i : Fin 3) {W : Waits sig Unit} {sS : DmaSem sig} (hS : sS = sendQ 1 i)
    {sp : Space} {src : Memref sig .tc sp S16x384 .f32} {dst : Memref sig .tc .vmem S16x384 .f32} (hdst : dst.view.dmaCredit = N1) {h1 h2}
    {k : PUnit → Prog (TpuEff nD τ sig (Elt F) Λ₀ .tc) β} :
    iprop(invs I K ∗ cred (tallyAt (sendCell c 1 i) () N1) ∗ owes (c : Thread nD τ) (debt c 0) W ∗ atPos ER (sendCell c 1 i) 0 ∅ 0)
      ⊢ iprop(((owes (c : Thread nD τ) (debt c 0) (insert (SemLoc.dma sS, ()) W) ∗ atPos ER (sendCell c 1 i) (0 + 1) ∅ 0
              ∗ (∃ f, winPts1 c c (sendShare i) f))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst h1 h2) k) Q) := by
  subst hS
  iintro ⟨#HI, Hc, HO, Hat⟩ Hk
  iapply (Rounds.wp_wait_rest_token 𝒱₀ ER (talkRd I) (c : Thread nD τ) none (κ := K (sendCell c 1 i))
      (wpE_waitDma2_eq 𝒱₀ (c : Thread nD τ) none Set.univ) (Set.mem_univ _) () (O := debt c 0) (W := W) (R := 0) (m := 0) (T := ∅)
      (by rw [expect_send, Nat.zero_add, hdst]; rfl)) $$ [Hc HO Hat]
  · isplitr; · iapply (inv_at I K (send_mem c 1 i)); iexact HI
    isplitl [Hc]; · rw [hdst]; iexact Hc
    isplitl [HO]; · iexact HO
    isplitr; · rw [show debt c 0 = 0 from rfl, MayWait_zero]; iempintro
    iexact Hat
  iintro ⟨HO, Hat, -, Hpay⟩
  ihave Hp := (Entails.of_eq (rest_send I c 1 i)) $$ Hpay
  iapply Hk
  isplitl [HO]; · iexact HO
  isplitl [Hat]; · iexact Hat
  unfold sendPay
  iexact Hp

/-- A finished cell gives its counter back. -/
theorem step_close (κ : ℕ) (g : GSem nD τ sig) : iprop(cellInv ER (talkRd I) κ g ∗ atPos ER g (0 + 1) ∅ 0) ⊢ |={Set.univ}=> (semVal g 0 : sProp 𝕄) :=
  Rounds.cell_close ER (talkRd I) (Set.mem_univ κ) (fun h => h) (duties_later I g)

end Steps
end Cert.KernelIdeal.Talk
-- ==== Proof.Windows.lean ====
/-
# Shares and windows of the communication buffer
-/
module

public import proofs.«01_k».proof.Proof.Steps

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Lending a window to the three sends -/

/-- A window held whole splits into the half kept for reading and the three shares the sends carry, its contents restated. -/
theorem lend {ℓ : Loc nD τ sig} {S : Finset (Idx ℓ)} (f f' : Buf (Elt F) ℓ) (h : ∀ i ∈ S, f i = f' i) :
    (ℓ ↦[S]{fullShare} f : sProp 𝕄) ⊢ iprop((ℓ ↦[S]{(fullShare : PosShare TreeShare).left} f') ∗ (ℓ ↦[S]{sendShare 0} f') ∗ (ℓ ↦[S]{sendShare 1} f') ∗ (ℓ ↦[S]{sendShare 2} f')) := by
  rw [pointsTo_congr h]
  iintro H
  ihave H' := (pointsTo_share (I := S) (f := f') (PosShare.mem_left_op_right (fullShare : PosShare TreeShare))).1 $$ H
  icases H' with ⟨H0, H1⟩
  isplitl [H0]; · iexact H0
  iapply (Ring.pointsTo_thirds (I := S) (q := (fullShare : PosShare TreeShare).right) (f := f')).1
  iexact H1

/-- Two shares of a window join, whatever each holder knows of the contents. -/
theorem rejoin_share {ℓ : Loc nD τ sig} {S : Finset (Idx ℓ)} {q q₁ q₂ : PosShare TreeShare} (h : q ∈ PCS.op q₁ q₂) (f g : Buf (Elt F) ℓ) :
    iprop((ℓ ↦[S]{q₁} f) ∗ (ℓ ↦[S]{q₂} g)) ⊢ (ℓ ↦[S]{q} f : sProp 𝕄) := by
  have ha : iprop((ℓ ↦[S]{q₁} f) ∗ (ℓ ↦[S]{q₂} g)) ⊢ (iprop(⌜∀ i ∈ S ∩ S, f i = g i ∧ PCS.opDef q₁ q₂⌝ ∗ (ℓ ↦[S]{q₁} f) ∗ (ℓ ↦[S]{q₂} g)) : sProp 𝕄) :=
    persistent_entails_right pointsTo_agree
  have hb : (∀ i ∈ S ∩ S, f i = g i ∧ PCS.opDef q₁ q₂) → (iprop((ℓ ↦[S]{q₁} f) ∗ (ℓ ↦[S]{q₂} g)) ⊢ (ℓ ↦[S]{q} f : sProp 𝕄)) := by
    intro e
    rw [pointsTo_congr (f := g) (g := f) fun i hi => ((e i (by rwa [Finset.inter_self])).1).symm]
    exact (pointsTo_share h).2
  refine ha.trans ?_
  iintro ⟨%e, H⟩
  iapply (hb e)
  iexact H

/-- The kept half and the three shares come back together. -/
theorem unlend {ℓ : Loc nD τ sig} {S : Finset (Idx ℓ)} (f f0 f1 f2 : Buf (Elt F) ℓ) :
    iprop((ℓ ↦[S]{(fullShare : PosShare TreeShare).left} f) ∗ (ℓ ↦[S]{sendShare 0} f0) ∗ (ℓ ↦[S]{sendShare 1} f1) ∗ (ℓ ↦[S]{sendShare 2} f2))
      ⊢ (ℓ ↦[S]{fullShare} f : sProp 𝕄) := by
  iintro ⟨H, H0, H1, H2⟩
  iapply (rejoin_share (PosShare.mem_left_op_right (fullShare : PosShare TreeShare)) f f0)
  isplitl [H]; · iexact H
  iapply (rejoin_share (PosShare.mem_left_op_right (fullShare : PosShare TreeShare).right) f0 f1)
  isplitl [H0]; · iexact H0
  iapply (rejoin_share (PosShare.mem_left_op_right (fullShare : PosShare TreeShare).right.right) f1 f2)
  isplitl [H1]; · iexact H1
  iexact H2

/-! ## What the local copies leave in the scratch buffers -/

/-- A piece that carries the values of `G` and covers what the key `k` stands for. -/
def Good {κ : Type} {s : Shape} {e : EltTy} (P : κ → s.Idx → Prop) (G : s.Idx → Elt F e) (k : κ) (p : View.Piece (Elt F) s e) : Prop :=
  (∀ x : p.1.shape.Idx, p.2 x = G (p.1.emb x)) ∧ ∀ y, P k y → y ∈ p.1.set

omit [FloatOps F] in
theorem Good.vals {κ : Type} {s : Shape} {e : EltTy} {P : κ → s.Idx → Prop} {G : s.Idx → Elt F e} {ks : List κ} {L : List (View.Piece (Elt F) s e)}
    (h : List.Forall₂ (Good P G) ks L) : ∀ p ∈ L, ∀ x : p.1.shape.Idx, p.2 x = G (p.1.emb x) := by
  induction h with
  | nil => intro p hp; exact absurd hp List.not_mem_nil
  | cons h _ ih =>
    intro p hp
    rcases List.mem_cons.mp hp with rfl | hp
    · exact h.1
    · exact ih p hp
omit [FloatOps F] in
theorem Good.covers {κ : Type} {s : Shape} {e : EltTy} {P : κ → s.Idx → Prop} {G : s.Idx → Elt F e} {ks : List κ} {L : List (View.Piece (Elt F) s e)}
    (h : List.Forall₂ (Good P G) ks L) (k : κ) (hk : k ∈ ks) (y : s.Idx) (hy : P k y) : ∃ p ∈ L, y ∈ p.1.set := by
  induction h with
  | nil => exact absurd hk List.not_mem_nil
  | cons h _ ih =>
    rcases List.mem_cons.mp hk with rfl | hk
    · exact ⟨_, List.mem_cons_self, h.2 y hy⟩
    · obtain ⟨p, hp, hm⟩ := ih hk
      exact ⟨p, List.mem_cons_of_mem _ hp, hm⟩

theorem unit_emb_val {s : Shape} (off size : Fin s.rank → ℕ) (inb) (x : (Rect.unit (s := s) off size inb).shape.Idx) (a : Fin s.rank) :
    ((Rect.unit (s := s) off size inb).emb x a).val = off a + (x a).val := by
  show off a + 1 * (x a).val = _
  rw [Nat.one_mul]

/-- The slab of head group `k.1` and page slot `k.2`. -/
def slabAt' (k : ℕ × ℕ) (y : S8x64x2048.Idx) : Prop := (y 0).val / 4 = k.1 ∧ (y 2).val / 128 = k.2

/-- The slabs' source offsets by page slot. -/
def slabOff : ℕ → Dev nD → BitVec 32 → Fin 4 → ℕ
  | 0 => k0_off1
  | 1 => k0_off2
  | 2 => k0_off3
  | 3 => k0_off4
  | 4 => k0_off5
  | 5 => k0_off6
  | 6 => k0_off7
  | 7 => k0_off8
  | 8 => k0_off9
  | 9 => k0_off10
  | 10 => k0_off11
  | 11 => k0_off12
  | 12 => k0_off13
  | 13 => k0_off14
  | 14 => k0_off15
  | _ => k0_off16
theorem slabOff_eq (c : Dev nD) : ∀ t : Fin 16, ∀ g : Fin 2, slabOff t.val c (BitVec.ofNat 32 (4 * g.val)) = ![t.val, 8 * (c.val / 2) + 4 * g.val, 0, 0] := by
  revert c; decide +kernel

/-- A landed copy of an operand's slab is good. -/
theorem slab_good {sp : Space} (c : Dev nD) (m : Memref sig .tc sp S16x16x64x128 .f32) (f : m.view.ty.Contents (Elt F)) (g t : ℕ) (hg : g < 2) (ht : t < 16)
    (off : Fin 4 → ℕ) (hoff : off = slabOff t c (BitVec.ofNat 32 (4 * g))) (inb) (h1) (h2) (off' : Fin 3 → ℕ) (hoff' : off' = ![4 * g, 0, 128 * t]) (inb') :
    Good slabAt' (gath c (m.view.read (Elt F) f)) (g, t)
      ⟨Rect.unit (s := S8x64x2048) off' S4x64x128.size inb',
        (ReadAs.same (e := .f32)).apply (View.read (Elt F) ((m.slice (Rect.unit (s := S16x16x64x128) off S1x4x64x128.size inb) h1).squeeze S4x64x128 h2).view f)⟩ := by
  replace hoff : off = ![t, 8 * (c.val / 2) + 4 * g, 0, 0] := hoff.trans (slabOff_eq c ⟨t, ht⟩ ⟨g, hg⟩)
  subst hoff hoff'
  refine ⟨fun x => ?_, fun y hy => ?_⟩
  · show m.view.read (Elt F) f ((Rect.unit (s := S16x16x64x128) ![t, 8 * (c.val / 2) + 4 * g, 0, 0] S1x4x64x128.size inb).emb (Shape.reshapeEquiv _ x)) = _
    have hx0 : (x 0).val < 4 := (x 0).isLt
    have hx1 : (x 1).val < 64 := (x 1).isLt
    have hx2 : (x 2).val < 128 := (x 2).isLt
    have e : Shape.reshapeEquiv (s := S1x4x64x128) (s' := S4x64x128) h2.numel_eq x = ValueIdx.ix4 (n0 := 1) (n1 := 4) (n2 := 64) (n3 := 128) 0 (x 0) (x 1) (x 2) :=
      Shape.reshapeEquiv_eq_of_rowMajor _ (by rw [Shape.rowMajor_val_four, Shape.rowMajor_val_three]; show (((0 : ℕ) * 4 + (x 0).val) * 64 + (x 1).val) * 128 + (x 2).val = _; rw [Nat.zero_mul, Nat.zero_add]; rfl)
    generalize hz : (Rect.unit (s := S8x64x2048) ![4 * g, 0, 128 * t] S4x64x128.size inb').emb x = z
    have hz0 : (z 0).val = 4 * g + (x 0).val := by rw [← hz, unit_emb_val]; rfl
    have hz1 : (z 1).val = 0 + (x 1).val := by rw [← hz, unit_emb_val]; rfl
    have hz2 : (z 2).val = 128 * t + (x 2).val := by rw [← hz, unit_emb_val]; rfl
    show _ = gath c (m.view.read (Elt F) f) z
    unfold gath
    congr 1
    rw [e]
    funext a
    apply Fin.ext
    rw [unit_emb_val]
    match a with
    | ⟨0, _⟩ => show t + 0 = (z 2).val / 128; omega
    | ⟨1, _⟩ => show 8 * (c.val / 2) + 4 * g + (x 0).val = 8 * (c.val / 2) + (z 0).val; omega
    | ⟨2, _⟩ => show 0 + (x 1).val = (z 1).val; omega
    | ⟨3, _⟩ => show 0 + (x 2).val = (z 2).val % 128; omega
  · rw [Rect.mem_set_unit]
    have h0 : (y 0).val / 4 = g := hy.1
    have h2 : (y 2).val / 128 = t := hy.2
    intro a
    match a with
    | ⟨0, _⟩ => show 4 * g ≤ (y 0).val ∧ (y 0).val < 4 * g + 4; omega
    | ⟨1, _⟩ => have : (y 1).val < 64 := (y 1).isLt; show 0 ≤ (y 1).val ∧ (y 1).val < 0 + 64; omega
    | ⟨2, _⟩ => show 128 * t ≤ (y 2).val ∧ (y 2).val < 128 * t + 128; omega

/-- The slabs the copies land, the last issued first. -/
def slabKeys : List (ℕ × ℕ) := [(1, 15), (1, 14), (1, 13), (1, 12), (1, 11), (1, 10), (1, 9), (1, 8), (1, 7), (1, 6), (1, 5), (1, 4), (1, 3), (1, 2), (1, 1), (1, 0), (0, 15), (0, 14), (0, 13), (0, 12), (0, 11), (0, 10), (0, 9), (0, 8), (0, 7), (0, 6), (0, 5), (0, 4), (0, 3), (0, 2), (0, 1), (0, 0)]
theorem mem_slabKeys : ∀ g : Fin 2, ∀ t : Fin 16, (g.val, t.val) ∈ slabKeys := by decide

/-- A head's row of a scratch buffer the copies filled. -/
theorem row_of_slabs {sp : Space} (v : View sig .tc sp S8x64x2048 .f32) (g : S8x64x2048.Idx → Elt F .f32) (L : List (View.Piece (Elt F) S8x64x2048 .f32))
    (h : List.Forall₂ (Good slabAt' g) slabKeys L) (i : Fin 8) (off : Fin 3 → ℕ) (hoff : off = ![i.val, 0, 0]) (inb) :
    v.readCov L (Rect.unit (s := S8x64x2048) off S1x64x2048.size inb).toLoadRect = row g i := by
  subst hoff
  funext x
  have hi := i.isLt
  have hx0 : (x 0).val < 1 := (x 0).isLt
  have hx2 : (x 2).val < 2048 := (x 2).isLt
  have e : (Rect.unit (s := S8x64x2048) ![i.val, 0, 0] S1x64x2048.size inb).emb x = ValueIdx.ix3 (n0 := 8) (n1 := 64) (n2 := 2048) i (x 1) (x 2) := by
    funext a
    apply Fin.ext
    rw [unit_emb_val]
    match a with
    | ⟨0, _⟩ => show i.val + (x 0).val = i.val; omega
    | ⟨1, _⟩ => show 0 + (x 1).val = (x 1).val; omega
    | ⟨2, _⟩ => show 0 + (x 2).val = (x 2).val; omega
  show v.read (Elt F) (v.writes (Elt F) v.junk L) ((Rect.unit (s := S8x64x2048) ![i.val, 0, 0] S1x64x2048.size inb).emb x) = _
  rw [e]
  refine View.read_writes_apply_of_pieces v _ g L (Good.vals h) _ (Good.covers h (i.val / 4, (x 2).val / 128) ?_ _ ⟨rfl, rfl⟩)
  exact mem_slabKeys ⟨i.val / 4, by omega⟩ ⟨(x 2).val / 128, by omega⟩

/-! ## What the head stores leave in the communication buffer -/

/-- Where head `k.2`'s output (`k.1 = 0`), maximum or weight lies in slot `c`. -/
def partAt (c : Dev nD) (k : ℕ × ℕ) (y : S4x16x640.Idx) : Prop :=
  (y 0).val = c.val ∧ match k.1 with
    | 0 => (y 2).val / 64 = k.2
    | 1 => (y 2).val = 512 + k.2
    | _ => (y 2).val = 520 + k.2

theorem part_o (I : Ins F) (c : Dev nD) (fc : S4x16x640.Idx → Elt F .f32) (i : Fin 8) (off : Fin 3 → ℕ) (hoff : off = ![2 * (c.val / 2) + c.val % 2, 0, 64 * i.val]) (inb)
    (w : FVec F S1x16x64 .f32) (hw : w = hO I c i) :
    Good (partAt c) (commV I c fc) (0, i.val) ⟨Rect.unit (s := S4x16x640) off S1x16x64.size inb, w⟩ := by
  subst hoff hw
  have hi := i.isLt
  refine ⟨fun x => ?_, fun y hy => ?_⟩
  · have hx0 : (x 0).val < 1 := (x 0).isLt
    have hx1 : (x 1).val < 16 := (x 1).isLt
    have hx2 : (x 2).val < 64 := (x 2).isLt
    generalize hz : (Rect.unit (s := S4x16x640) ![2 * (c.val / 2) + c.val % 2, 0, 64 * i.val] S1x16x64.size inb).emb x = z
    have h0 : (z 0).val = 2 * (c.val / 2) + c.val % 2 + (x 0).val := by rw [← hz, unit_emb_val]; rfl
    have h1 : (z 1).val = 0 + (x 1).val := by rw [← hz, unit_emb_val]; rfl
    have h2 : (z 2).val = 64 * i.val + (x 2).val := by rw [← hz, unit_emb_val]; rfl
    unfold commV slotV
    rw [if_pos (by omega), dif_pos (by omega)]
    show hO I c i x = _
    have e1 : (⟨(z 2).val / 64, by omega⟩ : Fin 8) = i := Fin.ext (by show (z 2).val / 64 = i.val; omega)
    rw [e1]
    congr 1
    funext a
    apply Fin.ext
    match a with
    | ⟨0, _⟩ => show (x 0).val = 0; omega
    | ⟨1, _⟩ => show (x 1).val = (z 1).val; omega
    | ⟨2, _⟩ => show (x 2).val = (z 2).val % 64; omega
  · rw [Rect.mem_set_unit]
    have h0 : (y 0).val = c.val := hy.1
    have h2 : (y 2).val / 64 = i.val := hy.2
    intro a
    match a with
    | ⟨0, _⟩ => show 2 * (c.val / 2) + c.val % 2 ≤ (y 0).val ∧ (y 0).val < 2 * (c.val / 2) + c.val % 2 + 1; omega
    | ⟨1, _⟩ => have : (y 1).val < 16 := (y 1).isLt; show 0 ≤ (y 1).val ∧ (y 1).val < 0 + 16; omega
    | ⟨2, _⟩ => show 64 * i.val ≤ (y 2).val ∧ (y 2).val < 64 * i.val + 64; omega

/-- A maximum (`k = 1`) or a weight (`k = 2`) in its lane. -/
theorem part_ml (I : Ins F) (c : Dev nD) (fc : S4x16x640.Idx → Elt F .f32) (k b : ℕ) (hk : k = 1 ∧ b = 512 ∨ k = 2 ∧ b = 520) (i : Fin 8) (off : Fin 3 → ℕ)
    (hoff : off = ![2 * (c.val / 2) + c.val % 2, 0, b + i.val]) (inb)
    (w : FVec F S1x16x1 .f32) (hw : k = 1 → w = hM I c i) (hw' : k = 2 → w = hL I c i) :
    Good (partAt c) (commV I c fc) (k, i.val) ⟨Rect.unit (s := S4x16x640) off S1x16x1.size inb, w⟩ := by
  subst hoff
  have hi := i.isLt
  refine ⟨fun x => ?_, fun y hy => ?_⟩
  · have hx0 : (x 0).val < 1 := (x 0).isLt
    have hx1 : (x 1).val < 16 := (x 1).isLt
    have hx2 : (x 2).val < 1 := (x 2).isLt
    generalize hz : (Rect.unit (s := S4x16x640) ![2 * (c.val / 2) + c.val % 2, 0, b + i.val] S1x16x1.size inb).emb x = z
    have h0 : (z 0).val = 2 * (c.val / 2) + c.val % 2 + (x 0).val := by rw [← hz, unit_emb_val]; rfl
    have h1 : (z 1).val = 0 + (x 1).val := by rw [← hz, unit_emb_val]; rfl
    have h2 : (z 2).val = b + i.val + (x 2).val := by rw [← hz, unit_emb_val]; rfl
    have ex : x = ValueIdx.ix3 (n0 := 1) (n1 := 16) (n2 := 1) 0 (z 1) 0 := by
      funext a
      apply Fin.ext
      match a with
      | ⟨0, _⟩ => show (x 0).val = 0; omega
      | ⟨1, _⟩ => show (x 1).val = (z 1).val; omega
      | ⟨2, _⟩ => show (x 2).val = 0; omega
    rcases hk with ⟨rfl, rfl⟩ | ⟨rfl, rfl⟩
    · show w x = _
      rw [hw rfl]
      unfold commV slotV
      rw [if_pos (by omega), dif_neg (by omega), dif_pos (by omega)]
      have e1 : (⟨(z 2).val - 512, by omega⟩ : Fin 8) = i := Fin.ext (by show (z 2).val - 512 = i.val; omega)
      rw [e1, ← ex]
    · show w x = _
      rw [hw' rfl]
      unfold commV slotV
      rw [if_pos (by omega), dif_neg (by omega), dif_neg (by omega), dif_pos (by omega)]
      have e1 : (⟨(z 2).val - 520, by omega⟩ : Fin 8) = i := Fin.ext (by show (z 2).val - 520 = i.val; omega)
      rw [e1, ← ex]
  · rw [Rect.mem_set_unit]
    have h0 : (y 0).val = c.val := hy.1
    have h2 : (y 2).val = b + i.val := by
      rcases hk with ⟨rfl, rfl⟩ | ⟨rfl, rfl⟩
      · exact hy.2
      · exact hy.2
    intro a
    match a with
    | ⟨0, _⟩ => show 2 * (c.val / 2) + c.val % 2 ≤ (y 0).val ∧ (y 0).val < 2 * (c.val / 2) + c.val % 2 + 1; omega
    | ⟨1, _⟩ => have : (y 1).val < 16 := (y 1).isLt; show 0 ≤ (y 1).val ∧ (y 1).val < 0 + 16; omega
    | ⟨2, _⟩ =>
      show b + i.val ≤ (y 2).val ∧ (y 2).val < b + i.val + 1
      rw [h2]; omega

/-- The stores into a device's own slot, seen from the whole buffer, where every live lane of interest has its store. -/
theorem stored_eq (I : Ins F) (c : Dev nD) (fc : S4x16x640.Idx → Elt F .f32) (L : List (View.Piece (Elt F) S4x16x640 .f32)) (ks : List (ℕ × ℕ))
    (h : List.Forall₂ (Good (partAt c) (commV I c fc)) ks L) (S : Finset (Idx ((Memref.whole cc0_scratch3).view.loc (c : Thread nD τ))))
    (hS : ∀ y : S4x16x640.Idx, y ∈ S → 528 ≤ (y 2).val ∨ ∃ k ∈ ks, partAt c k y) :
    ∀ y ∈ S, (Memref.whole cc0_scratch3).view.writes (Elt F) fc L y = commV I c fc y := by
  intro y hy
  by_cases hc : ∃ p ∈ L, (y : S4x16x640.Idx) ∈ p.1.set
  · exact View.read_writes_apply_of_pieces (Memref.whole cc0_scratch3).view fc (commV I c fc) L (Good.vals h) y hc
  · have e := View.read_writes_apply_of_forall_not_mem (Memref.whole cc0_scratch3).view fc y L (fun p hp hm => hc ⟨p, hp, hm⟩)
    rcases hS y hy with h528 | ⟨k, hk, hp⟩
    · refine Eq.trans (show _ = fc y from e) ?_
      unfold commV slotV
      rw [dif_neg (by omega), dif_neg (by omega), dif_neg (by omega), ite_self]
    · exact absurd (Good.covers h k hk y hp) hc

/-! ## The heads' values from what the run read -/

theorem hO_of (I : Ins F) (c : Dev nD) (i : Fin 8) {ck : FVec F S16x2048 .f32} {qh : FVec F S16x8x64 .f32} {k v : Vec F S1x64x2048 .f32} (h1 : ck = cKey I c)
    (h2 : qh = qHalf I c) (h3 : k = kRow I c i) (h4 : v = vRow I c i) (w : FVec F S1x16x64 .f32) (hw : w = k0_pay100 ck (qRow qh i) k v) : w = hO I c i := by
  subst h1 h2 h3 h4 hw; rfl
theorem hM_of (I : Ins F) (c : Dev nD) (i : Fin 8) {qh : FVec F S16x8x64 .f32} {k : Vec F S1x64x2048 .f32}
    (h2 : qh = qHalf I c) (h3 : k = kRow I c i) (w : FVec F S1x16x1 .f32) (hw : w = k0_pay101 (qRow qh i) k) : w = hM I c i := by
  subst h2 h3 hw; rfl
theorem hL_of (I : Ins F) (c : Dev nD) (i : Fin 8) {ck : FVec F S16x2048 .f32} {qh : FVec F S16x8x64 .f32} {k : Vec F S1x64x2048 .f32} (h1 : ck = cKey I c)
    (h2 : qh = qHalf I c) (h3 : k = kRow I c i) (w : FVec F S1x16x1 .f32) (hw : w = k0_pay102 ck (qRow qh i) k) : w = hL I c i := by
  subst h1 h2 h3 hw; rfl

theorem mem_own0 (c p : Dev nD) (y : S4x16x640.Idx) (hy : (y : Idx ((Memref.whole cc0_scratch3).view.loc (c : Thread nD τ))) ∈ (Memref.whole cc0_scratch3).view.setOn (winR0 p).set) :
    (y 0).val = p.val ∧ (y 2).val < 256 :=
  (mem_winR0 p y).mp ((View.mem_setOn (v := (Memref.whole cc0_scratch3).view) (M := (winR0 p).set) (x := y)).mp hy)
theorem mem_own1 (c p : Dev nD) (y : S4x16x640.Idx) (hy : (y : Idx ((Memref.whole cc0_scratch3).view.loc (c : Thread nD τ))) ∈ (Memref.whole cc0_scratch3).view.setOn (winR1 p).set) :
    (y 0).val = p.val ∧ 256 ≤ (y 2).val :=
  (mem_winR1 p y).mp ((View.mem_setOn (v := (Memref.whole cc0_scratch3).view) (M := (winR1 p).set) (x := y)).mp hy)

/-- The first window's lanes are outputs 0 to 3. -/
theorem own0_lanes (c : Dev nD) (y : S4x16x640.Idx) (hy : (y : Idx ((Memref.whole cc0_scratch3).view.loc (c : Thread nD τ))) ∈ (Memref.whole cc0_scratch3).view.setOn (winR0 c).set) :
    528 ≤ (y 2).val ∨ ∃ k ∈ [(0, 3), (0, 2), (0, 1), (0, 0)], partAt c k y := by
  obtain ⟨h0, h2⟩ := mem_own0 c c y hy
  have : (y 2).val / 64 = 0 ∨ (y 2).val / 64 = 1 ∨ (y 2).val / 64 = 2 ∨ (y 2).val / 64 = 3 := by omega
  rcases this with h | h | h | h
  · exact Or.inr ⟨(0, 0), by decide, h0, h⟩
  · exact Or.inr ⟨(0, 1), by decide, h0, h⟩
  · exact Or.inr ⟨(0, 2), by decide, h0, h⟩
  · exact Or.inr ⟨(0, 3), by decide, h0, h⟩

/-- What the second window's lanes hold, in the order of the stores, the last first. -/
def ownKeys1 : List (ℕ × ℕ) := [(2, 7), (1, 7), (0, 7), (2, 6), (1, 6), (0, 6), (2, 5), (1, 5), (0, 5), (2, 4), (1, 4), (0, 4), (2, 3), (1, 3), (2, 2), (1, 2), (2, 1), (1, 1), (2, 0), (1, 0)]
theorem mem_ownKeys1_ml (k i : ℕ) (hk : k = 1 ∨ k = 2) (hi : i < 8) : (k, i) ∈ ownKeys1 := by
  rcases hk with rfl | rfl <;> (revert i; decide)
theorem mem_ownKeys1_o (i : ℕ) (h : 4 ≤ i) (hi : i < 8) : (0, i) ∈ ownKeys1 := by
  revert i; decide
/-- The second window's lanes are outputs 4 to 7, the maxima and the weights, and lanes nobody reads. -/
theorem own1_lanes (c : Dev nD) (y : S4x16x640.Idx) (hy : (y : Idx ((Memref.whole cc0_scratch3).view.loc (c : Thread nD τ))) ∈ (Memref.whole cc0_scratch3).view.setOn (winR1 c).set) :
    528 ≤ (y 2).val ∨ ∃ k ∈ ownKeys1, partAt c k y := by
  obtain ⟨h0, h2⟩ := mem_own1 c c y hy
  by_cases h528 : 528 ≤ (y 2).val
  · exact Or.inl h528
  by_cases h520 : 520 ≤ (y 2).val
  · exact Or.inr ⟨(2, (y 2).val - 520), mem_ownKeys1_ml _ _ (Or.inr rfl) (by omega), h0, show (y 2).val = 520 + ((y 2).val - 520) by omega⟩
  by_cases h512 : 512 ≤ (y 2).val
  · exact Or.inr ⟨(1, (y 2).val - 512), mem_ownKeys1_ml _ _ (Or.inl rfl) (by omega), h0, show (y 2).val = 512 + ((y 2).val - 512) by omega⟩
  · exact Or.inr ⟨(0, (y 2).val / 64), mem_ownKeys1_o _ (by omega) (by omega), h0, rfl⟩

end Cert.KernelIdeal.Talk
-- ==== Proof.Tail.lean ====
/-
# The kernel body after the first remote copy of the second chunk, on one device
-/
module

public import proofs.«01_k».proof.Proof.Windows
public import Idealize.ShloMosaic.Lib.Pipeline.Value

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

/-! ## What a device's talk with peer `i` needs -/

def known (c : Dev nD) (i : Fin 3) : sProp 𝕄 :=
  iprop(reached ER (barCell (peer i c)) 0 ∗ reached ER (sendCell c 0 i) 0 ∗ reached ER (sendCell c 1 i) 0
    ∗ reached ER (recvCell c 0 (peer i c)) 0 ∗ reached ER (recvCell c 1 (peer i c)) 0)
instance known_persistent (c : Dev nD) (i : Fin 3) : BI.Persistent (known (F := F) c i) := by unfold known; infer_instance
/-- The tokens of what it pays. -/
def pays (c : Dev nD) (i : Fin 3) : sProp 𝕄 :=
  iprop(dutyTok ER (barCell (peer i c)) 0 c ∗ dutyTok ER (sendCell c 0 i) 0 c ∗ dutyTok ER (recvCell (peer i c) 0 c) 0 c
    ∗ dutyTok ER (sendCell c 1 i) 0 c ∗ dutyTok ER (recvCell (peer i c) 1 c) 0 c)
/-- Its positions at the cells it waits on, and the launch's credit for what arrives. -/
def waits (c : Dev nD) (i : Fin 3) : sProp 𝕄 :=
  iprop(atPos ER (sendCell c 0 i) 0 ∅ 0 ∗ atPos ER (sendCell c 1 i) 0 ∅ 0
    ∗ atPos ER (recvCell c 0 (peer i c)) 0 ∅ 0 ∗ atPos ER (recvCell c 1 (peer i c)) 0 ∅ 0
    ∗ cred (tallyAt (recvCell c 0 (peer i c)) () N0) ∗ cred (tallyAt (recvCell c 1 (peer i c)) () N1))
/-- Its two windows of slot `p`. -/
def slotPts (c p : Dev nD) (f : S4x16x640.Idx → Elt F .f32) : sProp 𝕄 := iprop(winPts0 c p fullShare f ∗ winPts1 c p fullShare f)

theorem dev1_eq (c : Dev nD) : (⟨k0_dev1 c, k0_dev1_lt c⟩ : Dev nD) = peer 0 c := by revert c; decide
theorem dev2_eq (c : Dev nD) : (⟨k0_dev2 c, k0_dev2_lt c⟩ : Dev nD) = peer 1 c := by revert c; decide
theorem dev3_eq (c : Dev nD) : (⟨k0_dev3 c, k0_dev3_lt c⟩ : Dev nD) = peer 2 c := by revert c; decide
theorem dev4_eq (c : Dev nD) : (⟨k0_dev4 c, k0_dev4_lt c⟩ : Dev nD) = peer 0 c := by revert c; decide
theorem dev5_eq (c : Dev nD) : (⟨k0_dev5 c, k0_dev5_lt c⟩ : Dev nD) = peer 1 c := by revert c; decide
theorem dev6_eq (c : Dev nD) : (⟨k0_dev6 c, k0_dev6_lt c⟩ : Dev nD) = peer 2 c := by revert c; decide
theorem dev7_eq (c : Dev nD) : (⟨k0_dev7 c, k0_dev7_lt c⟩ : Dev nD) = peer 0 c := by revert c; decide
theorem dev8_eq (c : Dev nD) : (⟨k0_dev8 c, k0_dev8_lt c⟩ : Dev nD) = peer 1 c := by revert c; decide
theorem dev9_eq (c : Dev nD) : (⟨k0_dev9 c, k0_dev9_lt c⟩ : Dev nD) = peer 2 c := by revert c; decide

/-- The receive semaphore of chunk `k` from device `p`. -/
theorem recvSem (k : Fin 2) (p : Dev nD) (off : Fin 2 → ℕ) (h : off = ![k.val, p.val]) (inb) (h') :
    ((SemArray.slice cc0_scratch5 (Rect.unit (s := S2x4) off S1x1.size inb)).squeeze S_ h').sem = recvQ k p := by
  subst h; revert k p; decide
theorem off30_eq (c : Dev nD) : k0_off30 c = ![0, c.val] := by revert c; decide
theorem off44_eq (c : Dev nD) : k0_off44 c = ![1, c.val] := by revert c; decide

theorem off46_eq (c : Dev nD) : k0_off46 c = ![0, (peer 0 c).val] := by revert c; decide
theorem off48_eq (c : Dev nD) : k0_off48 c = ![1, (peer 0 c).val] := by revert c; decide
theorem off63_eq (c : Dev nD) : k0_off63 c = ![0, (peer 1 c).val] := by revert c; decide
theorem off65_eq (c : Dev nD) : k0_off65 c = ![0, (peer 2 c).val] := by revert c; decide
theorem off67_eq (c : Dev nD) : k0_off67 c = ![1, (peer 1 c).val] := by revert c; decide
theorem off69_eq (c : Dev nD) : k0_off69 c = ![1, (peer 2 c).val] := by revert c; decide

theorem credit0_at (off : Fin 3 → ℕ) (inb) (h) (h') :
    ((((Memref.whole cc0_scratch3).slice (Rect.unit (s := S4x16x640) off S1x16x256.size inb) h).squeeze S16x256 h' : Memref sig .tc .vmem S16x256 .f32)).view.dmaCredit = N0 := rfl
theorem credit1_at (off : Fin 3 → ℕ) (inb) (h) (h') :
    ((((Memref.whole cc0_scratch3).slice (Rect.unit (s := S4x16x640) off S1x16x384.size inb) h).squeeze S16x384 h' : Memref sig .tc .vmem S16x384 .f32)).view.dmaCredit = N1 := rfl
/-! ## Loads from a slot whose owner's parts are in it -/

/-- The load's own window lies in chunk `k` of slot `p`. -/
theorem load_slot {β : Type} {Q : β → sProp 𝕄} (c p : Dev nD) (k : Fin 2) (q : PosShare TreeShare) (g : S4x16x640.Idx → Elt F .f32)
    (off size : Fin 3 → ℕ) (inb) (h0 : off 0 = p.val) (hs0 : size 0 = 1) (hlo : k = 0 → off 2 + size 2 ≤ 256) (hhi : k = 1 → 256 ≤ off 2)
    {hl : (Memref.whole cc0_scratch3).view.LoadsAt (Rect.unit (s := S4x16x640) off size inb).toLoadRect}
    (w : (Rect.unit (s := S4x16x640) off size inb).toLoadRect.shape.Idx → Elt F .f32)
    (hw : (Memref.whole cc0_scratch3).view.readAt (Elt F) (Rect.unit (s := S4x16x640) off size inb).toLoadRect g = w)
    {kk : ((Rect.unit (s := S4x16x640) off size inb).toLoadRect.shape.Idx → Elt F .f32) → Prog (TpuEff nD τ sig (Elt F) Λ₀ .tc) β} :
    winPts k c p q g ⊢ iprop((winPts k c p q g -∗ wp frame (wpE (defs₀ (F := F)) 𝒱₀ (c : Thread nD τ) none) Set.univ (kk w) Q)
      -∗ wp frame (wpE (defs₀ (F := F)) 𝒱₀ (c : Thread nD τ) none) Set.univ (.op (.load (Memref.whole cc0_scratch3) (Rect.unit (s := S4x16x640) off size inb).toLoadRect hl) kk) Q) := by
  subst hw
  have hin : ∀ y : S4x16x640.Idx, y ∈ (Rect.unit (s := S4x16x640) off size inb).set → (y 0).val = p.val ∧ (k = 0 → (y 2).val < 256) ∧ (k = 1 → 256 ≤ (y 2).val) := by
    intro y hy
    rw [Rect.mem_set_unit] at hy
    have a0 := hy 0
    have a2 := hy 2
    rw [h0, hs0] at a0
    refine ⟨by omega, fun hk => ?_, fun hk => ?_⟩
    · have := hlo hk; omega
    · have := hhi hk; omega
  have hk : k = 0 ∨ k = 1 := by match k with | 0 => exact Or.inl rfl | 1 => exact Or.inr rfl
  rcases hk with rfl | rfl
  · refine Idealize.ShloMosaic.wp_load 𝒱₀ (c : Thread nD τ) none Set.univ (Finset.map_subset_map.mpr (fun y hy => ?_))
    exact (mem_winR0 p y).mpr ⟨(hin y hy).1, (hin y hy).2.1 rfl⟩
  · refine Idealize.ShloMosaic.wp_load 𝒱₀ (c : Thread nD τ) none Set.univ (Finset.map_subset_map.mpr (fun y hy => ?_))
    exact (mem_winR1 p y).mpr ⟨(hin y hy).1, (hin y hy).2.2 rfl⟩

theorem read_slot (g : S4x16x640.Idx → Elt F .f32) (off size : Fin 3 → ℕ) (inb) (x : (Rect.unit (s := S4x16x640) off size inb).shape.Idx) :
    (Memref.whole cc0_scratch3).view.readAt (Elt F) (Rect.unit (s := S4x16x640) off size inb).toLoadRect g x = g ((Rect.unit (s := S4x16x640) off size inb).emb x) := rfl

/-- A load of output `i`, of the eight maxima, of the eight weights: what the slot's owner computed. -/
theorem load_o {β : Type} {Q : β → sProp 𝕄} (I : Ins F) (c : Dev nD) (p : Dev nD → Dev nD) (k : Fin 2) (i : Fin 8) (hk : k.val = i.val / 4) (q : PosShare TreeShare) (f : S4x16x640.Idx → Elt F .f32)
    (off : Dev nD → Fin 3 → ℕ) (hoff : ∀ c, off c = ![(p c).val, 0, 64 * i.val]) {inb}
    {hl : (Memref.whole cc0_scratch3).view.LoadsAt (Rect.unit (s := S4x16x640) (off c) S1x16x64.size inb).toLoadRect}
    {kk : Vec F S1x16x64 .f32 → Prog (TpuEff nD τ sig (Elt F) Λ₀ .tc) β} :
    winPts k c (p c) q (commV I (p c) f) ⊢ iprop((winPts k c (p c) q (commV I (p c) f) -∗ wp frame (wpE (defs₀ (F := F)) 𝒱₀ (c : Thread nD τ) none) Set.univ (kk (hO I (p c) i)) Q)
      -∗ wp frame (wpE (defs₀ (F := F)) 𝒱₀ (c : Thread nD τ) none) Set.univ (.op (.load (Memref.whole cc0_scratch3) (Rect.unit (s := S4x16x640) (off c) S1x16x64.size inb).toLoadRect hl) kk) Q) := by
  have ho := hoff c
  generalize off c = o at *
  subst ho
  have hi := i.isLt
  refine load_slot c (p c) k q _ _ _ _ rfl rfl (fun h => ?_) (fun h => ?_) (hO I (p c) i) ?_
  · subst h; show 64 * i.val + 64 ≤ 256; change 0 = i.val / 4 at hk; omega
  · subst h; show 256 ≤ 64 * i.val; change 1 = i.val / 4 at hk; omega
  · funext x
    refine (read_slot _ _ _ _ x).trans ?_
    suffices key : ∀ z : S4x16x640.Idx, (z 0).val = (p c).val + (x 0).val → (z 1).val = 0 + (x 1).val → (z 2).val = 64 * i.val + (x 2).val → commV I (p c) f z = hO I (p c) i x from
      key _ (unit_emb_val (s := S4x16x640) ![(p c).val, 0, 64 * i.val] S1x16x64.size inb x 0) (unit_emb_val (s := S4x16x640) ![(p c).val, 0, 64 * i.val] S1x16x64.size inb x 1)
        (unit_emb_val (s := S4x16x640) ![(p c).val, 0, 64 * i.val] S1x16x64.size inb x 2)
    intro z e0 e1 e2
    have x0 : (x 0).val < 1 := (x 0).isLt
    have x1 : (x 1).val < 16 := (x 1).isLt
    have x2 : (x 2).val < 64 := (x 2).isLt
    unfold commV slotV
    rw [if_pos (by omega), dif_pos (by omega)]
    congr 1
    · exact Fin.ext (show (z 2).val / 64 = i.val by omega)
    · funext a
      match a with
      | ⟨0, _⟩ => exact Fin.ext (show 0 = (x 0).val by omega)
      | ⟨1, _⟩ => exact Fin.ext (show (z 1).val = (x 1).val by omega)
      | ⟨2, _⟩ => exact Fin.ext (show (z 2).val % 64 = (x 2).val by omega)
theorem load_ml {β : Type} {Q : β → sProp 𝕄} (I : Ins F) (c : Dev nD) (p : Dev nD → Dev nD) (w : Vec F S1x16x8 .f32) (b : ℕ) (hb : b = 512 ∧ w = mRow I (p c) ∨ b = 520 ∧ w = lRow I (p c)) (q : PosShare TreeShare) (f : S4x16x640.Idx → Elt F .f32)
    (off : Dev nD → Fin 3 → ℕ) (hoff : ∀ c, off c = ![(p c).val, 0, b]) {inb}
    {hl : (Memref.whole cc0_scratch3).view.LoadsAt (Rect.unit (s := S4x16x640) (off c) S1x16x8.size inb).toLoadRect}
    {kk : Vec F S1x16x8 .f32 → Prog (TpuEff nD τ sig (Elt F) Λ₀ .tc) β} :
    winPts 1 c (p c) q (commV I (p c) f) ⊢ iprop((winPts 1 c (p c) q (commV I (p c) f) -∗ wp frame (wpE (defs₀ (F := F)) 𝒱₀ (c : Thread nD τ) none) Set.univ (kk w) Q)
      -∗ wp frame (wpE (defs₀ (F := F)) 𝒱₀ (c : Thread nD τ) none) Set.univ (.op (.load (Memref.whole cc0_scratch3) (Rect.unit (s := S4x16x640) (off c) S1x16x8.size inb).toLoadRect hl) kk) Q) := by
  have ho := hoff c
  generalize off c = o at *
  subst ho
  refine load_slot c (p c) 1 q _ _ _ _ rfl rfl (fun h => absurd h (by decide)) (fun h => ?_) w ?_
  · show 256 ≤ b; omega
  · funext x
    refine (read_slot _ _ _ _ x).trans ?_
    suffices key : ∀ z : S4x16x640.Idx, (z 0).val = (p c).val + (x 0).val → (z 1).val = 0 + (x 1).val → (z 2).val = b + (x 2).val → commV I (p c) f z = w x from
      key _ (unit_emb_val (s := S4x16x640) ![(p c).val, 0, b] S1x16x8.size inb x 0) (unit_emb_val (s := S4x16x640) ![(p c).val, 0, b] S1x16x8.size inb x 1)
        (unit_emb_val (s := S4x16x640) ![(p c).val, 0, b] S1x16x8.size inb x 2)
    intro z e0 e1 e2
    have x0 : (x 0).val < 1 := (x 0).isLt
    have x1 : (x 1).val < 16 := (x 1).isLt
    have x2 : (x 2).val < 8 := (x 2).isLt
    have h1 : z 1 = x 1 := Fin.ext (by omega)
    unfold commV slotV
    rcases hb with ⟨rfl, rfl⟩ | ⟨rfl, rfl⟩
    · rw [if_pos (by omega), dif_neg (by omega), dif_pos (by omega)]
      have h2 : (⟨(z 2).val - 512, by omega⟩ : Fin 8) = x 2 := Fin.ext (show (z 2).val - 512 = (x 2).val by omega)
      rw [h2, h1]; rfl
    · rw [if_pos (by omega), dif_neg (by omega), dif_neg (by omega), dif_pos (by omega)]
      have h2 : (⟨(z 2).val - 520, by omega⟩ : Fin 8) = x 2 := Fin.ext (show (z 2).val - 520 = (x 2).val by omega)
      rw [h2, h1]; rfl

/-- A program that has its value already. -/
theorem ret_bind {α β : Type} {Q : β → sProp 𝕄} (c : Dev nD) (x : α) (f : α → Prog (TpuEff nD τ sig (Elt F) Λ₀ .tc) β) :
    wp frame (wpE (defs₀ (F := F)) 𝒱₀ (c : Thread nD τ) none) Set.univ (f x) Q
      ⊢ wp frame (wpE (defs₀ (F := F)) 𝒱₀ (c : Thread nD τ) none) Set.univ ((Prog.ret x).bind f) Q := .rfl

/-- What is left of the body once its seventh remote copy is under way. -/
abbrev tail (d0 : Dev nD) (v2 v5 v7 v8 v12 v16 v17 : BitVec 32) : Prog (TpuEff nD τ sig (Elt F) Λ₀ .tc) PUnit := do
  let v1951 : BitVec 32 ← k0_part64 (Memref.whole cc0_stg0_0) (Memref.isWhole_whole _) (Memref.whole main_v1) (Memref.isWhole_whole _) (Memref.whole main_v2) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 (Memref.whole cc0_scratch3) (Memref.isWhole_whole _) cc0_scratch4 cc0_scratch5 d0 v2 v5 v8 v16 v17
  let ⟨v1972, v1987, v1989, v1994, v1997⟩ : Σ' (v1972 : BitVec 32) (v1987 : FVec F S16x8 .f32) (v1989 : FVec F S16x8 .f32) (v1994 : FVec F S16x8 .f32), FVec F S16x64 .f32 ← k0_part65 (Memref.whole cc0_stg0_0) (Memref.isWhole_whole _) (Memref.whole main_v1) (Memref.isWhole_whole _) (Memref.whole main_v2) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 (Memref.whole cc0_scratch3) (Memref.isWhole_whole _) cc0_scratch4 cc0_scratch5 d0 v2 v7 v8 v1951
  let ⟨v2010, v2026, v2042, v2045⟩ : Σ' (v2010 : FVec F S16x64 .f32) (v2026 : FVec F S16x64 .f32) (v2042 : FVec F S16x64 .f32), FVec F S16x64 .f32 ← k0_part66 (Memref.whole cc0_stg0_0) (Memref.isWhole_whole _) (Memref.whole main_v1) (Memref.isWhole_whole _) (Memref.whole main_v2) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 (Memref.whole cc0_scratch3) (Memref.isWhole_whole _) cc0_scratch4 cc0_scratch5 d0 v7 v1951 v1987 v1989 v1994 v1997
  let ⟨v2058, v2074, v2090, v2093⟩ : Σ' (v2058 : FVec F S16x64 .f32) (v2074 : FVec F S16x64 .f32) (v2090 : FVec F S16x64 .f32), FVec F S16x64 .f32 ← k0_part67 (Memref.whole cc0_stg0_0) (Memref.isWhole_whole _) (Memref.whole main_v1) (Memref.isWhole_whole _) (Memref.whole main_v2) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 (Memref.whole cc0_scratch3) (Memref.isWhole_whole _) cc0_scratch4 cc0_scratch5 d0 v7 v1951 v1987 v1989 v1994 v2045
  k0_part68 (Memref.whole cc0_stg0_0) (Memref.isWhole_whole _) (Memref.whole main_v1) (Memref.isWhole_whole _) (Memref.whole main_v2) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 (Memref.whole cc0_scratch3) (Memref.isWhole_whole _) cc0_scratch4 cc0_scratch5 d0 v5 v7 v12 v1951 v1972 v1987 v1989 v1994 v2010 v2026 v2042 v2058 v2074 v2090 v2093
  k0_part69 (Memref.whole cc0_stg0_0) (Memref.isWhole_whole _) (Memref.whole main_v1) (Memref.isWhole_whole _) (Memref.whole main_v2) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 (Memref.whole cc0_scratch3) (Memref.isWhole_whole _) cc0_scratch4 cc0_scratch5 d0 v5 v12 v16 v17
  let ⟨v2169, v2173, v2175, v2190, v2192, v2197, v2200, v2203, v2204⟩ : Σ' (v2169 : BitVec 32) (v2173 : BitVec 32) (v2175 : BitVec 32) (v2190 : FVec F S16x8 .f32) (v2192 : FVec F S16x8 .f32) (v2197 : FVec F S16x8 .f32) (v2200 : FVec F S16x64 .f32) (v2203 : FVec F S16x64 .f32), FVec F S16x1 .f32 ← k0_part70 (Memref.whole cc0_stg0_0) (Memref.isWhole_whole _) (Memref.whole main_v1) (Memref.isWhole_whole _) (Memref.whole main_v2) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 (Memref.whole cc0_scratch3) (Memref.isWhole_whole _) cc0_scratch4 cc0_scratch5 d0 v2 v5
  let ⟨v2213, v2229, v2245, v2248, v2251, v2252⟩ : Σ' (v2213 : FVec F S16x64 .f32) (v2229 : FVec F S16x64 .f32) (v2245 : FVec F S16x64 .f32) (v2248 : FVec F S16x64 .f32) (v2251 : FVec F S16x64 .f32), FVec F S16x1 .f32 ← k0_part71 (Memref.whole cc0_stg0_0) (Memref.isWhole_whole _) (Memref.whole main_v1) (Memref.isWhole_whole _) (Memref.whole main_v2) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 (Memref.whole cc0_scratch3) (Memref.isWhole_whole _) cc0_scratch4 cc0_scratch5 d0 v2169 v2173 v2190 v2192 v2197 v2200 v2203 v2204
  let ⟨v2261, v2277, v2293, v2296, v2299, v2300⟩ : Σ' (v2261 : FVec F S16x64 .f32) (v2277 : FVec F S16x64 .f32) (v2293 : FVec F S16x64 .f32) (v2296 : FVec F S16x64 .f32) (v2299 : FVec F S16x64 .f32), FVec F S16x1 .f32 ← k0_part72 (Memref.whole cc0_stg0_0) (Memref.isWhole_whole _) (Memref.whole main_v1) (Memref.isWhole_whole _) (Memref.whole main_v2) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 (Memref.whole cc0_scratch3) (Memref.isWhole_whole _) cc0_scratch4 cc0_scratch5 d0 v2169 v2173 v2190 v2192 v2197 v2248 v2251 v2252
  k0_part73 (Memref.whole cc0_stg0_0) (Memref.isWhole_whole _) (Memref.whole main_v1) (Memref.isWhole_whole _) (Memref.whole main_v2) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 (Memref.whole cc0_scratch3) (Memref.isWhole_whole _) cc0_scratch4 cc0_scratch5 d0 v2169 v2173 v2175 v2190 v2192 v2197 v2213 v2229 v2245 v2261 v2277 v2293 v2296 v2299 v2300
  k0_part74 (Memref.whole cc0_stg0_0) (Memref.isWhole_whole _) (Memref.whole main_v1) (Memref.isWhole_whole _) (Memref.whole main_v2) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 (Memref.whole cc0_scratch3) (Memref.isWhole_whole _) cc0_scratch4 cc0_scratch5 d0
  let v2364 : Memref sig .tc .vmem S1x16x384 .f32 := (Memref.whole cc0_scratch3).slice (Rect.unit (s := S4x16x640) (k0_off45 d0) S1x16x384.size (k0_off45_inb d0)) (fun _ => rfl)
  let v2365 : Memref sig .tc .vmem S16x384 .f32 := v2364.squeeze S16x384 squeezes_S1x16x384_S16x384
  let v2360 : DmaSems sig S1x1 := cc0_scratch4.slice (Rect.unit (s := S2x3) ![1, 2] S1x1.size inb_S2x3_S1x1_1_2)
  let v2361 : DmaSems sig S_ := v2360.squeeze S_ squeezes_S1x1_S_
  let v2362 : Memref sig .tc .vmem S1x16x384 .f32 := (Memref.whole cc0_scratch3).slice (Rect.unit (s := S4x16x640) (k0_off45 d0) S1x16x384.size (k0_off45_inb d0)) (fun _ => rfl)
  let v2363 : Memref sig .tc .vmem S16x384 .f32 := v2362.squeeze S16x384 squeezes_S1x16x384_S16x384
  Prog.lift (.waitDma2 v2361.sem v2365 v2363 ((View.wordExact_bits rfl).reshape _ _) ((View.wordExact_bits rfl).reshape _ _))
  pure ⟨⟩

/-- What the talk leaves: every window whole again, every counter back at zero, nothing owed. -/
def done (I : Ins F) (c : Dev nD) : sProp 𝕄 :=
  iprop((∃ f, winPts0 c c fullShare f) ∗ (∃ f, winPts1 c c fullShare f)
    ∗ (∃ f, winPts0 c (peer 0 c) fullShare f) ∗ (∃ f, winPts1 c (peer 0 c) fullShare f)
    ∗ (∃ f, winPts0 c (peer 1 c) fullShare f) ∗ (∃ f, winPts1 c (peer 1 c) fullShare f)
    ∗ (∃ f, winPts0 c (peer 2 c) fullShare f) ∗ (∃ f, winPts1 c (peer 2 c) fullShare f)
    ∗ ((Memref.whole cc0_stg2_0).view.loc (c : Thread nD τ) ↦{fullShare} outV I c)
    ∗ (semVal (sendCell c 0 0) 0 ∗ semVal (sendCell c 0 1) 0 ∗ semVal (sendCell c 0 2) 0 ∗ semVal (sendCell c 1 0) 0 ∗ semVal (sendCell c 1 1) 0 ∗ semVal (sendCell c 1 2) 0)
    ∗ (semVal (recvCell c 0 (peer 0 c)) 0 ∗ semVal (recvCell c 0 (peer 1 c)) 0 ∗ semVal (recvCell c 0 (peer 2 c)) 0
      ∗ semVal (recvCell c 1 (peer 0 c)) 0 ∗ semVal (recvCell c 1 (peer 1 c)) 0 ∗ semVal (recvCell c 1 (peer 2 c)) 0)
    ∗ semVal (barCell c) 0 ∗ (∃ W, owes (c : Thread nD τ) (debt c 0) W))

/-! ## The result's two stores -/

/-- Eight heads of 64 lanes side by side. -/
def catHeads (v : Fin 8 → FVec F S16x64 .f32) : FVec F S16x512 .f32 :=
  concatenate S16x512 1 [⟨S16x64, v 0⟩, ⟨S16x64, v 1⟩, ⟨S16x64, v 2⟩, ⟨S16x64, v 3⟩, ⟨S16x64, v 4⟩, ⟨S16x64, v 5⟩, ⟨S16x64, v 6⟩, ⟨S16x64, v 7⟩]
    concatenates_S16x64_S16x64_S16x64_S16x64_S16x64_S16x64_S16x64_S16x64_S16x512_d1
omit [FloatOps F] in
theorem catHeads_apply (v : Fin 8 → FVec F S16x64 .f32) (x : S16x512.Idx) (i : Fin 8) (l : ℕ) (hl : l < 64) (hi : (x 1).val / 64 = i.val) (hx : (x 1).val % 64 = l) :
    catHeads v x = v i (ValueIdx.ix2 (n0 := 16) (n1 := 64) (x 0) ⟨l, hl⟩) :=
  concatenate_ofFn_apply (1 : Fin S16x512.rank) v concatenates_S16x64_S16x64_S16x64_S16x64_S16x64_S16x64_S16x64_S16x64_S16x512_d1 rfl 64 rfl x i hi _ hx.symm
    (fun b hb => by
      match b with
      | ⟨0, _⟩ => rfl
      | ⟨1, _⟩ => exact absurd rfl hb)

theorem out_writes (c : Dev nD) (fo : Buf (Elt F) ((Memref.whole cc0_stg2_0).view.loc (c : Thread nD τ))) (G : S16x1024.Idx → Elt F .f32) (L : List (View.Piece (Elt F) S16x1024 .f32))
    (hv : ∀ p ∈ L, ∀ x : p.1.shape.Idx, p.2 x = G (p.1.emb x)) (hy : ∀ y : S16x1024.Idx, ∃ p ∈ L, y ∈ p.1.set) : (Memref.whole cc0_stg2_0).view.writes (Elt F) fo L = G :=
  funext fun y => View.read_writes_apply_of_pieces (Memref.whole cc0_stg2_0).view fo G L hv y (hy y)

theorem out_stored (I : Ins F) (c : Dev nD) (fo : Buf (Elt F) ((Memref.whole cc0_stg2_0).view.loc (c : Thread nD τ))) (w1 w2 : FVec F S16x512 .f32)
    (h1 : w1 = catHeads (combH I c (peer 0 c))) (h2 : w2 = catHeads (combH I (peer 1 c) (peer 2 c))) :
    (Memref.whole cc0_stg2_0).view.writes (Elt F) fo [⟨Rect.unit (s := S16x1024) (k0_off91 c) S16x512.size (k0_off91_inb c), w2⟩, ⟨Rect.unit (s := S16x1024) (k0_off62 c) S16x512.size (k0_off62_inb c), w1⟩] = outV I c := by
  have hc : c.val < 4 := c.isLt
  refine out_writes c fo (outV I c) _ ?_ ?_
  · intro p hp x
    rcases List.mem_cons.mp hp with rfl | hp
    · subst h2
      suffices key : ∀ z : S16x1024.Idx, (z 0).val = 0 + (x 0).val → (z 1).val = (512 - 512 * (c.val / 2)) + (x 1).val → catHeads (combH I (peer 1 c) (peer 2 c)) x = outV I c z from
        key _ ((unit_emb_val (s := S16x1024) (k0_off91 c) S16x512.size (k0_off91_inb c) x 0).trans (congrArg (fun o : Fin 2 → ℕ => o 0 + (x 0).val) (k0_off91_eq c)))
          ((unit_emb_val (s := S16x1024) (k0_off91 c) S16x512.size (k0_off91_inb c) x 1).trans (congrArg (fun o : Fin 2 → ℕ => o 1 + (x 1).val) (k0_off91_eq c)))
      intro z e0 e1
      have x1 : (x 1).val < 512 := (x 1).isLt
      unfold outV
      rw [if_neg (by omega), catHeads_apply _ x ⟨(z 1).val % 512 / 64, by omega⟩ ((z 1).val % 64) (Nat.mod_lt _ (by decide)) (show (x 1).val / 64 = (z 1).val % 512 / 64 by omega) (by omega)]
      rw [show x 0 = z 0 from Fin.ext (by omega)]
    · rcases List.mem_singleton.mp hp with rfl
      subst h1
      suffices key : ∀ z : S16x1024.Idx, (z 0).val = 0 + (x 0).val → (z 1).val = 512 * (c.val / 2) + (x 1).val → catHeads (combH I c (peer 0 c)) x = outV I c z from
        key _ ((unit_emb_val (s := S16x1024) (k0_off62 c) S16x512.size (k0_off62_inb c) x 0).trans (congrArg (fun o : Fin 2 → ℕ => o 0 + (x 0).val) (k0_off62_eq c)))
          ((unit_emb_val (s := S16x1024) (k0_off62 c) S16x512.size (k0_off62_inb c) x 1).trans (congrArg (fun o : Fin 2 → ℕ => o 1 + (x 1).val) (k0_off62_eq c)))
      intro z e0 e1
      have x1 : (x 1).val < 512 := (x 1).isLt
      unfold outV
      rw [if_pos (by omega), catHeads_apply _ x ⟨(z 1).val % 512 / 64, by omega⟩ ((z 1).val % 64) (Nat.mod_lt _ (by decide)) (show (x 1).val / 64 = (z 1).val % 512 / 64 by omega) (by omega)]
      rw [show x 0 = z 0 from Fin.ext (by omega)]
  · intro y
    have y0 : (y 0).val < 16 := (y 0).isLt
    have y1 : (y 1).val < 1024 := (y 1).isLt
    by_cases h : (y 1).val / 512 = c.val / 2
    · refine ⟨_, List.mem_cons_of_mem _ List.mem_cons_self, ?_⟩
      refine (Rect.mem_set_unit (inb := k0_off62_inb c)).mpr ?_
      rw [k0_off62_eq]
      intro a
      match a with
      | ⟨0, _⟩ => show 0 ≤ (y 0).val ∧ (y 0).val < 0 + 16; omega
      | ⟨1, _⟩ => show 512 * (c.val / 2) ≤ (y 1).val ∧ (y 1).val < 512 * (c.val / 2) + 512; omega
    · refine ⟨_, List.mem_cons_self, ?_⟩
      refine (Rect.mem_set_unit (inb := k0_off91_inb c)).mpr ?_
      rw [k0_off91_eq]
      intro a
      match a with
      | ⟨0, _⟩ => show 0 ≤ (y 0).val ∧ (y 0).val < 0 + 16; omega
      | ⟨1, _⟩ => show 512 - 512 * (c.val / 2) ≤ (y 1).val ∧ (y 1).val < 512 - 512 * (c.val / 2) + 512; omega

/-- A cell whose one round is over gives its counter back. -/
theorem close_at (I : Ins F) (K : GSem nD τ sig → ℕ) {g : GSem nD τ sig} (hg : g ∈ (barCells ∪ scCells : Finset (GSem nD τ sig))) :
    iprop(invs I K ∗ atPos ER g (0 + 1) ∅ 0) ⊢ |={Set.univ}=> (semVal g 0 : sProp 𝕄) := by
  iintro ⟨#HI, H⟩
  iapply (step_close I (K g) g)
  isplitr; · iapply (inv_at I K hg); iexact HI
  iexact H

set_option maxHeartbeats 0 in
theorem tail_ok (I : Ins F) (K : GSem nD τ sig → ℕ) (c : Dev nD) (W : Waits sig Unit) (Q : PUnit → sProp 𝕄) (v2 v5 v7 v8 v12 v16 v17 : BitVec 32)
   (fo : Buf (Elt F) ((Memref.whole cc0_stg2_0).view.loc (c : Thread nD τ))) (fc g1 g2 : S4x16x640.Idx → Elt F .f32) :
   iprop(invs I K ∗ levAts L lv ∗ (known c 1 ∗ known c 2) ∗ (reached ER (recvCell (peer 1 c) 1 c) 0 ∗ reached ER (recvCell (peer 2 c) 1 c) 0)
    ∗ (dutyTok ER (sendCell c 1 1) 0 c ∗ dutyTok ER (recvCell (peer 1 c) 1 c) 0 c ∗ dutyTok ER (sendCell c 1 2) 0 c ∗ dutyTok ER (recvCell (peer 2 c) 1 c) 0 c)
    ∗ (waits c 0 ∗ waits c 1 ∗ waits c 2) ∗ atPos ER (barCell c) (0 + 1) ∅ 0
    ∗ (cred (tallyAt (sendCell c 0 0) () N0) ∗ cred (tallyAt (sendCell c 0 1) () N0) ∗ cred (tallyAt (sendCell c 0 2) () N0) ∗ cred (tallyAt (sendCell c 1 0) () N1))
    ∗ winPts0 c c (fullShare : PosShare TreeShare).left (commV I c fc)
    ∗ winPts1 c c (fullShare : PosShare TreeShare).left (commV I c fc) ∗ winPts1 c c (sendShare 1) (commV I c fc) ∗ winPts1 c c (sendShare 2) (commV I c fc)
    ∗ winPts1 (peer 1 c) c fullShare g1 ∗ winPts1 (peer 2 c) c fullShare g2
    ∗ ((Memref.whole cc0_stg2_0).view.loc (c : Thread nD τ) ↦{fullShare} fo)
    ∗ owes (c : Thread nD τ) (debt c 2) W ∗ (done I c -∗ Q ⟨⟩))
    ⊢ wp frame (wpE (defs₀ (F := F)) 𝒱₀ (c : Thread nD τ) none) Set.univ (tail c v2 v5 v7 v8 v12 v16 v17) Q := by
  unfold tail known waits
  iintro ⟨#HI, #Hlev, ⟨⟨#Hb1, #Hs01, #Hs11, #Hv01, #Hv11⟩, #Hb2, #Hs02, #Hs12, #Hv02, #Hv12⟩,
    ⟨#Hw11, #Hw12⟩, ⟨Ts11, Tv11, Ts12, Tv12⟩,
    ⟨⟨As00, As10, Ar00, Ar10, Cr00, Cr10⟩, ⟨As01, As11, Ar01, Ar11, Cr01, Cr11⟩, As02, As12, Ar02, Ar12, Cr02, Cr12⟩, HatB,
    ⟨Cs00, Cs01, Cs02, Cs10⟩, C0, C1, L1, L2, G11, G21, Hout, HO, HQ⟩
  ihave C0 := (Entails.of_eq (winPts_zero c c (fullShare : PosShare TreeShare).left (commV I c fc)).symm) $$ C0
  ihave C1 := (Entails.of_eq (winPts_one c c (fullShare : PosShare TreeShare).left (commV I c fc)).symm) $$ C1
  set_option sl_exec.dmaWindow true in
  sl_exec_parts
  iapply (step_send1 I K c 1 (dev8_eq c) 1 rfl rfl (recvSem 1 c _ (off44_eq c) _ _) fc g1) $$ [L1 G11 HO Ts11 Tv11]
  · isplitr; · iexact HI
    isplitl [L1]; · iexact L1
    isplitl [G11]; · iexact G11
    isplitl [HO]; · iexact HO
    isplitl [Ts11]; · iexact Ts11
    isplitr; · iexact Hs11
    isplitl [Tv11]; · iexact Tv11
    iexact Hw11
  iintro ⟨Cs11, HO⟩
  set_option sl_exec.dmaWindow true in
  sl_exec_parts
  iapply (step_send1 I K c 2 (dev9_eq c) 0 rfl rfl (recvSem 1 c _ (off44_eq c) _ _) fc g2) $$ [L2 G21 HO Ts12 Tv12]
  · isplitr; · iexact HI
    isplitl [L2]; · iexact L2
    isplitl [G21]; · iexact G21
    isplitl [HO]; · iexact HO
    isplitl [Ts12]; · iexact Ts12
    isplitr; · iexact Hs12
    isplitl [Tv12]; · iexact Tv12
    iexact Hw12
  iintro ⟨Cs12, HO⟩
  set_option sl_exec.dmaWindow true in
  sl_exec_parts
  iapply (step_recv0 I K c 0 (recvSem 0 (peer 0 c) _ (off46_eq c) _ _) (credit0_at (k0_off47 c) _ _ _)) $$ [Cr00 HO Ar00]
  · isplitr; · iexact HI
    isplitl [Cr00]; · iexact Cr00
    isplitl [HO]; · iexact HO
    iexact Ar00
  iintro ⟨HO, Ar00, %f00, P00⟩
  ihave P00 := (Entails.of_eq (winPts_zero c (peer 0 c) fullShare (commV I (peer 0 c) f00)).symm) $$ P00
  try iapply (ret_bind c _ _)
  try sl_exec_parts
  iapply (step_recv1 I K c 0 (recvSem 1 (peer 0 c) _ (off48_eq c) _ _) (credit1_at (k0_off49 c) _ _ _)) $$ [Cr10 HO Ar10]
  · isplitr; · iexact HI
    isplitl [Cr10]; · iexact Cr10
    isplitl [HO]; · iexact HO
    iexact Ar10
  iintro ⟨HO, Ar10, %f10, P10⟩
  ihave P10 := (Entails.of_eq (winPts_one c (peer 0 c) fullShare (commV I (peer 0 c) f10)).symm) $$ P10
  try iapply (ret_bind c _ _)
  try sl_exec_parts
  iapply (load_ml I c (fun c => c) (mRow I c) 512 (Or.inl ⟨rfl, rfl⟩) (fullShare : PosShare TreeShare).left fc k0_off50 (by decide)) $$ C1
  iintro C1
  try iapply (ret_bind c _ _)
  try sl_exec_parts
  iapply (load_ml I c (fun c => c) (lRow I c) 520 (Or.inr ⟨rfl, rfl⟩) (fullShare : PosShare TreeShare).left fc k0_off51 (by decide)) $$ C1
  iintro C1
  try iapply (ret_bind c _ _)
  try sl_exec_parts
  iapply (load_ml I c (peer 0) (mRow I (peer 0 c)) 512 (Or.inl ⟨rfl, rfl⟩) fullShare f10 k0_off52 (by decide)) $$ P10
  iintro P10
  try iapply (ret_bind c _ _)
  try sl_exec_parts
  iapply (load_ml I c (peer 0) (lRow I (peer 0 c)) 520 (Or.inr ⟨rfl, rfl⟩) fullShare f10 k0_off53 (by decide)) $$ P10
  iintro P10
  try iapply (ret_bind c _ _)
  try sl_exec_parts
  iapply (load_o I c (fun c => c) 0 0 (by decide) (fullShare : PosShare TreeShare).left fc k0_off18 (by decide)) $$ C0
  iintro C0
  try iapply (ret_bind c _ _)
  try sl_exec_parts
  iapply (load_o I c (peer 0) 0 0 (by decide) fullShare f00 k0_off54 (by decide)) $$ P00
  iintro P00
  try iapply (ret_bind c _ _)
  try sl_exec_parts
  iapply (load_o I c (fun c => c) 0 1 (by decide) (fullShare : PosShare TreeShare).left fc k0_off21 (by decide)) $$ C0
  iintro C0
  try iapply (ret_bind c _ _)
  try sl_exec_parts
  iapply (load_o I c (peer 0) 0 1 (by decide) fullShare f00 k0_off55 (by decide)) $$ P00
  iintro P00
  try iapply (ret_bind c _ _)
  try sl_exec_parts
  iapply (load_o I c (fun c => c) 0 2 (by decide) (fullShare : PosShare TreeShare).left fc k0_off24 (by decide)) $$ C0
  iintro C0
  try iapply (ret_bind c _ _)
  try sl_exec_parts
  iapply (load_o I c (peer 0) 0 2 (by decide) fullShare f00 k0_off56 (by decide)) $$ P00
  iintro P00
  try iapply (ret_bind c _ _)
  try sl_exec_parts
  iapply (load_o I c (fun c => c) 0 3 (by decide) (fullShare : PosShare TreeShare).left fc k0_off27 (by decide)) $$ C0
  iintro C0
  try iapply (ret_bind c _ _)
  try sl_exec_parts
  iapply (load_o I c (peer 0) 0 3 (by decide) fullShare f00 k0_off57 (by decide)) $$ P00
  iintro P00
  try iapply (ret_bind c _ _)
  try sl_exec_parts
  iapply (load_o I c (fun c => c) 1 4 (by decide) (fullShare : PosShare TreeShare).left fc k0_off32 (by decide)) $$ C1
  iintro C1
  try iapply (ret_bind c _ _)
  try sl_exec_parts
  iapply (load_o I c (peer 0) 1 4 (by decide) fullShare f10 k0_off58 (by decide)) $$ P10
  iintro P10
  try iapply (ret_bind c _ _)
  try sl_exec_parts
  iapply (load_o I c (fun c => c) 1 5 (by decide) (fullShare : PosShare TreeShare).left fc k0_off35 (by decide)) $$ C1
  iintro C1
  try iapply (ret_bind c _ _)
  try sl_exec_parts
  iapply (load_o I c (peer 0) 1 5 (by decide) fullShare f10 k0_off59 (by decide)) $$ P10
  iintro P10
  try iapply (ret_bind c _ _)
  try sl_exec_parts
  iapply (load_o I c (fun c => c) 1 6 (by decide) (fullShare : PosShare TreeShare).left fc k0_off38 (by decide)) $$ C1
  iintro C1
  try iapply (ret_bind c _ _)
  try sl_exec_parts
  iapply (load_o I c (peer 0) 1 6 (by decide) fullShare f10 k0_off60 (by decide)) $$ P10
  iintro P10
  try iapply (ret_bind c _ _)
  try sl_exec_parts
  iapply (load_o I c (fun c => c) 1 7 (by decide) (fullShare : PosShare TreeShare).left fc k0_off41 (by decide)) $$ C1
  iintro C1
  try iapply (ret_bind c _ _)
  try sl_exec_parts
  iapply (load_o I c (peer 0) 1 7 (by decide) fullShare f10 k0_off61 (by decide)) $$ P10
  iintro P10
  try iapply (ret_bind c _ _)
  try sl_exec_parts
  iapply (step_recv0 I K c 1 (recvSem 0 (peer 1 c) _ (off63_eq c) _ _) (credit0_at (k0_off64 c) _ _ _)) $$ [Cr01 HO Ar01]
  · isplitr; · iexact HI
    isplitl [Cr01]; · iexact Cr01
    isplitl [HO]; · iexact HO
    iexact Ar01
  iintro ⟨HO, Ar01, %f01, P01⟩
  ihave P01 := (Entails.of_eq (winPts_zero c (peer 1 c) fullShare (commV I (peer 1 c) f01)).symm) $$ P01
  try iapply (ret_bind c _ _)
  try sl_exec_parts
  iapply (step_recv0 I K c 2 (recvSem 0 (peer 2 c) _ (off65_eq c) _ _) (credit0_at (k0_off66 c) _ _ _)) $$ [Cr02 HO Ar02]
  · isplitr; · iexact HI
    isplitl [Cr02]; · iexact Cr02
    isplitl [HO]; · iexact HO
    iexact Ar02
  iintro ⟨HO, Ar02, %f02, P02⟩
  ihave P02 := (Entails.of_eq (winPts_zero c (peer 2 c) fullShare (commV I (peer 2 c) f02)).symm) $$ P02
  try iapply (ret_bind c _ _)
  try sl_exec_parts
  iapply (step_recv1 I K c 1 (recvSem 1 (peer 1 c) _ (off67_eq c) _ _) (credit1_at (k0_off68 c) _ _ _)) $$ [Cr11 HO Ar11]
  · isplitr; · iexact HI
    isplitl [Cr11]; · iexact Cr11
    isplitl [HO]; · iexact HO
    iexact Ar11
  iintro ⟨HO, Ar11, %f11, P11⟩
  ihave P11 := (Entails.of_eq (winPts_one c (peer 1 c) fullShare (commV I (peer 1 c) f11)).symm) $$ P11
  try iapply (ret_bind c _ _)
  try sl_exec_parts
  iapply (step_recv1 I K c 2 (recvSem 1 (peer 2 c) _ (off69_eq c) _ _) (credit1_at (k0_off70 c) _ _ _)) $$ [Cr12 HO Ar12]
  · isplitr; · iexact HI
    isplitl [Cr12]; · iexact Cr12
    isplitl [HO]; · iexact HO
    iexact Ar12
  iintro ⟨HO, Ar12, %f12, P12⟩
  ihave P12 := (Entails.of_eq (winPts_one c (peer 2 c) fullShare (commV I (peer 2 c) f12)).symm) $$ P12
  try iapply (ret_bind c _ _)
  try sl_exec_parts
  iapply (load_ml I c (peer 1) (mRow I (peer 1 c)) 512 (Or.inl ⟨rfl, rfl⟩) fullShare f11 k0_off71 (by decide)) $$ P11
  iintro P11
  try iapply (ret_bind c _ _)
  try sl_exec_parts
  iapply (load_ml I c (peer 1) (lRow I (peer 1 c)) 520 (Or.inr ⟨rfl, rfl⟩) fullShare f11 k0_off72 (by decide)) $$ P11
  iintro P11
  try iapply (ret_bind c _ _)
  try sl_exec_parts
  iapply (load_ml I c (peer 2) (mRow I (peer 2 c)) 512 (Or.inl ⟨rfl, rfl⟩) fullShare f12 k0_off73 (by decide)) $$ P12
  iintro P12
  try iapply (ret_bind c _ _)
  try sl_exec_parts
  iapply (load_ml I c (peer 2) (lRow I (peer 2 c)) 520 (Or.inr ⟨rfl, rfl⟩) fullShare f12 k0_off74 (by decide)) $$ P12
  iintro P12
  try iapply (ret_bind c _ _)
  try sl_exec_parts
  iapply (load_o I c (peer 1) 0 0 (by decide) fullShare f01 k0_off75 (by decide)) $$ P01
  iintro P01
  try iapply (ret_bind c _ _)
  try sl_exec_parts
  iapply (load_o I c (peer 2) 0 0 (by decide) fullShare f02 k0_off76 (by decide)) $$ P02
  iintro P02
  try iapply (ret_bind c _ _)
  try sl_exec_parts
  iapply (load_o I c (peer 1) 0 1 (by decide) fullShare f01 k0_off77 (by decide)) $$ P01
  iintro P01
  try iapply (ret_bind c _ _)
  try sl_exec_parts
  iapply (load_o I c (peer 2) 0 1 (by decide) fullShare f02 k0_off78 (by decide)) $$ P02
  iintro P02
  try iapply (ret_bind c _ _)
  try sl_exec_parts
  iapply (load_o I c (peer 1) 0 2 (by decide) fullShare f01 k0_off79 (by decide)) $$ P01
  iintro P01
  try iapply (ret_bind c _ _)
  try sl_exec_parts
  iapply (load_o I c (peer 2) 0 2 (by decide) fullShare f02 k0_off80 (by decide)) $$ P02
  iintro P02
  try iapply (ret_bind c _ _)
  try sl_exec_parts
  iapply (load_o I c (peer 1) 0 3 (by decide) fullShare f01 k0_off81 (by decide)) $$ P01
  iintro P01
  try iapply (ret_bind c _ _)
  try sl_exec_parts
  iapply (load_o I c (peer 2) 0 3 (by decide) fullShare f02 k0_off82 (by decide)) $$ P02
  iintro P02
  try iapply (ret_bind c _ _)
  try sl_exec_parts
  iapply (load_o I c (peer 1) 1 4 (by decide) fullShare f11 k0_off83 (by decide)) $$ P11
  iintro P11
  try iapply (ret_bind c _ _)
  try sl_exec_parts
  iapply (load_o I c (peer 2) 1 4 (by decide) fullShare f12 k0_off84 (by decide)) $$ P12
  iintro P12
  try iapply (ret_bind c _ _)
  try sl_exec_parts
  iapply (load_o I c (peer 1) 1 5 (by decide) fullShare f11 k0_off85 (by decide)) $$ P11
  iintro P11
  try iapply (ret_bind c _ _)
  try sl_exec_parts
  iapply (load_o I c (peer 2) 1 5 (by decide) fullShare f12 k0_off86 (by decide)) $$ P12
  iintro P12
  try iapply (ret_bind c _ _)
  try sl_exec_parts
  iapply (load_o I c (peer 1) 1 6 (by decide) fullShare f11 k0_off87 (by decide)) $$ P11
  iintro P11
  try iapply (ret_bind c _ _)
  try sl_exec_parts
  iapply (load_o I c (peer 2) 1 6 (by decide) fullShare f12 k0_off88 (by decide)) $$ P12
  iintro P12
  try iapply (ret_bind c _ _)
  try sl_exec_parts
  iapply (load_o I c (peer 1) 1 7 (by decide) fullShare f11 k0_off89 (by decide)) $$ P11
  iintro P11
  try iapply (ret_bind c _ _)
  try sl_exec_parts
  iapply (load_o I c (peer 2) 1 7 (by decide) fullShare f12 k0_off90 (by decide)) $$ P12
  iintro P12
  try iapply (ret_bind c _ _)
  try sl_exec_parts
  iapply (step_sent0 I K c 0 rfl (credit0_at (k0_off31 c) _ _ _)) $$ [Cs00 HO As00]
  · isplitr; · iexact HI
    isplitl [Cs00]; · iexact Cs00
    isplitl [HO]; · iexact HO
    iexact As00
  iintro ⟨HO, As00, %e00, E00⟩
  try iapply (ret_bind c _ _)
  try sl_exec_parts
  iapply (step_sent0 I K c 1 rfl (credit0_at (k0_off31 c) _ _ _)) $$ [Cs01 HO As01]
  · isplitr; · iexact HI
    isplitl [Cs01]; · iexact Cs01
    isplitl [HO]; · iexact HO
    iexact As01
  iintro ⟨HO, As01, %e01, E01⟩
  try iapply (ret_bind c _ _)
  try sl_exec_parts
  iapply (step_sent0 I K c 2 rfl (credit0_at (k0_off31 c) _ _ _)) $$ [Cs02 HO As02]
  · isplitr; · iexact HI
    isplitl [Cs02]; · iexact Cs02
    isplitl [HO]; · iexact HO
    iexact As02
  iintro ⟨HO, As02, %e02, E02⟩
  try iapply (ret_bind c _ _)
  try sl_exec_parts
  iapply (step_sent1 I K c 0 rfl (credit1_at (k0_off45 c) _ _ _)) $$ [Cs10 HO As10]
  · isplitr; · iexact HI
    isplitl [Cs10]; · iexact Cs10
    isplitl [HO]; · iexact HO
    iexact As10
  iintro ⟨HO, As10, %e10, E10⟩
  try iapply (ret_bind c _ _)
  try sl_exec_parts
  iapply (step_sent1 I K c 1 rfl (credit1_at (k0_off45 c) _ _ _)) $$ [Cs11 HO As11]
  · isplitr; · iexact HI
    isplitl [Cs11]; · iexact Cs11
    isplitl [HO]; · iexact HO
    iexact As11
  iintro ⟨HO, As11, %e11, E11⟩
  try iapply (ret_bind c _ _)
  try sl_exec_parts
  iapply (step_sent1 I K c 2 rfl (credit1_at (k0_off45 c) _ _ _)) $$ [Cs12 HO As12]
  · isplitr; · iexact HI
    isplitl [Cs12]; · iexact Cs12
    isplitl [HO]; · iexact HO
    iexact As12
  iintro ⟨HO, As12, %e12, E12⟩
  try iapply (ret_bind c _ _)
  try sl_exec_parts
  imod (close_at I K (bar_mem c)) $$ [HatB] with HzB
  · isplitr; · iexact HI
    iexact HatB
  imod (close_at I K (send_mem c 0 0)) $$ [As00] with Zs00
  · isplitr; · iexact HI
    iexact As00
  imod (close_at I K (send_mem c 0 1)) $$ [As01] with Zs01
  · isplitr; · iexact HI
    iexact As01
  imod (close_at I K (send_mem c 0 2)) $$ [As02] with Zs02
  · isplitr; · iexact HI
    iexact As02
  imod (close_at I K (send_mem c 1 0)) $$ [As10] with Zs10
  · isplitr; · iexact HI
    iexact As10
  imod (close_at I K (send_mem c 1 1)) $$ [As11] with Zs11
  · isplitr; · iexact HI
    iexact As11
  imod (close_at I K (send_mem c 1 2)) $$ [As12] with Zs12
  · isplitr; · iexact HI
    iexact As12
  imod (close_at I K (recv_mem c 0 (peer 0 c))) $$ [Ar00] with Zr00
  · isplitr; · iexact HI
    iexact Ar00
  imod (close_at I K (recv_mem c 0 (peer 1 c))) $$ [Ar01] with Zr01
  · isplitr; · iexact HI
    iexact Ar01
  imod (close_at I K (recv_mem c 0 (peer 2 c))) $$ [Ar02] with Zr02
  · isplitr; · iexact HI
    iexact Ar02
  imod (close_at I K (recv_mem c 1 (peer 0 c))) $$ [Ar10] with Zr10
  · isplitr; · iexact HI
    iexact Ar10
  imod (close_at I K (recv_mem c 1 (peer 1 c))) $$ [Ar11] with Zr11
  · isplitr; · iexact HI
    iexact Ar11
  imod (close_at I K (recv_mem c 1 (peer 2 c))) $$ [Ar12] with Zr12
  · isplitr; · iexact HI
    iexact Ar12
  ihave C0 := (Entails.of_eq (winPts_zero c c (fullShare : PosShare TreeShare).left (commV I c fc))) $$ C0
  ihave C1 := (Entails.of_eq (winPts_one c c (fullShare : PosShare TreeShare).left (commV I c fc))) $$ C1
  rw [wp_ret]
  imodintro
  iapply HQ
  unfold done
  isplitl [C0 E00 E01 E02]
  · iexists (commV I c fc)
    iapply (unlend (commV I c fc) e00 e01 e02)
    isplitl [C0]; · iexact C0
    isplitl [E00]; · iexact E00
    isplitl [E01]; · iexact E01
    iexact E02
  isplitl [C1 E10 E11 E12]
  · iexists (commV I c fc)
    iapply (unlend (commV I c fc) e10 e11 e12)
    isplitl [C1]; · iexact C1
    isplitl [E10]; · iexact E10
    isplitl [E11]; · iexact E11
    iexact E12
  isplitl [P00]
  · iexists (commV I (peer 0 c) f00); iapply (Entails.of_eq (winPts_zero c (peer 0 c) fullShare (commV I (peer 0 c) f00))); iexact P00
  isplitl [P10]
  · iexists (commV I (peer 0 c) f10); iapply (Entails.of_eq (winPts_one c (peer 0 c) fullShare (commV I (peer 0 c) f10))); iexact P10
  isplitl [P01]
  · iexists (commV I (peer 1 c) f01); iapply (Entails.of_eq (winPts_zero c (peer 1 c) fullShare (commV I (peer 1 c) f01))); iexact P01
  isplitl [P11]
  · iexists (commV I (peer 1 c) f11); iapply (Entails.of_eq (winPts_one c (peer 1 c) fullShare (commV I (peer 1 c) f11))); iexact P11
  isplitl [P02]
  · iexists (commV I (peer 2 c) f02); iapply (Entails.of_eq (winPts_zero c (peer 2 c) fullShare (commV I (peer 2 c) f02))); iexact P02
  isplitl [P12]
  · iexists (commV I (peer 2 c) f12); iapply (Entails.of_eq (winPts_one c (peer 2 c) fullShare (commV I (peer 2 c) f12))); iexact P12
  isplitl [Hout]
  · iapply (Entails.of_eq (congrArg (fun f => ((Memref.whole cc0_stg2_0).view.loc (c : Thread nD τ) ↦{fullShare} f : sProp 𝕄)) (out_stored I c fo _ _ rfl rfl))); iexact Hout
  isplitl [Zs00 Zs01 Zs02 Zs10 Zs11 Zs12]
  · isplitl [Zs00]; · iexact Zs00
    isplitl [Zs01]; · iexact Zs01
    isplitl [Zs02]; · iexact Zs02
    isplitl [Zs10]; · iexact Zs10
    isplitl [Zs11]; · iexact Zs11
    iexact Zs12
  isplitl [Zr00 Zr01 Zr02 Zr10 Zr11 Zr12]
  · isplitl [Zr00]; · iexact Zr00
    isplitl [Zr01]; · iexact Zr01
    isplitl [Zr02]; · iexact Zr02
    isplitl [Zr10]; · iexact Zr10
    isplitl [Zr11]; · iexact Zr11
    iexact Zr12
  isplitl [HzB]; · iexact HzB
  iexists _
  iexact HO

end Cert.KernelIdeal.Talk
-- ==== Proof.Fund.lean ====
/-
# The launch: every cell's invariant, every duty's token, and the credit of what each device will be sent

The barrier cells are funded from their counters; the send and receive cells are funded without theirs, and each device opens
its own when its kernel starts.
-/
module

public import proofs.«01_k».proof.Proof.Tail
public import Idealize.ShloMosaic.Harness.Basic
public import Idealize.ShloMosaic.Lib.Pipeline.Regions
public import Idealize.ShloMosaic.Lib.Pipeline.Quiescent
public import Idealize.ShloMosaic.Lib.Pipeline.Frame

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact absurd (congrArg Prod.snd h) (fun h => nomatch h)

/-! ## The tokens: fifteen payments of each device -/

/-- The cell of device `c`'s payment `n`: its nine remote ones, then its six own sends. -/
def tokCell (c : Dev nD) (n : Fin 9 ⊕ (Fin 2 × Fin 3)) : GSem nD τ sig :=
  match n with
  | .inl n => payCell c n.val
  | .inr k => sendCell c k.1 k.2
theorem tokCell_inj (c : Dev nD) : Function.Injective (tokCell c) := by
  have h : ∀ c : Dev nD, ∀ a b, tokCell c a = tokCell c b → a = b := by decide
  exact h c
def tokEmb : Dev nD × (Fin 9 ⊕ (Fin 2 × Fin 3)) ↪ GSem nD τ sig × ℕ × Dev nD :=
  ⟨fun ck => (tokCell ck.1 ck.2, 0, ck.1), fun a b h => by
    have h1 : a.1 = b.1 := congrArg (fun t : GSem nD τ sig × ℕ × Dev nD => t.2.2) h
    have h2 : tokCell a.1 a.2 = tokCell b.1 b.2 := congrArg (fun t : GSem nD τ sig × ℕ × Dev nD => t.1) h
    rw [← h1] at h2
    exact Prod.ext h1 (tokCell_inj a.1 h2)⟩
def talkToks : Finset (GSem nD τ sig × ℕ × Dev nD) := Finset.univ.map tokEmb

/-- Every device's tokens are those it pays its three peers with. -/
theorem toks_eq : bigSep talkToks (fun x => (dutyTok ER x.1 x.2.1 x.2.2 : sProp 𝕄))
    ⊢ bigSep Finset.univ fun c : Dev nD => iprop(pays (F := F) c 0 ∗ pays c 1 ∗ pays c 2) := by
  unfold talkToks
  rw [bigSep_map, bigSep_univ_prod]
  refine bigSep_mono fun c _ => ?_
  rw [bigSep_univ_sum, bigSep_univ_prod, bigSep_univ_eq_bigSepL [(0 : Fin 9), 1, 2, 3, 4, 5, 6, 7, 8] (by decide) (by decide),
    bigSep_univ_eq_bigSepL [(0 : Fin 2), 1] (by decide) (by decide)]
  simp only [bigSep_univ_eq_bigSepL [(0 : Fin 3), 1, 2] (by decide) (by decide)]
  show iprop((dutyTok ER (recvCell (peer 2 c) 1 c) 0 c ∗ dutyTok ER (recvCell (peer 1 c) 1 c) 0 c ∗ dutyTok ER (recvCell (peer 0 c) 1 c) 0 c
      ∗ dutyTok ER (recvCell (peer 2 c) 0 c) 0 c ∗ dutyTok ER (recvCell (peer 1 c) 0 c) 0 c ∗ dutyTok ER (recvCell (peer 0 c) 0 c) 0 c
      ∗ dutyTok ER (barCell (peer 2 c)) 0 c ∗ dutyTok ER (barCell (peer 1 c)) 0 c ∗ dutyTok ER (barCell (peer 0 c)) 0 c)
    ∗ ((dutyTok ER (sendCell c 0 0) 0 c ∗ dutyTok ER (sendCell c 0 1) 0 c ∗ dutyTok ER (sendCell c 0 2) 0 c)
      ∗ (dutyTok ER (sendCell c 1 0) 0 c ∗ dutyTok ER (sendCell c 1 1) 0 c ∗ dutyTok ER (sendCell c 1 2) 0 c))) ⊢ _
  unfold pays
  iintro ⟨⟨Hr12, Hr11, Hr10, Hr02, Hr01, Hr00, Hb2, Hb1, Hb0⟩, ⟨Hs00, Hs01, Hs02⟩, Hs10, Hs11, Hs12⟩
  isplitl [Hr10 Hr00 Hb0 Hs00 Hs10]
  · isplitl [Hb0]; · iexact Hb0
    isplitl [Hs00]; · iexact Hs00
    isplitl [Hr00]; · iexact Hr00
    isplitl [Hs10] <;> iassumption
  isplitl [Hr11 Hr01 Hb1 Hs01 Hs11]
  · isplitl [Hb1]; · iexact Hb1
    isplitl [Hs01]; · iexact Hs01
    isplitl [Hr01]; · iexact Hr01
    isplitl [Hs11] <;> iassumption
  · isplitl [Hb2]; · iexact Hb2
    isplitl [Hs02]; · iexact Hs02
    isplitl [Hr02]; · iexact Hr02
    isplitl [Hs12] <;> iassumption

/-! ## A device's send and receive cells, by chunk and peer -/

/-- The six sends and the eight receives among the fourteen. -/
def talkIx : (Fin 2 × Fin 3) ⊕ (Fin 2 × Fin 4) → Fin 14
  | .inl k => ⟨3 * k.1.val + k.2.val, by omega⟩
  | .inr k => ⟨6 + (4 * k.1.val + k.2.val), by omega⟩
def talkEquiv : (Fin 2 × Fin 3) ⊕ (Fin 2 × Fin 4) ≃ Fin 14 := Equiv.ofBijective talkIx (by decide)

omit [FloatOps F] in
theorem bigSep_peers (c : Dev nD) (Φ : Dev nD → sProp 𝕄) : bigSep Finset.univ Φ = iprop(Φ c ∗ Φ (peer 0 c) ∗ Φ (peer 1 c) ∗ Φ (peer 2 c)) := by
  rw [univ_peers c, bigSep_insert (by revert c; decide), bigSep_insert (by revert c; decide), bigSep_insert (by revert c; decide), bigSep_singleton]
  rfl

/-- One thing for each of a device's six sends and eight receives. -/
def eachQ (c : Dev nD) (Φ : GSem nD τ sig → sProp 𝕄) : sProp 𝕄 :=
  iprop((Φ (sendCell c 0 0) ∗ Φ (sendCell c 0 1) ∗ Φ (sendCell c 0 2)) ∗ (Φ (sendCell c 1 0) ∗ Φ (sendCell c 1 1) ∗ Φ (sendCell c 1 2))
    ∗ (Φ (recvCell c 0 c) ∗ Φ (recvCell c 0 (peer 0 c)) ∗ Φ (recvCell c 0 (peer 1 c)) ∗ Φ (recvCell c 0 (peer 2 c)))
    ∗ (Φ (recvCell c 1 c) ∗ Φ (recvCell c 1 (peer 0 c)) ∗ Φ (recvCell c 1 (peer 1 c)) ∗ Φ (recvCell c 1 (peer 2 c))))

omit [FloatOps F] in
theorem eachQ_eq (c : Dev nD) (Φ : GSem nD τ sig → sProp 𝕄) :
    iprop((bigSep Finset.univ fun k : Fin 2 => bigSep Finset.univ fun i : Fin 3 => Φ (sendCell c k i))
      ∗ (bigSep Finset.univ fun k : Fin 2 => bigSep Finset.univ fun p : Dev nD => Φ (recvCell c k p))) ⊣⊢ eachQ c Φ := by
  rw [bigSep_univ_eq_bigSepL [(0 : Fin 2), 1] (by decide) (by decide), bigSep_univ_eq_bigSepL [(0 : Fin 2), 1] (by decide) (by decide)]
  simp only [bigSep_univ_eq_bigSepL [(0 : Fin 3), 1, 2] (by decide) (by decide), bigSep_peers c]
  show iprop(((Φ (sendCell c 0 0) ∗ Φ (sendCell c 0 1) ∗ Φ (sendCell c 0 2)) ∗ (Φ (sendCell c 1 0) ∗ Φ (sendCell c 1 1) ∗ Φ (sendCell c 1 2)))
    ∗ ((Φ (recvCell c 0 c) ∗ Φ (recvCell c 0 (peer 0 c)) ∗ Φ (recvCell c 0 (peer 1 c)) ∗ Φ (recvCell c 0 (peer 2 c)))
    ∗ (Φ (recvCell c 1 c) ∗ Φ (recvCell c 1 (peer 0 c)) ∗ Φ (recvCell c 1 (peer 1 c)) ∗ Φ (recvCell c 1 (peer 2 c))))) ⊣⊢ _
  unfold eachQ
  constructor
  · iintro ⟨⟨H1, H2⟩, H3, H4⟩
    isplitl [H1]; · iexact H1
    isplitl [H2]; · iexact H2
    isplitl [H3] <;> iassumption
  · iintro ⟨H1, H2, H3, H4⟩
    isplitl [H1 H2]; · isplitl [H1] <;> iassumption
    isplitl [H3] <;> iassumption

theorem open_eq : bigSep scCells (fun g => (openTok ER g : sProp 𝕄)) ⊢ bigSep Finset.univ fun c : Dev nD => eachQ (F := F) c (openTok ER) := by
  rw [bigSep_map, bigSep_univ_prod]
  refine bigSep_mono fun c _ => ?_
  rw [bigSep_univ_equiv talkEquiv, bigSep_univ_sum, bigSep_univ_prod, bigSep_univ_prod]
  refine Entails.trans (Entails.of_eq ?_) (eachQ_eq c (openTok ER)).1
  refine congrArg₂ (fun a b => iprop(a ∗ b)) ?_ ?_
  · refine bigSep_congr fun k _ => bigSep_congr fun i _ => ?_
    rfl
  · refine bigSep_congr fun k _ => bigSep_congr fun p _ => ?_
    exact congrArg (fun q => openTok ER (((c : Thread nD τ), SemLoc.dma q) : GSem nD τ sig))
      (Fin.ext (show 67 + (6 + (4 * k.val + p.val)) = 73 + (4 * k.val + p.val) by omega))

/-! ## The launch credit -/

theorem debt_apply (c : Dev nD) (n : ℕ) (g : GSem nD τ sig) : debt c n g () = ∑ k ∈ Finset.range n, if g = payCell c k then amtOf g.2 else 0 := by
  induction n with
  | zero => rfl
  | succ n ih =>
    rw [Finset.sum_range_succ, ← ih]
    show (debt c n + tallyAt (payCell c n) () (amtOf (payCell c n).2)) g () = _
    rw [Pi.add_apply, Finsupp.add_apply, tallyAt_apply]
    by_cases h : g = payCell c n
    · rw [if_pos ⟨h, rfl⟩, if_pos h, h]
    · rw [if_neg (fun h' => h h'.1), if_neg h]

/-- What a cell is owed by all the devices together. -/
theorem owed_all (g : GSem nD τ sig) (n : ℕ) (h : (∑ d : Dev nD, ∑ k ∈ Finset.range 9, if g = payCell d k then 1 else 0) = n) :
    ∑ d : Dev nD, O₀ d g () = n * amtOf g.2 := by
  rw [← h, Finset.sum_mul]
  refine Finset.sum_congr rfl fun d _ => ?_
  rw [debt_apply, Finset.sum_mul]
  refine Finset.sum_congr rfl fun k _ => ?_
  split <;> simp

theorem launch_at (g : GSem nD τ sig) (n : ℕ) (h : (∑ d : Dev nD, ∑ k ∈ Finset.range 9, if g = payCell d k then 1 else 0) = n) :
    tallyOn g (launchCredit (Pipeline.owing O₀) 0 g) = (tallyAt g () (n * amtOf g.2) : CellTallies nD τ sig Unit) := by
  unfold tallyAt; refine congrArg _ (Finsupp.ext fun u => ?_); cases u
  rw [Pipeline.launchCredit_owing, Finsupp.single_eq_same, owed_all g n h]

theorem launch_bar (c : Dev nD) : tallyOn (barCell c) (launchCredit (Pipeline.owing O₀) 0 (barCell c)) = (tallyAt (barCell c) () 3 : CellTallies nD τ sig Unit) :=
  launch_at (barCell c) 3 (by revert c; decide)
theorem launch_recv (c : Dev nD) (k : Fin 2) (i : Fin 3) :
    tallyOn (recvCell c k (peer i c)) (launchCredit (Pipeline.owing O₀) 0 (recvCell c k (peer i c))) = (tallyAt (recvCell c k (peer i c)) () (Nk k) : CellTallies nD τ sig Unit) := by
  rw [launch_at (recvCell c k (peer i c)) 1 (by revert c k i; decide), Nat.one_mul]
  show tallyAt _ _ (if kOf (recvQ k (peer i c)) = 0 then N0 else N1) = _
  rw [kOf_recv]

/-- The credit a device starts with: its barrier's three, and the six chunks it will be sent. -/
def credits (c : Dev nD) : sProp 𝕄 :=
  iprop(cred (tallyAt (barCell c) () 3)
    ∗ (cred (tallyAt (recvCell c 0 (peer 0 c)) () N0) ∗ cred (tallyAt (recvCell c 0 (peer 1 c)) () N0) ∗ cred (tallyAt (recvCell c 0 (peer 2 c)) () N0))
    ∗ (cred (tallyAt (recvCell c 1 (peer 0 c)) () N1) ∗ cred (tallyAt (recvCell c 1 (peer 1 c)) () N1) ∗ cred (tallyAt (recvCell c 1 (peer 2 c)) () N1)))

theorem creds (c : Dev nD) : (Pipeline.launchCred O₀ c : sProp 𝕄) ⊢ credits c := by
  unfold Pipeline.launchCred credits
  refine BI.Entails.trans (bigSep_subset (t := [barS, .dma (recvQ 0 (peer 0 c)), .dma (recvQ 0 (peer 1 c)), .dma (recvQ 0 (peer 2 c)),
    .dma (recvQ 1 (peer 0 c)), .dma (recvQ 1 (peer 1 c)), .dma (recvQ 1 (peer 2 c))].toFinset) (Finset.subset_univ _)) ?_
  rw [bigSep_eq_bigSepL_of_eq _ rfl (by revert c; decide)]
  show iprop(cred (tallyOn (barCell c) _) ∗ cred (tallyOn (recvCell c 0 (peer 0 c)) _) ∗ cred (tallyOn (recvCell c 0 (peer 1 c)) _) ∗ cred (tallyOn (recvCell c 0 (peer 2 c)) _)
    ∗ cred (tallyOn (recvCell c 1 (peer 0 c)) _) ∗ cred (tallyOn (recvCell c 1 (peer 1 c)) _) ∗ cred (tallyOn (recvCell c 1 (peer 2 c)) _)) ⊢ _
  rw [launch_bar, launch_recv c 0 0, launch_recv c 0 1, launch_recv c 0 2, launch_recv c 1 0, launch_recv c 1 1, launch_recv c 1 2]
  iintro ⟨Hb, H00, H01, H02, H10, H11, H12⟩
  isplitl [Hb]; · iexact Hb
  isplitl [H00 H01 H02]
  · isplitl [H00]; · iexact H00
    isplitl [H01]; · iexact H01
    iexact H02
  isplitl [H10]; · iexact H10
  isplitl [H11]; · iexact H11
  iexact H12

/-! ## The ghost state of a device -/

/-- The records every device may consult. -/
def records (I : Ins F) (κ : GSem nD τ sig → ℕ) : sProp 𝕄 := iprop(invs I κ ∗ bigSep barCells fun g => reached ER g 0)
instance records_persistent (I : Ins F) (κ : GSem nD τ sig → ℕ) : BI.Persistent (records I κ) := by unfold records; infer_instance

theorem reached_at (c : Dev nD) : (bigSep barCells fun g => (reached ER g 0 : sProp 𝕄)) ⊢ reached ER (barCell c) 0 :=
  bigSep_elim (Finset.mem_map_of_mem barEmb (Finset.mem_univ c))

/-- What stays with device `c`: its barrier position, its rights to open its cells, the tokens of what it pays. -/
def linear (c : Dev nD) : sProp 𝕄 :=
  iprop(atPos ER (barCell c) 0 ∅ 0 ∗ eachQ c (openTok ER) ∗ (pays (F := F) c 0 ∗ pays c 1 ∗ pays c 2))

/-- A device's state up to its kernel. -/
def start (I : Ins F) (c : Dev nD) : sProp 𝕄 := iprop((∃ K, records I K) ∗ linear c ∗ credits c)

/-- Its state once its kernel has opened its cells. -/
def opened (I : Ins F) (c : Dev nD) : sProp 𝕄 :=
  iprop((∃ K, invs I K) ∗ (known (F := F) c 0 ∗ known c 1 ∗ known c 2) ∗ (pays (F := F) c 0 ∗ pays c 1 ∗ pays c 2)
    ∗ (waits (F := F) c 0 ∗ waits c 1 ∗ waits c 2) ∗ atPos ER (barCell c) 0 ∅ 0 ∗ cred (tallyAt (barCell c) () 3)
    ∗ (semVal (recvCell c 0 c) 0 ∗ semVal (recvCell c 1 c) 0))

/-- One cell opened. -/
theorem open_at (I : Ins F) (K : GSem nD τ sig → ℕ) {g : GSem nD τ sig} (hg : g ∈ (barCells ∪ scCells : Finset (GSem nD τ sig))) :
    iprop(invs I K ∗ openTok ER g ∗ semVal g 0) ⊢ |={Set.univ}=> (iprop(atPos ER g 0 ∅ 0 ∗ reached ER g 0) : sProp 𝕄) := by
  iintro ⟨#HI, Ho, Hs⟩
  ihave Hi := inv_at I K hg $$ HI
  iapply (Rounds.cell_open ER (talkRd I) (g := g) (Set.mem_univ (K g)))
  isplitl [Hi]; · iexact Hi
  isplitl [Ho] <;> iassumption

theorem open_all (I : Ins F) (c : Dev nD) : iprop(start I c ∗ eachQ c (fun g => semVal g 0)) ⊢ |={Set.univ}=> (opened I c : sProp 𝕄) := by
  unfold start linear eachQ credits records opened known waits
  iintro ⟨⟨⟨%K, #HI, #HR⟩, ⟨HatB, ⟨⟨Oa0, Oa1, Oa2⟩, ⟨Ob0, Ob1, Ob2⟩, ⟨-, Oc0, Oc1, Oc2⟩, -, Od0, Od1, Od2⟩, HP⟩, Hcb, ⟨C00, C01, C02⟩, C10, C11, C12⟩,
    ⟨Sa0, Sa1, Sa2⟩, ⟨Sb0, Sb1, Sb2⟩, ⟨Sc, Sc0, Sc1, Sc2⟩, Sd, Sd0, Sd1, Sd2⟩
  imod (open_at I K (send_mem c 0 0)) $$ [Oa0 Sa0] with ⟨Aa0, #Ra0⟩
  · isplitr; · iexact HI
    isplitl [Oa0] <;> iassumption
  imod (open_at I K (send_mem c 0 1)) $$ [Oa1 Sa1] with ⟨Aa1, #Ra1⟩
  · isplitr; · iexact HI
    isplitl [Oa1] <;> iassumption
  imod (open_at I K (send_mem c 0 2)) $$ [Oa2 Sa2] with ⟨Aa2, #Ra2⟩
  · isplitr; · iexact HI
    isplitl [Oa2] <;> iassumption
  imod (open_at I K (send_mem c 1 0)) $$ [Ob0 Sb0] with ⟨Ab0, #Rb0⟩
  · isplitr; · iexact HI
    isplitl [Ob0] <;> iassumption
  imod (open_at I K (send_mem c 1 1)) $$ [Ob1 Sb1] with ⟨Ab1, #Rb1⟩
  · isplitr; · iexact HI
    isplitl [Ob1] <;> iassumption
  imod (open_at I K (send_mem c 1 2)) $$ [Ob2 Sb2] with ⟨Ab2, #Rb2⟩
  · isplitr; · iexact HI
    isplitl [Ob2] <;> iassumption
  imod (open_at I K (recv_mem c 0 (peer 0 c))) $$ [Oc0 Sc0] with ⟨Ac0, #Rc0⟩
  · isplitr; · iexact HI
    isplitl [Oc0] <;> iassumption
  imod (open_at I K (recv_mem c 0 (peer 1 c))) $$ [Oc1 Sc1] with ⟨Ac1, #Rc1⟩
  · isplitr; · iexact HI
    isplitl [Oc1] <;> iassumption
  imod (open_at I K (recv_mem c 0 (peer 2 c))) $$ [Oc2 Sc2] with ⟨Ac2, #Rc2⟩
  · isplitr; · iexact HI
    isplitl [Oc2] <;> iassumption
  imod (open_at I K (recv_mem c 1 (peer 0 c))) $$ [Od0 Sd0] with ⟨Ad0, #Rd0⟩
  · isplitr; · iexact HI
    isplitl [Od0] <;> iassumption
  imod (open_at I K (recv_mem c 1 (peer 1 c))) $$ [Od1 Sd1] with ⟨Ad1, #Rd1⟩
  · isplitr; · iexact HI
    isplitl [Od1] <;> iassumption
  imod (open_at I K (recv_mem c 1 (peer 2 c))) $$ [Od2 Sd2] with ⟨Ad2, #Rd2⟩
  · isplitr; · iexact HI
    isplitl [Od2] <;> iassumption
  ihave #RB0 := reached_at (F := F) (peer 0 c) $$ HR
  ihave #RB1 := reached_at (F := F) (peer 1 c) $$ HR
  ihave #RB2 := reached_at (F := F) (peer 2 c) $$ HR
  imodintro
  isplitr; · iexists K; iexact HI
  isplitr
  · isplitr
    · isplitr; · iexact RB0
      isplitr; · iexact Ra0
      isplitr; · iexact Rb0
      isplitr; · iexact Rc0
      iexact Rd0
    isplitr
    · isplitr; · iexact RB1
      isplitr; · iexact Ra1
      isplitr; · iexact Rb1
      isplitr; · iexact Rc1
      iexact Rd1
    · isplitr; · iexact RB2
      isplitr; · iexact Ra2
      isplitr; · iexact Rb2
      isplitr; · iexact Rc2
      iexact Rd2
  isplitl [HP]; · iexact HP
  isplitl [Aa0 Ab0 Ac0 Ad0 C00 C10 Aa1 Ab1 Ac1 Ad1 C01 C11 Aa2 Ab2 Ac2 Ad2 C02 C12]
  · isplitl [Aa0 Ab0 Ac0 Ad0 C00 C10]
    · isplitl [Aa0]; · iexact Aa0
      isplitl [Ab0]; · iexact Ab0
      isplitl [Ac0]; · iexact Ac0
      isplitl [Ad0]; · iexact Ad0
      isplitl [C00] <;> iassumption
    isplitl [Aa1 Ab1 Ac1 Ad1 C01 C11]
    · isplitl [Aa1]; · iexact Aa1
      isplitl [Ab1]; · iexact Ab1
      isplitl [Ac1]; · iexact Ac1
      isplitl [Ad1]; · iexact Ad1
      isplitl [C01] <;> iassumption
    · isplitl [Aa2]; · iexact Aa2
      isplitl [Ab2]; · iexact Ab2
      isplitl [Ac2]; · iexact Ac2
      isplitl [Ad2]; · iexact Ad2
      isplitl [C02] <;> iassumption
  isplitl [HatB]; · iexact HatB
  isplitl [Hcb]; · iexact Hcb
  isplitl [Sc] <;> iassumption

/-! ## Dealing it all out -/

/-- The launch element: the pipeline's staging cells, the protocol's cells, no counters. -/
def u₀ : UU :=
  (initOf (Pipeline.cells (Pipeline.pin (pcfgs (F := F)) fun p => (cfgs p).toPCfg_adm) cellOf_inj) (Pipeline.launchToks (Pipeline.pin (pcfgs (F := F)) fun p => (cfgs p).toPCfg_adm) cellOf_inj),
    (launchOf barCells scCells talkToks, 1))

/-- A resource as a family over the devices: all of it on device 0. -/
def onDev (X : sProp 𝕄) (c : Dev nD) : sProp 𝕄 := if c = 0 then X else iprop(emp)
omit [FloatOps F] in
theorem bigSep_onDev (X : sProp 𝕄) : bigSep Finset.univ (onDev X) = X := by
  rw [bigSep_univ_at _ (0 : Dev nD), bigSep_congr (s := Finset.univ.erase (0 : Dev nD)) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp
def G : Dev nD → sProp 𝕄 := onDev (BI.own (ER (launchOf barCells scCells talkToks)))

theorem hu₀ : (ownU (u₀ (F := F)) : sProp 𝕄) ⊢ |={Set.univ}=> iprop(BI.own (EP (initOf (Pipeline.cells (Pipeline.pin (pcfgs (F := F)) fun p => (cfgs p).toPCfg_adm) cellOf_inj)
      (Pipeline.launchToks (Pipeline.pin (pcfgs (F := F)) fun p => (cfgs p).toPCfg_adm) cellOf_inj))) ∗ bigSep Finset.univ (G (F := F))) := by
  unfold u₀ G
  iintro Hu
  ihave H := (ownU_pair _ _) $$ Hu
  icases H with ⟨HP, HX⟩
  imodintro
  isplitl [HP]; · iexact HP
  rw [bigSep_onDev]; iexact HX

end Cert.KernelIdeal.Talk
-- ==== Proof.Body.lean ====
/-
# The kernel body on one device
-/
module

public import proofs.«01_k».proof.Proof.Tail

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

/-! ## The local copies' semaphores -/

/-- The semaphore of the copy of page slot `t`, head group `g`, of the keys (`k = 0`) or the values. -/
abbrev slab (k : Fin 2) (t : Fin 16) (g : Fin 2) : DmaSem sig := ⟨3 + (32 * k.val + 2 * t.val + g.val), by have := k.isLt; have := t.isLt; have := g.isLt; show _ < 81; omega⟩
abbrev slabAt (c : Dev nD) (t : Fin 16) : sProp 𝕄 := iprop(semVal ((c : Thread nD τ), SemLoc.dma (slab 0 t 0)) 0 ∗ semVal ((c : Thread nD τ), SemLoc.dma (slab 0 t 1)) 0
  ∗ semVal ((c : Thread nD τ), SemLoc.dma (slab 1 t 0)) 0 ∗ semVal ((c : Thread nD τ), SemLoc.dma (slab 1 t 1)) 0)
def slabs (c : Dev nD) : sProp 𝕄 := bigSep Finset.univ (slabAt c)
omit [FloatOps F] in
theorem slabs_eq (c : Dev nD) : (slabs (F := F) c) = iprop(slabAt c 0 ∗ slabAt c 1 ∗ slabAt c 2 ∗ slabAt c 3 ∗ slabAt c 4 ∗ slabAt c 5 ∗ slabAt c 6 ∗ slabAt c 7 ∗ slabAt c 8 ∗ slabAt c 9 ∗ slabAt c 10 ∗ slabAt c 11 ∗ slabAt c 12 ∗ slabAt c 13 ∗ slabAt c 14 ∗ slabAt c 15) :=
  bigSep_univ_eq_bigSepL [0, 1, 2, 3, 4, 5, 6, 7, 8, 9, 10, 11, 12, 13, 14, 15] (by decide) (by decide) _

set_option maxHeartbeats 0 in
theorem body (I : Ins F) (K : GSem nD τ sig → ℕ) (c : Dev nD) (W : Waits sig Unit) (Q : PUnit → sProp 𝕄)
   (gk : Buf (Elt F) ((Memref.whole cc0_scratch0).view.loc (c : Thread nD τ))) (gv : Buf (Elt F) ((Memref.whole cc0_scratch1).view.loc (c : Thread nD τ)))
   (fq : Buf (Elt F) ((Memref.whole cc0_stg0_0).view.loc (c : Thread nD τ))) (hq : fq = I.q c)
   (fb : Buf (Elt F) ((Memref.whole cc0_stg1_0).view.loc (c : Thread nD τ))) (hb : fb = I.bt c)
   (fk : Buf (Elt F) ((Memref.whole main_v1).view.loc (c : Thread nD τ))) (hk : fk = I.kt c)
   (fv : Buf (Elt F) ((Memref.whole main_v2).view.loc (c : Thread nD τ))) (hv : fv = I.vt c)
   (fo : Buf (Elt F) ((Memref.whole cc0_stg2_0).view.loc (c : Thread nD τ))) (fc : S4x16x640.Idx → Elt F .f32) :
   iprop(invs I K ∗ levAts L lv ∗ (known c 0 ∗ known c 1 ∗ known c 2) ∗ (pays c 0 ∗ pays c 1 ∗ pays c 2) ∗ (waits c 0 ∗ waits c 1 ∗ waits c 2)
    ∗ atPos ER (barCell c) 0 ∅ 0 ∗ cred (tallyAt (barCell c) () 3)
    ∗ ((Memref.whole main_v1).view.loc (c : Thread nD τ) ↦{fullShare} fk) ∗ ((Memref.whole main_v2).view.loc (c : Thread nD τ) ↦{fullShare} fv)
    ∗ ((Memref.whole cc0_scratch0).view.loc (c : Thread nD τ) ↦{fullShare} gk) ∗ ((Memref.whole cc0_scratch1).view.loc (c : Thread nD τ) ↦{fullShare} gv)
    ∗ ((Memref.whole cc0_stg0_0).view.loc (c : Thread nD τ) ↦{fullShare} fq)
    ∗ ((Memref.whole cc0_stg1_0).view.loc (c : Thread nD τ) ↦{fullShare} fb)
    ∗ ((Memref.whole cc0_stg2_0).view.loc (c : Thread nD τ) ↦{fullShare} fo)
    ∗ (slotPts c c fc ∗ slotPts c (peer 0 c) fc ∗ slotPts c (peer 1 c) fc ∗ slotPts c (peer 2 c) fc)
    ∗ slabs c ∗ owes (c : Thread nD τ) (debt c 9) W
    ∗ (((Memref.whole main_v1).view.loc (c : Thread nD τ) ↦{fullShare} fk) ∗ ((Memref.whole main_v2).view.loc (c : Thread nD τ) ↦{fullShare} fv)
      ∗ (∃ f, (Memref.whole cc0_scratch0).view.loc (c : Thread nD τ) ↦{fullShare} f) ∗ (∃ f, (Memref.whole cc0_scratch1).view.loc (c : Thread nD τ) ↦{fullShare} f)
      ∗ ((Memref.whole cc0_stg0_0).view.loc (c : Thread nD τ) ↦{fullShare} fq) ∗ ((Memref.whole cc0_stg1_0).view.loc (c : Thread nD τ) ↦{fullShare} fb)
      ∗ slabs c ∗ done I c -∗ Q ⟨⟩))
    ⊢ wp frame (wpE (defs₀ (F := F)) 𝒱₀ (c : Thread nD τ) none) Set.univ (bodyAt0 t0_0) Q := by
  have hmw6 : ∀ q : DmaSem sig, q.val < 73 → ((levAts L lv : sProp 𝕄) ⊢ MayWait (c : Thread nD τ) (.dma q) () (debt c 6)) := fun q hq => mayWait_local c 6 q hq
  have hmw3 : ∀ q : DmaSem sig, q.val < 73 → ((levAts L lv : sProp 𝕄) ⊢ MayWait (c : Thread nD τ) (.dma q) () (debt c 3)) := fun q hq => mayWait_local c 3 q hq
  rw [slabs_eq]
  show _ ⊢ wp frame (wpE (defs₀ (F := F)) 𝒱₀ (c : Thread nD τ) none) Set.univ (cc0_body (Memref.whole cc0_stg0_0) (hstage0_0 0) (Memref.whole main_v1) (Memref.isWhole_whole _) (Memref.whole main_v2) (Memref.isWhole_whole _) (Memref.whole cc0_stg1_0) (hstage0_1 0) (Memref.whole cc0_stg2_0) (hstage0_2 0) (Memref.whole cc0_scratch0) (Memref.isWhole_whole _) (Memref.whole cc0_scratch1) (Memref.isWhole_whole _) cc0_scratch2 (Memref.whole cc0_scratch3) (Memref.isWhole_whole _) cc0_scratch4 cc0_scratch5) _
  rw [cc0_body_eq_skeleton]
  unfold cc0_body_skel known pays slotPts
  iintro ⟨#HI, #Hlev, ⟨⟨#Hb0, #Hs00, #Hs10, #Hv00, #Hv10⟩, ⟨#Hb1, #Hs01, #Hs11, #Hv01, #Hv11⟩, #Hb2, #Hs02, #Hs12, #Hv02, #Hv12⟩,
    ⟨⟨Tb0, Ts00, Tv00, Ts10, Tv10⟩, ⟨Tb1, Ts01, Tv01, Ts11, Tv11⟩, Tb2, Ts02, Tv02, Ts12, Tv12⟩, Hwaits, HatB, HcB,
    HK, HV, HKB, HVB, HQ, HB, Hout, ⟨⟨C0, C1⟩, ⟨P00, P01⟩, ⟨P10, P11⟩, ⟨P20, P21⟩⟩,
    ⟨⟨K0, K'0, V0, V'0⟩, ⟨K1, K'1, V1, V'1⟩, ⟨K2, K'2, V2, V'2⟩, ⟨K3, K'3, V3, V'3⟩, ⟨K4, K'4, V4, V'4⟩, ⟨K5, K'5, V5, V'5⟩, ⟨K6, K'6, V6, V'6⟩, ⟨K7, K'7, V7, V'7⟩, ⟨K8, K'8, V8, V'8⟩, ⟨K9, K'9, V9, V'9⟩, ⟨K10, K'10, V10, V'10⟩, ⟨K11, K'11, V11, V'11⟩, ⟨K12, K'12, V12, V'12⟩, ⟨K13, K'13, V13, V'13⟩, ⟨K14, K'14, V14, V'14⟩, ⟨K15, K'15, V15, V'15⟩⟩, HO, HQ'⟩
  set_option sl_exec.dmaWindow true in
  sl_exec_parts
  iapply (step_signal I K c 0 (dev1_eq c) 8 rfl rfl fc fc) $$ [HO Tb0 P00 P01]
  · isplitr; · iexact HI
    isplitl [HO]; · iexact HO
    isplitl [Tb0]; · iexact Tb0
    isplitr; · iexact Hb0
    isplitl [P00]; · iexact P00
    isplitl [P01]; · iexact P01
    isplitr; · iexact Hv00
    iexact Hv10
  iintro HO
  set_option sl_exec.dmaWindow true in
  sl_exec_parts
  iapply (step_signal I K c 1 (dev2_eq c) 7 rfl rfl fc fc) $$ [HO Tb1 P10 P11]
  · isplitr; · iexact HI
    isplitl [HO]; · iexact HO
    isplitl [Tb1]; · iexact Tb1
    isplitr; · iexact Hb1
    isplitl [P10]; · iexact P10
    isplitl [P11]; · iexact P11
    isplitr; · iexact Hv01
    iexact Hv11
  iintro HO
  set_option sl_exec.dmaWindow true in
  sl_exec_parts
  iapply (step_signal I K c 2 (dev3_eq c) 6 rfl rfl fc fc) $$ [HO Tb2 P20 P21]
  · isplitr; · iexact HI
    isplitl [HO]; · iexact HO
    isplitl [Tb2]; · iexact Tb2
    isplitr; · iexact Hb2
    isplitl [P20]; · iexact P20
    isplitl [P21]; · iexact P21
    isplitr; · iexact Hv02
    iexact Hv12
  iintro HO
  set_option sl_exec.dmaWindow true in
  sl_exec_parts
  iapply (step_bar I K c rfl) $$ [HcB HO HatB]
  · isplitr; · iexact HI
    isplitl [HcB]; · iexact HcB
    isplitl [HO]; · iexact HO
    isplitr; · iexact Hlev
    iexact HatB
  iintro ⟨HO, HatB, ⟨⟨%g00, G00⟩, ⟨%g01, G01⟩, #Hw00, #Hw10⟩, ⟨⟨%g10, G10⟩, ⟨%g11, G11⟩, #Hw01, #Hw11⟩, ⟨%g20, G20⟩, ⟨%g21, G21⟩, #Hw02, #Hw12⟩
  set_option sl_exec.rejoinFuel 200 in
  set_option sl_exec.rejoinHeartbeats 2000000 in
  set_option sl_exec.dmaWindow true in
  sl_exec_parts
  have hcK : body.sl.r_90 c fb = cKey I c := by rw [hb]; rfl
  have hqH : body.sl.r_91 c fq = qHalf I c := by rw [hq]; rfl
  obtain ⟨LK, hLK, hk0, hk1, hk2, hk3⟩ : ∃ LK, List.Forall₂ (Good slabAt' (gath c ((Memref.whole main_v1).view.read (Elt F) fk))) slabKeys LK
      ∧ body.sl.v1495 c fk = (Memref.whole cc0_scratch0).view.readCov LK (Rect.unit (s := S8x64x2048) ![0, 0, 0] S1x64x2048.size inb_S8x64x2048_S1x64x2048_0_0_0).toLoadRect
      ∧ body.sl.v1523 c fk = (Memref.whole cc0_scratch0).view.readCov LK (Rect.unit (s := S8x64x2048) ![1, 0, 0] S1x64x2048.size inb_S8x64x2048_S1x64x2048_1_0_0).toLoadRect
      ∧ body.sl.v1551 c fk = (Memref.whole cc0_scratch0).view.readCov LK (Rect.unit (s := S8x64x2048) ![2, 0, 0] S1x64x2048.size inb_S8x64x2048_S1x64x2048_2_0_0).toLoadRect
      ∧ body.sl.v1579 c fk = (Memref.whole cc0_scratch0).view.readCov LK (Rect.unit (s := S8x64x2048) ![3, 0, 0] S1x64x2048.size inb_S8x64x2048_S1x64x2048_3_0_0).toLoadRect := by
    refine ⟨_, ?_, rfl, rfl, rfl, rfl⟩
    unfold slabKeys
    repeat' (first | exact List.Forall₂.nil | refine List.Forall₂.cons (slab_good c _ _ _ _ ?_ ?_ _ ?_ _ _ _ _ rfl _) ?_ | exact rfl | decide)
  replace hk0 : body.sl.v1495 c fk = kRow I c 0 := hk0.trans ((row_of_slabs _ _ _ hLK 0 _ rfl _).trans (by rw [hk]; rfl))
  replace hk1 : body.sl.v1523 c fk = kRow I c 1 := hk1.trans ((row_of_slabs _ _ _ hLK 1 _ rfl _).trans (by rw [hk]; rfl))
  replace hk2 : body.sl.v1551 c fk = kRow I c 2 := hk2.trans ((row_of_slabs _ _ _ hLK 2 _ rfl _).trans (by rw [hk]; rfl))
  replace hk3 : body.sl.v1579 c fk = kRow I c 3 := hk3.trans ((row_of_slabs _ _ _ hLK 3 _ rfl _).trans (by rw [hk]; rfl))
  obtain ⟨LV, hLV, hv0, hv1, hv2, hv3⟩ : ∃ LV, List.Forall₂ (Good slabAt' (gath c ((Memref.whole main_v2).view.read (Elt F) fv))) slabKeys LV
      ∧ body.sl.v1506 c fv = (Memref.whole cc0_scratch1).view.readCov LV (Rect.unit (s := S8x64x2048) ![0, 0, 0] S1x64x2048.size inb_S8x64x2048_S1x64x2048_0_0_0).toLoadRect
      ∧ body.sl.v1534 c fv = (Memref.whole cc0_scratch1).view.readCov LV (Rect.unit (s := S8x64x2048) ![1, 0, 0] S1x64x2048.size inb_S8x64x2048_S1x64x2048_1_0_0).toLoadRect
      ∧ body.sl.v1562 c fv = (Memref.whole cc0_scratch1).view.readCov LV (Rect.unit (s := S8x64x2048) ![2, 0, 0] S1x64x2048.size inb_S8x64x2048_S1x64x2048_2_0_0).toLoadRect
      ∧ body.sl.v1590 c fv = (Memref.whole cc0_scratch1).view.readCov LV (Rect.unit (s := S8x64x2048) ![3, 0, 0] S1x64x2048.size inb_S8x64x2048_S1x64x2048_3_0_0).toLoadRect := by
    refine ⟨_, ?_, rfl, rfl, rfl, rfl⟩
    unfold slabKeys
    repeat' (first | exact List.Forall₂.nil | refine List.Forall₂.cons (slab_good c _ _ _ _ ?_ ?_ _ ?_ _ _ _ _ rfl _) ?_ | exact rfl | decide)
  replace hv0 : body.sl.v1506 c fv = vRow I c 0 := hv0.trans ((row_of_slabs _ _ _ hLV 0 _ rfl _).trans (by rw [hv]; rfl))
  replace hv1 : body.sl.v1534 c fv = vRow I c 1 := hv1.trans ((row_of_slabs _ _ _ hLV 1 _ rfl _).trans (by rw [hv]; rfl))
  replace hv2 : body.sl.v1562 c fv = vRow I c 2 := hv2.trans ((row_of_slabs _ _ _ hLV 2 _ rfl _).trans (by rw [hv]; rfl))
  replace hv3 : body.sl.v1590 c fv = vRow I c 3 := hv3.trans ((row_of_slabs _ _ _ hLV 3 _ rfl _).trans (by rw [hv]; rfl))
  have hC0 := stored_eq I c fc (body.sl.C0_4 c fq fb fk fv) [(0, 3), (0, 2), (0, 1), (0, 0)]
    (.cons (part_o I c fc 3 _ (k0_off27_eq c) _ _ (hO_of I c 3 hcK hqH hk3 hv3 _ rfl)) (.cons (part_o I c fc 2 _ (k0_off24_eq c) _ _ (hO_of I c 2 hcK hqH hk2 hv2 _ rfl))
      (.cons (part_o I c fc 1 _ (k0_off21_eq c) _ _ (hO_of I c 1 hcK hqH hk1 hv1 _ rfl)) (.cons (part_o I c fc 0 _ (k0_off18_eq c) _ _ (hO_of I c 0 hcK hqH hk0 hv0 _ rfl)) .nil)))) _ (own0_lanes c)
  ihave CL := (lend (ℓ := (Memref.whole cc0_scratch3).view.loc (c : Thread nD τ)) (S := (Memref.whole cc0_scratch3).view.setOn (winR0 c).set) _ (commV I c fc) hC0) $$ C0
  icases CL with ⟨C0, L0, L1, L2⟩
  iapply (step_send0 I K c 0 (dev4_eq c) 5 rfl rfl (recvSem 0 c _ (off30_eq c) _ _) fc g00) $$ [L0 G00 HO Ts00 Tv00]
  · isplitr; · iexact HI
    isplitl [L0]; · iexact L0
    isplitl [G00]; · iexact G00
    isplitl [HO]; · iexact HO
    isplitl [Ts00]; · iexact Ts00
    isplitr; · iexact Hs00
    isplitl [Tv00]; · iexact Tv00
    iexact Hw00
  iintro ⟨Cs00, HO⟩
  set_option sl_exec.rejoinFuel 200 in
  set_option sl_exec.rejoinHeartbeats 2000000 in
  set_option sl_exec.dmaWindow true in
  sl_exec_parts
  iapply (step_send0 I K c 1 (dev5_eq c) 4 rfl rfl (recvSem 0 c _ (off30_eq c) _ _) fc g10) $$ [L1 G10 HO Ts01 Tv01]
  · isplitr; · iexact HI
    isplitl [L1]; · iexact L1
    isplitl [G10]; · iexact G10
    isplitl [HO]; · iexact HO
    isplitl [Ts01]; · iexact Ts01
    isplitr; · iexact Hs01
    isplitl [Tv01]; · iexact Tv01
    iexact Hw01
  iintro ⟨Cs01, HO⟩
  set_option sl_exec.rejoinFuel 200 in
  set_option sl_exec.rejoinHeartbeats 2000000 in
  set_option sl_exec.dmaWindow true in
  sl_exec_parts
  iapply (step_send0 I K c 2 (dev6_eq c) 3 rfl rfl (recvSem 0 c _ (off30_eq c) _ _) fc g20) $$ [L2 G20 HO Ts02 Tv02]
  · isplitr; · iexact HI
    isplitl [L2]; · iexact L2
    isplitl [G20]; · iexact G20
    isplitl [HO]; · iexact HO
    isplitl [Ts02]; · iexact Ts02
    isplitr; · iexact Hs02
    isplitl [Tv02]; · iexact Tv02
    iexact Hw02
  iintro ⟨Cs02, HO⟩
  set_option sl_exec.rejoinFuel 200 in
  set_option sl_exec.rejoinHeartbeats 2000000 in
  set_option sl_exec.dmaWindow true in
  sl_exec_parts
  obtain ⟨LK', hLK', hk4, hk5, hk6, hk7⟩ : ∃ LK', List.Forall₂ (Good slabAt' (gath c ((Memref.whole main_v1).view.read (Elt F) fk))) slabKeys LK'
      ∧ body.sl.v1803 c fk = (Memref.whole cc0_scratch0).view.readCov LK' (Rect.unit (s := S8x64x2048) ![4, 0, 0] S1x64x2048.size inb_S8x64x2048_S1x64x2048_4_0_0).toLoadRect
      ∧ body.sl.v1831 c fk = (Memref.whole cc0_scratch0).view.readCov LK' (Rect.unit (s := S8x64x2048) ![5, 0, 0] S1x64x2048.size inb_S8x64x2048_S1x64x2048_5_0_0).toLoadRect
      ∧ body.sl.v1859 c fk = (Memref.whole cc0_scratch0).view.readCov LK' (Rect.unit (s := S8x64x2048) ![6, 0, 0] S1x64x2048.size inb_S8x64x2048_S1x64x2048_6_0_0).toLoadRect
      ∧ body.sl.v1887 c fk = (Memref.whole cc0_scratch0).view.readCov LK' (Rect.unit (s := S8x64x2048) ![7, 0, 0] S1x64x2048.size inb_S8x64x2048_S1x64x2048_7_0_0).toLoadRect := by
    refine ⟨_, ?_, rfl, rfl, rfl, rfl⟩
    unfold slabKeys
    repeat' (first | exact List.Forall₂.nil | refine List.Forall₂.cons (slab_good c _ _ _ _ ?_ ?_ _ ?_ _ _ _ _ rfl _) ?_ | exact rfl | decide)
  replace hk4 : body.sl.v1803 c fk = kRow I c 4 := hk4.trans ((row_of_slabs _ _ _ hLK' 4 _ rfl _).trans (by rw [hk]; rfl))
  replace hk5 : body.sl.v1831 c fk = kRow I c 5 := hk5.trans ((row_of_slabs _ _ _ hLK' 5 _ rfl _).trans (by rw [hk]; rfl))
  replace hk6 : body.sl.v1859 c fk = kRow I c 6 := hk6.trans ((row_of_slabs _ _ _ hLK' 6 _ rfl _).trans (by rw [hk]; rfl))
  replace hk7 : body.sl.v1887 c fk = kRow I c 7 := hk7.trans ((row_of_slabs _ _ _ hLK' 7 _ rfl _).trans (by rw [hk]; rfl))
  obtain ⟨LV', hLV', hv4, hv5, hv6, hv7⟩ : ∃ LV', List.Forall₂ (Good slabAt' (gath c ((Memref.whole main_v2).view.read (Elt F) fv))) slabKeys LV'
      ∧ body.sl.v1814 c fv = (Memref.whole cc0_scratch1).view.readCov LV' (Rect.unit (s := S8x64x2048) ![4, 0, 0] S1x64x2048.size inb_S8x64x2048_S1x64x2048_4_0_0).toLoadRect
      ∧ body.sl.v1842 c fv = (Memref.whole cc0_scratch1).view.readCov LV' (Rect.unit (s := S8x64x2048) ![5, 0, 0] S1x64x2048.size inb_S8x64x2048_S1x64x2048_5_0_0).toLoadRect
      ∧ body.sl.v1870 c fv = (Memref.whole cc0_scratch1).view.readCov LV' (Rect.unit (s := S8x64x2048) ![6, 0, 0] S1x64x2048.size inb_S8x64x2048_S1x64x2048_6_0_0).toLoadRect
      ∧ body.sl.v1898 c fv = (Memref.whole cc0_scratch1).view.readCov LV' (Rect.unit (s := S8x64x2048) ![7, 0, 0] S1x64x2048.size inb_S8x64x2048_S1x64x2048_7_0_0).toLoadRect := by
    refine ⟨_, ?_, rfl, rfl, rfl, rfl⟩
    unfold slabKeys
    repeat' (first | exact List.Forall₂.nil | refine List.Forall₂.cons (slab_good c _ _ _ _ ?_ ?_ _ ?_ _ _ _ _ rfl _) ?_ | exact rfl | decide)
  replace hv4 : body.sl.v1814 c fv = vRow I c 4 := hv4.trans ((row_of_slabs _ _ _ hLV' 4 _ rfl _).trans (by rw [hv]; rfl))
  replace hv5 : body.sl.v1842 c fv = vRow I c 5 := hv5.trans ((row_of_slabs _ _ _ hLV' 5 _ rfl _).trans (by rw [hv]; rfl))
  replace hv6 : body.sl.v1870 c fv = vRow I c 6 := hv6.trans ((row_of_slabs _ _ _ hLV' 6 _ rfl _).trans (by rw [hv]; rfl))
  replace hv7 : body.sl.v1898 c fv = vRow I c 7 := hv7.trans ((row_of_slabs _ _ _ hLV' 7 _ rfl _).trans (by rw [hv]; rfl))
  have hC1 := stored_eq I c fc (⟨Rect.unit (s := S4x16x640) (k0_off43 c) S1x16x1.size (k0_off43_inb c), k0_pay152 (body.sl.r_103 c fq fb fk)⟩
      :: ⟨Rect.unit (s := S4x16x640) (k0_off42 c) S1x16x1.size (k0_off42_inb c), k0_pay151 (body.sl.r_101 c fq fk)⟩
      :: ⟨Rect.unit (s := S4x16x640) (k0_off41 c) S1x16x64.size (k0_off41_inb c), k0_pay150 (body.sl.r_102 c fq fb fk) (body.sl.r_104 c fv)⟩ :: body.sl.C1_17 c fq fb fk fv) ownKeys1
    (.cons (part_ml I c fc 2 520 (Or.inr ⟨rfl, rfl⟩) 7 _ (k0_off43_eq c) _ _ (fun h => absurd h (by decide)) (fun _ => hL_of I c 7 hcK hqH hk7 _ rfl))
      (.cons (part_ml I c fc 1 512 (Or.inl ⟨rfl, rfl⟩) 7 _ (k0_off42_eq c) _ _ (fun _ => hM_of I c 7 hqH hk7 _ rfl) (fun h => absurd h (by decide)))
      (.cons (part_o I c fc 7 _ (k0_off41_eq c) _ _ (hO_of I c 7 hcK hqH hk7 hv7 _ rfl))
      (.cons (part_ml I c fc 2 520 (Or.inr ⟨rfl, rfl⟩) 6 _ (k0_off40_eq c) _ _ (fun h => absurd h (by decide)) (fun _ => hL_of I c 6 hcK hqH hk6 _ rfl))
      (.cons (part_ml I c fc 1 512 (Or.inl ⟨rfl, rfl⟩) 6 _ (k0_off39_eq c) _ _ (fun _ => hM_of I c 6 hqH hk6 _ rfl) (fun h => absurd h (by decide)))
      (.cons (part_o I c fc 6 _ (k0_off38_eq c) _ _ (hO_of I c 6 hcK hqH hk6 hv6 _ rfl))
      (.cons (part_ml I c fc 2 520 (Or.inr ⟨rfl, rfl⟩) 5 _ (k0_off37_eq c) _ _ (fun h => absurd h (by decide)) (fun _ => hL_of I c 5 hcK hqH hk5 _ rfl))
      (.cons (part_ml I c fc 1 512 (Or.inl ⟨rfl, rfl⟩) 5 _ (k0_off36_eq c) _ _ (fun _ => hM_of I c 5 hqH hk5 _ rfl) (fun h => absurd h (by decide)))
      (.cons (part_o I c fc 5 _ (k0_off35_eq c) _ _ (hO_of I c 5 hcK hqH hk5 hv5 _ rfl))
      (.cons (part_ml I c fc 2 520 (Or.inr ⟨rfl, rfl⟩) 4 _ (k0_off34_eq c) _ _ (fun h => absurd h (by decide)) (fun _ => hL_of I c 4 hcK hqH hk4 _ rfl))
      (.cons (part_ml I c fc 1 512 (Or.inl ⟨rfl, rfl⟩) 4 _ (k0_off33_eq c) _ _ (fun _ => hM_of I c 4 hqH hk4 _ rfl) (fun h => absurd h (by decide)))
      (.cons (part_o I c fc 4 _ (k0_off32_eq c) _ _ (hO_of I c 4 hcK hqH hk4 hv4 _ rfl))
      (.cons (part_ml I c fc 2 520 (Or.inr ⟨rfl, rfl⟩) 3 _ (k0_off29_eq c) _ _ (fun h => absurd h (by decide)) (fun _ => hL_of I c 3 hcK hqH hk3 _ rfl))
      (.cons (part_ml I c fc 1 512 (Or.inl ⟨rfl, rfl⟩) 3 _ (k0_off28_eq c) _ _ (fun _ => hM_of I c 3 hqH hk3 _ rfl) (fun h => absurd h (by decide)))
      (.cons (part_ml I c fc 2 520 (Or.inr ⟨rfl, rfl⟩) 2 _ (k0_off26_eq c) _ _ (fun h => absurd h (by decide)) (fun _ => hL_of I c 2 hcK hqH hk2 _ rfl))
      (.cons (part_ml I c fc 1 512 (Or.inl ⟨rfl, rfl⟩) 2 _ (k0_off25_eq c) _ _ (fun _ => hM_of I c 2 hqH hk2 _ rfl) (fun h => absurd h (by decide)))
      (.cons (part_ml I c fc 2 520 (Or.inr ⟨rfl, rfl⟩) 1 _ (k0_off23_eq c) _ _ (fun h => absurd h (by decide)) (fun _ => hL_of I c 1 hcK hqH hk1 _ rfl))
      (.cons (part_ml I c fc 1 512 (Or.inl ⟨rfl, rfl⟩) 1 _ (k0_off22_eq c) _ _ (fun _ => hM_of I c 1 hqH hk1 _ rfl) (fun h => absurd h (by decide)))
      (.cons (part_ml I c fc 2 520 (Or.inr ⟨rfl, rfl⟩) 0 _ (k0_off20_eq c) _ _ (fun h => absurd h (by decide)) (fun _ => hL_of I c 0 hcK hqH hk0 _ rfl))
      (.cons (part_ml I c fc 1 512 (Or.inl ⟨rfl, rfl⟩) 0 _ (k0_off19_eq c) _ _ (fun _ => hM_of I c 0 hqH hk0 _ rfl) (fun h => absurd h (by decide)))
      .nil)))))))))))))))))))) _ (own1_lanes c)
  ihave CL := (lend (ℓ := (Memref.whole cc0_scratch3).view.loc (c : Thread nD τ)) (S := (Memref.whole cc0_scratch3).view.setOn (winR1 c).set) _ (commV I c fc) hC1) $$ C1
  icases CL with ⟨C1, L0, L1, L2⟩
  iapply (step_send1 I K c 0 (dev7_eq c) 2 rfl rfl (recvSem 1 c _ (off44_eq c) _ _) fc g01) $$ [L0 G01 HO Ts10 Tv10]
  · isplitr; · iexact HI
    isplitl [L0]; · iexact L0
    isplitl [G01]; · iexact G01
    isplitl [HO]; · iexact HO
    isplitl [Ts10]; · iexact Ts10
    isplitr; · iexact Hs10
    isplitl [Tv10]; · iexact Tv10
    iexact Hw10
  iintro ⟨Cs10, HO⟩
  set_option sl_exec.stopBefore "k0_part64" in
  try sl_exec_parts
  iapply (tail_ok I K c _ Q _ _ _ _ _ _ _ fo fc g11 g21)
  isplitr; · iexact HI
  isplitr; · iexact Hlev
  isplitr
  · unfold known
    isplitr
    · isplitr; · iexact Hb1
      isplitr; · iexact Hs01
      isplitr; · iexact Hs11
      isplitr; · iexact Hv01
      iexact Hv11
    isplitr; · iexact Hb2
    isplitr; · iexact Hs02
    isplitr; · iexact Hs12
    isplitr; · iexact Hv02
    iexact Hv12
  isplitr
  · isplitr; · iexact Hw11
    iexact Hw12
  isplitl [Ts11 Tv11 Ts12 Tv12]
  · isplitl [Ts11]; · iexact Ts11
    isplitl [Tv11]; · iexact Tv11
    isplitl [Ts12]; · iexact Ts12
    iexact Tv12
  isplitl [Hwaits]; · iexact Hwaits
  isplitl [HatB]; · iexact HatB
  isplitl [Cs00 Cs01 Cs02 Cs10]
  · isplitl [Cs00]; · iexact Cs00
    isplitl [Cs01]; · iexact Cs01
    isplitl [Cs02]; · iexact Cs02
    iexact Cs10
  isplitl [C0]; · iexact C0
  isplitl [C1]; · iexact C1
  isplitl [L1]; · iexact L1
  isplitl [L2]; · iexact L2
  isplitl [G11]; · iexact G11
  isplitl [G21]; · iexact G21
  isplitl [Hout]; · iexact Hout
  isplitl [HO]; · iexact HO
  iintro Hd
  iapply HQ'
  isplitl [HK]; · iexact HK
  isplitl [HV]; · iexact HV
  isplitl [HKB]; · iexists _; iexact HKB
  isplitl [HVB]; · iexists _; iexact HVB
  isplitl [HQ]; · iexact HQ
  isplitl [HB]; · iexact HB
  isplitr [Hd]
  · isplitl [K0 K'0 V0 V'0]
    · isplitl [K0]; · iexact K0
      isplitl [K'0]; · iexact K'0
      isplitl [V0]; · iexact V0
      iexact V'0
    isplitl [K1 K'1 V1 V'1]
    · isplitl [K1]; · iexact K1
      isplitl [K'1]; · iexact K'1
      isplitl [V1]; · iexact V1
      iexact V'1
    isplitl [K2 K'2 V2 V'2]
    · isplitl [K2]; · iexact K2
      isplitl [K'2]; · iexact K'2
      isplitl [V2]; · iexact V2
      iexact V'2
    isplitl [K3 K'3 V3 V'3]
    · isplitl [K3]; · iexact K3
      isplitl [K'3]; · iexact K'3
      isplitl [V3]; · iexact V3
      iexact V'3
    isplitl [K4 K'4 V4 V'4]
    · isplitl [K4]; · iexact K4
      isplitl [K'4]; · iexact K'4
      isplitl [V4]; · iexact V4
      iexact V'4
    isplitl [K5 K'5 V5 V'5]
    · isplitl [K5]; · iexact K5
      isplitl [K'5]; · iexact K'5
      isplitl [V5]; · iexact V5
      iexact V'5
    isplitl [K6 K'6 V6 V'6]
    · isplitl [K6]; · iexact K6
      isplitl [K'6]; · iexact K'6
      isplitl [V6]; · iexact V6
      iexact V'6
    isplitl [K7 K'7 V7 V'7]
    · isplitl [K7]; · iexact K7
      isplitl [K'7]; · iexact K'7
      isplitl [V7]; · iexact V7
      iexact V'7
    isplitl [K8 K'8 V8 V'8]
    · isplitl [K8]; · iexact K8
      isplitl [K'8]; · iexact K'8
      isplitl [V8]; · iexact V8
      iexact V'8
    isplitl [K9 K'9 V9 V'9]
    · isplitl [K9]; · iexact K9
      isplitl [K'9]; · iexact K'9
      isplitl [V9]; · iexact V9
      iexact V'9
    isplitl [K10 K'10 V10 V'10]
    · isplitl [K10]; · iexact K10
      isplitl [K'10]; · iexact K'10
      isplitl [V10]; · iexact V10
      iexact V'10
    isplitl [K11 K'11 V11 V'11]
    · isplitl [K11]; · iexact K11
      isplitl [K'11]; · iexact K'11
      isplitl [V11]; · iexact V11
      iexact V'11
    isplitl [K12 K'12 V12 V'12]
    · isplitl [K12]; · iexact K12
      isplitl [K'12]; · iexact K'12
      isplitl [V12]; · iexact V12
      iexact V'12
    isplitl [K13 K'13 V13 V'13]
    · isplitl [K13]; · iexact K13
      isplitl [K'13]; · iexact K'13
      isplitl [V13]; · iexact V13
      iexact V'13
    isplitl [K14 K'14 V14 V'14]
    · isplitl [K14]; · iexact K14
      isplitl [K'14]; · iexact K'14
      isplitl [V14]; · iexact V14
      iexact V'14
    isplitl [K15]; · iexact K15
    isplitl [K'15]; · iexact K'15
    isplitl [V15]; · iexact V15
    iexact V'15
  iexact Hd

end Cert.KernelIdeal.Talk
-- ==== Proof.Comm.lean ====
/-
# The communication buffer, taken apart into its eight windows and put together again
-/
module

public import proofs.«01_k».proof.Proof.Fund
public import proofs.«01_k».proof.Proof.Body

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The places of window `k` of slot `p`. -/
def winSet (c : Dev nD) (t : Dev nD × Fin 2) : Finset (Idx ((Memref.whole cc0_scratch3).view.loc (c : Thread nD τ))) :=
  if t.2 = 0 then (Memref.whole cc0_scratch3).view.setOn (winR0 t.1).set else (Memref.whole cc0_scratch3).view.setOn (winR1 t.1).set

theorem mem_winSet (c : Dev nD) (t : Dev nD × Fin 2) (y : S4x16x640.Idx) :
    (y : Idx ((Memref.whole cc0_scratch3).view.loc (c : Thread nD τ))) ∈ winSet c t ↔ ((y 0).val = t.1.val ∧ ((y 2).val < 256 ↔ t.2 = 0)) := by
  unfold winSet
  split
  · next h =>
    refine ((View.mem_setOn (v := (Memref.whole cc0_scratch3).view) (M := (winR0 t.1).set) (x := y)).trans (mem_winR0 t.1 y)).trans ?_
    simp [h]
  · next h =>
    refine ((View.mem_setOn (v := (Memref.whole cc0_scratch3).view) (M := (winR1 t.1).set) (x := y)).trans (mem_winR1 t.1 y)).trans ?_
    simp [h]

theorem winSet_disjoint (c : Dev nD) (t t' : Dev nD × Fin 2) (h : t ≠ t') : Disjoint (winSet c t) (winSet c t') := by
  rw [Finset.disjoint_left]
  intro y hy hy'
  obtain ⟨h0, h1⟩ := (mem_winSet c t y).mp hy
  obtain ⟨h0', h1'⟩ := (mem_winSet c t' y).mp hy'
  refine h (Prod.ext (Fin.ext (h0.symm.trans h0')) ?_)
  have := h1.symm.trans h1'
  have h2 := t.2.isLt; have h2' := t'.2.isLt
  rw [Fin.ext_iff, Fin.ext_iff] at this
  refine Fin.ext ?_
  have e0 : ((0 : Fin 2) : ℕ) = 0 := rfl
  omega

theorem winSet_cover (c : Dev nD) : (Finset.univ : Finset (Dev nD × Fin 2)).biUnion (winSet c) = Finset.univ := by
  refine Finset.eq_univ_iff_forall.mpr fun (y : S4x16x640.Idx) => ?_
  refine Finset.mem_biUnion.mpr ⟨(y 0, if (y 2).val < 256 then 0 else 1), Finset.mem_univ _, (mem_winSet c _ y).mpr ⟨rfl, ?_⟩⟩
  by_cases h : (y 2).val < 256
  · simp [h]
  · simp [h]

theorem comm_windows (c : Dev nD) (f : Buf (Elt F) ((Memref.whole cc0_scratch3).view.loc (c : Thread nD τ))) :
    ((Memref.whole cc0_scratch3).view.loc (c : Thread nD τ) ↦{fullShare} f : sProp 𝕄)
      ⊢ iprop(slotPts c c f ∗ slotPts c (peer 0 c) f ∗ slotPts c (peer 1 c) f ∗ slotPts c (peer 2 c) f) := by
  have h : ((Memref.whole cc0_scratch3).view.loc (c : Thread nD τ) ↦[(Finset.univ : Finset (Dev nD × Fin 2)).biUnion (winSet c)]{fullShare} f : sProp 𝕄)
      = bigSep Finset.univ fun t => (Memref.whole cc0_scratch3).view.loc (c : Thread nD τ) ↦[winSet c t]{fullShare} f :=
    pointsTo_biUnion _ _ fun t _ t' _ => winSet_disjoint c t t'
  rw [winSet_cover, bigSep_univ_prod] at h
  refine (Entails.of_eq h).trans ?_
  rw [← bigSep_peers c (fun p => slotPts c p f)]
  refine bigSep_mono fun p _ => ?_
  rw [bigSep_fin_two]
  exact BI.Entails.refl _

/-- The eight windows, whatever each holds, are the buffer again. -/
theorem comm_whole (c : Dev nD) (g : Dev nD × Fin 2 → Buf (Elt F) ((Memref.whole cc0_scratch3).view.loc (c : Thread nD τ))) :
    iprop((winPts0 c c fullShare (g (c, 0)) ∗ winPts1 c c fullShare (g (c, 1)))
      ∗ (winPts0 c (peer 0 c) fullShare (g (peer 0 c, 0)) ∗ winPts1 c (peer 0 c) fullShare (g (peer 0 c, 1)))
      ∗ (winPts0 c (peer 1 c) fullShare (g (peer 1 c, 0)) ∗ winPts1 c (peer 1 c) fullShare (g (peer 1 c, 1)))
      ∗ (winPts0 c (peer 2 c) fullShare (g (peer 2 c, 0)) ∗ winPts1 c (peer 2 c) fullShare (g (peer 2 c, 1))))
    ⊢ (iprop(∃ f, (Memref.whole cc0_scratch3).view.loc (c : Thread nD τ) ↦{fullShare} f) : sProp 𝕄) := by
  have h : bigSep Finset.univ (fun t => (Memref.whole cc0_scratch3).view.loc (c : Thread nD τ) ↦[winSet c t]{fullShare} g t)
      ⊢ (iprop(∃ f, ⌜∀ t ∈ (Finset.univ : Finset (Dev nD × Fin 2)), ∀ i ∈ winSet c t, f i = g t i⌝
        ∗ (Memref.whole cc0_scratch3).view.loc (c : Thread nD τ) ↦[(Finset.univ : Finset (Dev nD × Fin 2)).biUnion (winSet c)]{fullShare} f) : sProp 𝕄) :=
    pointsTo_biUnion_join _ _ g (g (c, 0)) fun t _ t' _ => winSet_disjoint c t t'
  rw [winSet_cover, bigSep_univ_prod] at h
  have e : iprop((winPts0 c c fullShare (g (c, 0)) ∗ winPts1 c c fullShare (g (c, 1)))
      ∗ (winPts0 c (peer 0 c) fullShare (g (peer 0 c, 0)) ∗ winPts1 c (peer 0 c) fullShare (g (peer 0 c, 1)))
      ∗ (winPts0 c (peer 1 c) fullShare (g (peer 1 c, 0)) ∗ winPts1 c (peer 1 c) fullShare (g (peer 1 c, 1)))
      ∗ (winPts0 c (peer 2 c) fullShare (g (peer 2 c, 0)) ∗ winPts1 c (peer 2 c) fullShare (g (peer 2 c, 1))))
      = (bigSep Finset.univ fun p : Dev nD => iprop(winPts0 c p fullShare (g (p, 0)) ∗ winPts1 c p fullShare (g (p, 1))) : sProp 𝕄) :=
    (bigSep_peers c (fun p => (iprop(winPts0 c p fullShare (g (p, 0)) ∗ winPts1 c p fullShare (g (p, 1))) : sProp 𝕄))).symm
  rw [e]
  refine BI.Entails.trans (bigSep_mono fun p _ => ?_) (h.trans ?_)
  · rw [bigSep_fin_two]; exact BI.Entails.refl _
  · iintro ⟨%f, -, H⟩; iexists f; iexact H

/-- Eight contents as one family over slots and windows. -/
theorem eight {α : Type} (c : Dev nD) (f0 f1 f2 f3 f4 f5 f6 f7 : α) : ∃ g : Dev nD × Fin 2 → α, g (c, 0) = f0 ∧ g (c, 1) = f1
    ∧ g (peer 0 c, 0) = f2 ∧ g (peer 0 c, 1) = f3 ∧ g (peer 1 c, 0) = f4 ∧ g (peer 1 c, 1) = f5 ∧ g (peer 2 c, 0) = f6 ∧ g (peer 2 c, 1) = f7 := by
  have d10 : peer 1 c ≠ peer 0 c := by revert c; decide
  have d20 : peer 2 c ≠ peer 0 c := by revert c; decide
  have d21 : peer 2 c ≠ peer 1 c := by revert c; decide
  refine ⟨fun t => if t.1 = c then (if t.2 = 0 then f0 else f1) else if t.1 = peer 0 c then (if t.2 = 0 then f2 else f3)
      else if t.1 = peer 1 c then (if t.2 = 0 then f4 else f5) else (if t.2 = 0 then f6 else f7), ?_, ?_, ?_, ?_, ?_, ?_, ?_, ?_⟩ <;>
    simp [peer_ne, d10, d20, d21]

theorem comm_join (c : Dev nD) :
    iprop((∃ f, winPts0 c c fullShare f) ∗ (∃ f, winPts1 c c fullShare f) ∗ (∃ f, winPts0 c (peer 0 c) fullShare f) ∗ (∃ f, winPts1 c (peer 0 c) fullShare f)
      ∗ (∃ f, winPts0 c (peer 1 c) fullShare f) ∗ (∃ f, winPts1 c (peer 1 c) fullShare f) ∗ (∃ f, winPts0 c (peer 2 c) fullShare f) ∗ (∃ f, winPts1 c (peer 2 c) fullShare f))
    ⊢ (iprop(∃ f, (Memref.whole cc0_scratch3).view.loc (c : Thread nD τ) ↦{fullShare} f) : sProp 𝕄) := by
  iintro ⟨⟨%f0, H0⟩, ⟨%f1, H1⟩, ⟨%f2, H2⟩, ⟨%f3, H3⟩, ⟨%f4, H4⟩, ⟨%f5, H5⟩, ⟨%f6, H6⟩, ⟨%f7, H7⟩⟩
  obtain ⟨g, g0, g1, g2, g3, g4, g5, g6, g7⟩ := eight c f0 f1 f2 f3 f4 f5 f6 f7
  iapply (comm_whole c g)
  rw [g0, g1, g2, g3, g4, g5, g6, g7]
  isplitl [H0 H1]; · isplitl [H0] <;> iassumption
  isplitl [H2 H3]; · isplitl [H2] <;> iassumption
  isplitl [H4 H5]; · isplitl [H4] <;> iassumption
  isplitl [H6] <;> iassumption

/-! ## The kernel's own semaphores -/

/-- The sixty-four semaphores of the local copies, the six of the sends, the eight of the arrivals. -/
abbrev OwnSem : Type := (Fin 16 × Fin 4) ⊕ ((Fin 2 × Fin 3) ⊕ (Fin 2 × Dev nD))
def slabQ (t : Fin 16) (r : Fin 4) : DmaSem sig := if r = 0 then slab 0 t 0 else if r = 1 then slab 0 t 1 else if r = 2 then slab 1 t 0 else slab 1 t 1
def osem : OwnSem → SemLoc sig
  | .inl tr => .dma (slabQ tr.1 tr.2)
  | .inr (.inl ki) => .dma (sendQ ki.1 ki.2)
  | .inr (.inr kp) => .dma (recvQ kp.1 kp.2)

theorem osemFacts : Pipeline.OwnSemFacts spec0 osem := by decide +kernel

theorem four_seps (Φ : Fin 4 → sProp 𝕄) : bigSep Finset.univ Φ = iprop(Φ 0 ∗ Φ 1 ∗ Φ 2 ∗ Φ 3) :=
  bigSep_univ_eq_bigSepL [0, 1, 2, 3] (by decide) (by decide) _

theorem ownSems_split (c : Dev nD) : (Pipeline.ownSems0 osem c : sProp 𝕄)
    = iprop(slabs c ∗ (bigSep Finset.univ fun k : Fin 2 => bigSep Finset.univ fun i : Fin 3 => semVal (sendCell c k i) 0)
      ∗ (bigSep Finset.univ fun k : Fin 2 => bigSep Finset.univ fun p : Dev nD => semVal (recvCell c k p) 0)) := by
  unfold Pipeline.ownSems0 slabs
  rw [bigSep_univ_sum, bigSep_univ_sum, bigSep_univ_prod, bigSep_univ_prod, bigSep_univ_prod]
  rw [bigSep_congr (s := (Finset.univ : Finset (Fin 16))) (Ψ := slabAt c) fun t _ => (four_seps _).trans rfl]
  rfl

end Cert.KernelIdeal.Talk
-- ==== Proof.Region.lean ====
/-
# The kernel's region: what it holds on entry and on exit, and its body
-/
module

public import proofs.«01_k».proof.Proof.Comm
public import Idealize.ShloMosaic.Lib.Pipeline.RegionTalk

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What the kernels are given, read off the launch memory through the host's operations. -/
def ins : Ins F where
  q c := iblk m c 0 t0_0
  bt c := iblk m c 1 t0_0
  kt c := V m c main_v1
  vt c := V m c main_v2

/-- The two buffers the kernel reads by its own copies. -/
abbrev Hs : Finset (DevRef τ sig) := {Proc.devRef .tc main_v1, Proc.devRef .tc main_v2}

theorem held_Hs (c : Dev nD) (W : Valuation τ sig (Elt F)) : (StableHlo.held (c : Thread nD τ) Hs W : sProp 𝕄)
    = iprop(((c : Thread nD τ).loc main_v1 ↦{fullShare} W (Proc.devRef .tc main_v1)) ∗ ((c : Thread nD τ).loc main_v2 ↦{fullShare} W (Proc.devRef .tc main_v2))) := by
  unfold StableHlo.held
  rw [bigSep_eq_bigSepL_of_eq [Proc.devRef .tc main_v1, Proc.devRef .tc main_v2] (by decide) (by decide)]
  rfl

/-- What the kernel's cells, once opened, bring in; what its barrier cell gives back. -/
def Xk (c : Dev nD) : sProp 𝕄 := iprop(opened (ins m) c ∗ slabs c ∗ levAts L lv)
def Yk (c : Dev nD) : sProp 𝕄 := semVal (barCell c) 0

def Φin (c : Dev nD) : sProp 𝕄 :=
  iprop(Pipeline.scopedRest spec0 c ∗ (∃ r, prngReg c r) ∗ StableHlo.held (c : Thread nD τ) Hs (V0 m c) ∗ Xk m c)
def Φout (c : Dev nD) : sProp 𝕄 :=
  iprop(Pipeline.scopedRest spec0 c ∗ (∃ r, prngReg c r) ∗ StableHlo.held (c : Thread nD τ) Hs (V0 m c) ∗ Pipeline.ownSems0 osem c ∗ Yk c)

def dat0 (c : Dev nD) : Dat τ (Elt F) Unit ℕ UU ℕ cfg0 c where
  A w := V m c (Pipeline.arrRef spec0 w)
  after w _ :=
    match w with
    | 0 => iblk m c 0 t0_0
    | 1 => iblk m c 1 t0_0
    | 2 => outV (ins m) c
  Φ t := if t.val = 0 then Φin m c else Φout m c
  q _ := fullShare
  owed t := if t.val = 0 then debt c 9 else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

theorem owed_first (c : Dev nD) : (dat0 m c).owed t0_0.castSucc = debt c 9 := by
  show (if (t0_0.castSucc : Fin (cfg0.N + 1)).val = 0 then debt c 9 else 0) = debt c 9; exact if_pos rfl
theorem owed_zero (c : Dev nD) : (pdats m 0 c).owed 0 = debt c 9 := by
  show (if ((0 : Fin (cfg0.N + 1)).val = 0) then debt c 9 else 0) = debt c 9; exact if_pos rfl
theorem owed_succ (c : Dev nD) : (dat0 m c).owed t0_0.succ = 0 := by
  show (if (t0_0.succ : Fin (cfg0.N + 1)).val = 0 then debt c 9 else 0) = 0; exact if_neg (Nat.succ_ne_zero _)
theorem owed_last (c : Dev nD) : (pdats m 0 c).owed (Fin.last _) = 0 := by
  show (if (Fin.last cfg0.N).val = 0 then debt c 9 else 0) = 0
  rw [Fin.val_last, if_neg (by rw [show cfg0.N = 1 from N_0]; decide)]
theorem Φ_first (c : Dev nD) : (dat0 m c).Φ t0_0.castSucc = Φin m c := by
  show (if (t0_0.castSucc : Fin (cfg0.N + 1)).val = 0 then Φin m c else Φout m c) = _; exact if_pos rfl
theorem Φ_zero (c : Dev nD) : (pdats m 0 c).Φ 0 = Φin m c := by
  show (if ((0 : Fin (cfg0.N + 1)).val = 0) then Φin m c else Φout m c) = _; exact if_pos rfl
theorem Φ_succ (c : Dev nD) : (dat0 m c).Φ t0_0.succ = Φout m c := by
  show (if (t0_0.succ : Fin (cfg0.N + 1)).val = 0 then Φin m c else Φout m c) = _; exact if_neg (Nat.succ_ne_zero _)
theorem Φ_last (c : Dev nD) : (pdats m 0 c).Φ (Fin.last _) = Φout m c := by
  show (if (Fin.last cfg0.N).val = 0 then Φin m c else Φout m c) = _
  rw [Fin.val_last, if_neg (by rw [show cfg0.N = 1 from N_0]; decide)]

theorem owesAt_of (c : Dev nD) (t : Fin (cfg0.N + 1)) (O : CellTallies nD τ sig Unit) (h : (dat0 m c).owed t = O) (W : Waits sig Unit) :
    (owes (c : Thread nD τ) O W : sProp 𝕄) ⊢ (dat0 m c).owesAt () t := by
  unfold Dat.owesAt Pipeline.owesWithin Dat.bound; rw [h]
  iintro HO; iexists W; isplitr; · ipureintro; exact fun _ _ => Or.inl trivial
  iexact HO
theorem of_owesAt (c : Dev nD) (t : Fin (cfg0.N + 1)) (O : CellTallies nD τ sig Unit) (h : (dat0 m c).owed t = O) :
    ((dat0 m c).owesAt () t : sProp 𝕄) ⊢ iprop(∃ W, owes (c : Thread nD τ) O W) := by
  unfold Dat.owesAt Pipeline.owesWithin; rw [h]
  iintro ⟨%W, -, HO⟩; iexists W; iexact HO

theorem debt_none (c : Dev nD) : debt c 0 = 0 := rfl

theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of the device at the contents `X`. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_0 (c : Dev nD) (d : (cfg0.win 0).block.Idx → Elt F (cfg0.win 0).elt) : (dat0 m c).before 0 t0_0 d = (ins m).q c := by
  unfold Dat.before; rw [if_pos (fetch0_0 t0_0)]; rfl
theorem before_1 (c : Dev nD) (d : (cfg0.win 1).block.Idx → Elt F (cfg0.win 1).elt) : (dat0 m c).before 1 t0_0 d = (ins m).bt c := by
  unfold Dat.before; rw [if_pos (fetch0_1 t0_0)]; rfl

def bodyPre (c : Dev nD) : sProp 𝕄 :=
  iprop((dat0 m c).Φ t0_0.castSucc ∗ (dat0 m c).owesAt () t0_0.castSucc
    ∗ (∃ d, staged c cc0_stg0_0 ((dat0 m c).before 0 t0_0 d)) ∗ (∃ d, staged c cc0_stg1_0 ((dat0 m c).before 1 t0_0 d)) ∗ (∃ d, staged c cc0_stg2_0 ((dat0 m c).before 2 t0_0 d)))
def bodyPost (c : Dev nD) : sProp 𝕄 :=
  iprop((dat0 m c).Φ t0_0.succ ∗ (dat0 m c).owesAt () t0_0.succ
    ∗ staged c cc0_stg0_0 ((ins m).q c) ∗ staged c cc0_stg1_0 ((ins m).bt c) ∗ staged c cc0_stg2_0 (outV (ins m) c))

/-- The semaphores, each back at zero. -/
theorem sems_back (c : Dev nD) : iprop(slabs c
      ∗ (semVal (sendCell c 0 0) 0 ∗ semVal (sendCell c 0 1) 0 ∗ semVal (sendCell c 0 2) 0 ∗ semVal (sendCell c 1 0) 0 ∗ semVal (sendCell c 1 1) 0 ∗ semVal (sendCell c 1 2) 0)
      ∗ (semVal (recvCell c 0 (peer 0 c)) 0 ∗ semVal (recvCell c 0 (peer 1 c)) 0 ∗ semVal (recvCell c 0 (peer 2 c)) 0
        ∗ semVal (recvCell c 1 (peer 0 c)) 0 ∗ semVal (recvCell c 1 (peer 1 c)) 0 ∗ semVal (recvCell c 1 (peer 2 c)) 0)
      ∗ (semVal (recvCell c 0 c) 0 ∗ semVal (recvCell c 1 c) 0))
    ⊢ (Pipeline.ownSems0 osem c : sProp 𝕄) := by
  rw [ownSems_split]
  iintro ⟨Hsl, ⟨S0, S1, S2, S3, S4, S5⟩, ⟨R0, R1, R2, R3, R4, R5⟩, ⟨O0, O1⟩⟩
  isplitl [Hsl]; · iexact Hsl
  iapply (eachQ_eq c (fun g => (semVal g 0 : sProp 𝕄))).2
  unfold eachQ
  isplitl [S0 S1 S2]
  · isplitl [S0]; · iexact S0
    isplitl [S1] <;> iassumption
  isplitl [S3 S4 S5]
  · isplitl [S3]; · iexact S3
    isplitl [S4] <;> iassumption
  isplitl [O0 R0 R1 R2]
  · isplitl [O0]; · iexact O0
    isplitl [R0]; · iexact R0
    isplitl [R1] <;> iassumption
  isplitl [O1]; · iexact O1
  isplitl [R3]; · iexact R3
  isplitl [R4] <;> iassumption

theorem body_run (c : Dev nD) : bodyPre m c ⊢ wp frame (wpE (defs₀ (F := F)) 𝒱₀ (c : Thread nD τ) none) Set.univ (bodyAt0 t0_0) (fun _ => bodyPost m c) := by
  unfold bodyPre bodyPost
  rw [Φ_first, Φ_succ]
  unfold Φin Φout Xk Yk opened
  rw [scopedRest0_eq, held_Hs]
  iintro ⟨⟨⟨⟨%gk, HK⟩, ⟨%gv, HV⟩, ⟨%fc, HC⟩⟩, Hp, ⟨Hk, Hv⟩, ⟨⟨%K, HI⟩, Hkn, Hpy, Hwt, HatB, HcB, Hown⟩, Hsl, Hlev⟩, HO, ⟨%d0, %fq, %hq, Hq⟩, ⟨%d1, %fb, %hb, Hb⟩, ⟨%d2, %fo, -, Ho⟩⟩
  ihave HO' := (of_owesAt m c _ (debt c 9) (owed_first m c)) $$ HO
  icases HO' with ⟨%W, HO⟩
  ihave HC' := (comm_windows c fc) $$ HC
  iapply (body (ins m) K c W (fun _ => _) gk gv fq (hq.trans (before_0 m c d0)) fb (hb.trans (before_1 m c d1)) (V m c main_v1) rfl (V m c main_v2) rfl fo fc)
  isplitl [HI]; · iexact HI
  isplitl [Hlev]; · iexact Hlev
  isplitl [Hkn]; · iexact Hkn
  isplitl [Hpy]; · iexact Hpy
  isplitl [Hwt]; · iexact Hwt
  isplitl [HatB]; · iexact HatB
  isplitl [HcB]; · iexact HcB
  isplitl [Hk]; · iexact Hk
  isplitl [Hv]; · iexact Hv
  isplitl [HK]; · iexact HK
  isplitl [HV]; · iexact HV
  isplitl [Hq]; · iexact Hq
  isplitl [Hb]; · iexact Hb
  isplitl [Ho]; · iexact Ho
  isplitl [HC']; · iexact HC'
  isplitl [Hsl]; · iexact Hsl
  isplitl [HO]; · iexact HO
  unfold done
  iintro ⟨Hk, Hv, HK, HV, Hq, Hb, Hsl, C0, C1, P00, P01, P10, P11, P20, P21, Ho, Hse, Hre, Hbar, ⟨%W', HO⟩⟩
  ihave HC := (comm_join c) $$ [C0 C1 P00 P01 P10 P11 P20 P21]
  · isplitl [C0]; · iexact C0
    isplitl [C1]; · iexact C1
    isplitl [P00]; · iexact P00
    isplitl [P01]; · iexact P01
    isplitl [P10]; · iexact P10
    isplitl [P11]; · iexact P11
    isplitl [P20] <;> iassumption
  ihave Hsem := (sems_back c) $$ [Hsl Hse Hre Hown]
  · isplitl [Hsl]; · iexact Hsl
    isplitl [Hse]; · iexact Hse
    isplitl [Hre] <;> iassumption
  isplitl [HK HV HC Hp Hk Hv Hsem Hbar]
  · isplitl [HK HV HC]
    · isplitl [HK]; · iexact HK
      isplitl [HV]; · iexact HV
      iexact HC
    isplitl [Hp]; · iexact Hp
    isplitl [Hk Hv]; · isplitl [Hk] <;> iassumption
    isplitl [Hsem]; · iexact Hsem
    iexact Hbar
  isplitl [HO]; · iapply (owesAt_of m c t0_0.succ 0 (owed_succ m c) W'); iexact HO
  isplitl [Hq]
  · iexists fq; isplitr
    · ipureintro; exact hq.trans (before_0 m c d0)
    iexact Hq
  isplitl [Hb]
  · iexists fb; isplitr
    · ipureintro; exact hb.trans (before_1 m c d1)
    iexact Hb
  iexists (outV (ins m) c); isplitr; · ipureintro; rfl
  iexact Ho

theorem body_ob (c : Dev nD) : BodyObligation (dat0 m c) defs₀ 𝒱₀ () Set.univ := fun t => by
  rw [fin_N0 t]
  rw [bigSep_W0, bigSep_W0]
  simp only [owns_stage]
  show bodyPre m c ⊢ wp frame (wpE (defs₀ (F := F)) 𝒱₀ (c : Thread nD τ) none) Set.univ (bodyAt0 t0_0) (fun _ => bodyPost m c)
  exact body_run m c

end Cert.KernelIdeal.Talk
-- ==== Proof.Run.lean ====
/-
# The run of the whole program on the four devices
-/
module

public import proofs.«01_k».proof.Proof.Region
public import Idealize.ShloMosaic.Lib.Quiescent

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A device's buffers as launched, after the host's first operations, after the kernel, and at the end. -/
def U0 (c : Dev nD) : Valuation τ sig (Elt F) := fun b => m (c, b)
def U1 (c : Dev nD) : Valuation τ sig (Elt F) := StableHlo.after hostOps0 (U0 m c)
def U3 (c : Dev nD) : Valuation τ sig (Elt F) := Pipeline.withArrays spec0 c (V0 m c) fun w => (dat0 m c).arrAt w cfg0.N
def U4 (c : Dev nD) : Valuation τ sig (Elt F) := StableHlo.after hostOps1 (U3 m c)

theorem V0_eq (c : Dev nD) : V0 m c = StableHlo.after hostOps0_1 (U1 m c) :=
  StableHlo.after_append hostOps0 hostOps0_1 (U0 m c)

/-- What rides beside the buffers up to the kernel, and after it. -/
def R (c : Dev nD) : sProp 𝕄 := iprop(start (ins m) c ∗ (∃ r, prngReg c r) ∗ ∃ W, owes (c : Thread nD τ) (O₀ c) W)
def R' (c : Dev nD) : sProp 𝕄 := iprop(semVal (barCell c) 0 ∗ ∃ W, owes (c : Thread nD τ) (0 : CellTallies nD τ sig Unit) W)

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv
local notation "𝕌" => Pipeline.ucRefs τ sig

def seg0 : ℍ := Pipeline.HostSeg.ofOps _ _ _ _ _ 𝕌 hostOps0 (fun op h => Pipeline.sub_ucRefs op (List.forall_iff_forall_mem.mp hostOps0_sub op h))
  (List.forall_iff_forall_mem.mp hostOps0_fresh) (U0 m) (R m)
def seg1 : ℍ := Pipeline.HostSeg.ofOps _ _ _ _ _ 𝕌 hostOps0_1 (fun op h => Pipeline.sub_ucRefs op (List.forall_iff_forall_mem.mp hostOps0_1_sub op h))
  (List.forall_iff_forall_mem.mp hostOps0_1_fresh) (U1 m) (R m)
def seg3 : ℍ := Pipeline.HostSeg.ofOps _ _ _ _ _ 𝕌 hostOps1 (fun op h => Pipeline.sub_ucRefs op (List.forall_iff_forall_mem.mp hostOps1_sub op h))
  (List.forall_iff_forall_mem.mp hostOps1_fresh) (U3 m) R'

/-! ## The kernel's region as a segment -/

theorem arr_sub : Pipeline.arrRefs (τ := τ) spec0 ⊆ 𝕌 := Pipeline.arrRefs_sub_ucRefs spec0 launch0.win.arr_unscoped
abbrev Sr : Finset (DevRef τ sig) := 𝕌 \ Pipeline.arrRefs spec0

theorem Hs_sub : Hs ⊆ Sr := by decide +kernel

theorem open_region (c : Dev nD) : iprop(start (ins m) c ∗ Pipeline.ownSems0 osem c ∗ levAts L lv) ⊢ (|={Set.univ}=> Xk m c : sProp 𝕄) := by
  rw [ownSems_split]
  unfold Xk
  iintro ⟨Hst, ⟨Hsl, Hse, Hre⟩, #Hlev⟩
  ihave Hq := (eachQ_eq c (fun g => (semVal g 0 : sProp 𝕄))).1 $$ [Hse Hre]
  · isplitl [Hse] <;> iassumption
  imod (open_all (ins m) c) $$ [Hst Hq] with Hop
  · isplitl [Hst] <;> iassumption
  imodintro
  isplitl [Hop]; · iexact Hop
  isplitl [Hsl]; · iexact Hsl
  iexact Hlev

theorem U3_rest (c : Dev nD) (b : DevRef τ sig) (hb : b ∉ Pipeline.arrRefs (τ := τ) spec0) : U3 m c b = V0 m c b := by
  unfold U3 Pipeline.withArrays
  rw [dif_neg]
  rintro ⟨w, e⟩
  exact hb (e ▸ Finset.mem_map_of_mem _ (Finset.mem_image_of_mem _ (Finset.mem_univ w)))

theorem held_Hs_U3 (c : Dev nD) : (StableHlo.held (c.tc : Thread nD τ) Hs (U3 m c) : sProp 𝕄) = StableHlo.held (c.tc : Thread nD τ) Hs (V0 m c) :=
  StableHlo.held_congr (c.tc : Thread nD τ) fun b hb => U3_rest m c b (Finset.mem_sdiff.mp (Hs_sub hb)).2

theorem owed_cut (c : Dev nD) (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then debt c 9 else 0 := rfl
  rw [e] at h
  split at h
  · obtain ⟨k, -, rfl⟩ := debt_pos h
    refine ⟨?_, lv_payCell c k⟩
    unfold L; rw [if_pos (payCell_tc c k)]; exact Finset.mem_singleton_self _
  · exact absurd h (Nat.lt_irrefl 0)

theorem stage_low : ∀ (w : Fin cfg0.W) (s : Fin (cfg0.win w).nbuf), lvOf (.dma ((cfg0.win w).sem s)) = 0 := by decide +kernel

set_option backward.isDefEq.respectTransparency.types false in
def reg : ℝ𝕊 0 :=
  Pipeline.RegionSeg.ofTalk (pcfgs (F := F)) adm (pdats m) () defs₀ 𝒱₀ L lv 0 osem osemFacts
    Hs Sr Hs_sub launch0.toP rfl (fun c => (body_ob m c).loose)
    (fun _ => 0) O₀ (fun c => (owed_zero m c).trans (zero_add _).symm) (owed_last m) (fun _ => rfl) (fun _ w => by unfold Dat.share; split <;> rfl)
    (V0 m) (U3 m) (fun c b hb => U3_rest m c b (Finset.mem_sdiff.mp (Finset.mem_sdiff.mp hb).1).2)
    (start (ins m)) Yk (Xk m) Yk (open_region m)
    (fun c => Entails.of_eq (Φ_zero m c).symm)
    (fun c => by rw [Φ_last, held_Hs_U3]; exact BI.Entails.refl _)
    (fun c => by iintro H; imodintro; iexact H)
    (fun _ => 0)
    ⟨fun c w s => by rw [L_tc]; exact Finset.mem_singleton_self _, fun c w s => le_of_eq (stage_low w s), fun c t g i h => owed_cut m c t g i h⟩
    (fun _ => iprop(emp))
    (fun _ w => rfl) (fun c w => (Pipeline.withArrays_arr spec0 launch0.win.arr_inj c (V0 m c) (fun w => (dat0 m c).arrAt w cfg0.N) w).symm)

theorem region_pre (c : Dev nD) : iprop(StableHlo.held (c.tc : Thread nD τ) 𝕌 (StableHlo.after hostOps0_1 (U1 m c)) ∗ R m c) ⊢ (reg m).pre c := by
  show _ ⊢ iprop(StableHlo.held (c.tc : Thread nD τ) (Pipeline.arrRefs spec0) (V0 m c) ∗ (∃ r, prngReg c r)
    ∗ (StableHlo.held (c.tc : Thread nD τ) Sr (V0 m c) ∗ emp) ∗ start (ins m) c ∗ ∃ Wd, owes (c : Thread nD τ) (0 + O₀ c) Wd)
  rw [← V0_eq, zero_add, StableHlo.held_sub_split (c.tc : Thread nD τ) arr_sub (V0 m c)]
  unfold R
  iintro ⟨⟨Ha, Hr⟩, Hst, Hp, HO⟩
  isplitl [Ha]; · iexact Ha
  isplitl [Hp]; · iexact Hp
  isplitl [Hr]
  · isplitl [Hr]; · iexact Hr
    iempintro
  isplitl [Hst]; · iexact Hst
  iexact HO

theorem region_post (c : Dev nD) : (reg m).post c ⊢ iprop(StableHlo.held (c.tc : Thread nD τ) 𝕌 (U3 m c) ∗ R' c) := by
  show iprop(StableHlo.held (c.tc : Thread nD τ) (Pipeline.arrRefs spec0) (U3 m c) ∗ (∃ r, prngReg c r)
    ∗ (StableHlo.held (c.tc : Thread nD τ) Sr (U3 m c) ∗ emp) ∗ Yk c ∗ ∃ Wd, owes (c : Thread nD τ) (0 : CellTallies nD τ sig Unit) Wd) ⊢ _
  rw [StableHlo.held_sub_split (c.tc : Thread nD τ) arr_sub (U3 m c)]
  unfold R' Yk
  iintro ⟨Ha, -, ⟨Hr, -⟩, Hb, HO⟩
  isplitl [Ha Hr]; · isplitl [Ha] <;> iassumption
  isplitl [Hb] <;> iassumption

def segs : List (Pipeline.Seg (pcfgs (F := F)) adm (pdats m) () defs₀ 𝒱₀ L lv) :=
  [.host (seg0 m), .host (seg1 m), .region (reg m), .host (seg3 m)]

theorem main_eq (c : Dev nD) : main (F := F) c = Pipeline.Seg.run (segs m) := by
  rw [main_chain, Pipeline.Seg.run_eq_chain]; rfl

/-! ## The launch -/

theorem unscoped_eq : ∀ sm : SemLoc sig, sm.isScoped .tc = false → sm = barS := by decide

theorem unscopedSems0_eq (c : Dev nD) : (unscopedSems0 c : sProp 𝕄) = semVal (barCell c) 0 := by
  unfold unscopedSems0
  rw [show (Finset.univ.filter fun sm : SemLoc sig => ¬ sm.isScoped .tc) = {barS} from by decide, BI.bigSep_singleton]

/-- A share of two parts per device, and the two parts' shares. -/
theorem halves {Φ Ψ : Dev nD → sProp 𝕄} : bigSep Finset.univ (fun c => iprop(Φ c ∗ Ψ c)) ⊢ iprop(bigSep Finset.univ Φ ∗ bigSep Finset.univ Ψ) :=
  Entails.of_eq (BI.bigSep_sep _ _ _)
theorem joined {Φ Ψ : Dev nD → sProp 𝕄} : iprop(bigSep Finset.univ Φ ∗ bigSep Finset.univ Ψ) ⊢ bigSep Finset.univ (fun c => iprop(Φ c ∗ Ψ c)) :=
  Entails.of_eq (BI.bigSep_sep _ _ _).symm

abbrev T₀ (c : Dev nD) : sProp 𝕄 := iprop(StableHlo.held (c.tc : Thread nD τ) 𝕌 (U0 m c) ∗ R m c)
abbrev Tₙ (c : Dev nD) : sProp 𝕄 := iprop(StableHlo.held (c.tc : Thread nD τ) 𝕌 (U4 m c) ∗ semVal (barCell c) 0)

/-- A device's launch holdings outside the protocol. -/
def bundle (c : Dev nD) : sProp 𝕄 :=
  iprop(StableHlo.held (c.tc : Thread nD τ) 𝕌 (U0 m c) ∗ credits c ∗ owes (c : Thread nD τ) (O₀ c) ∅ ∗ ∃ r, prngReg c r)

theorem T₀_of (κ : GSem nD τ sig → ℕ) (c : Dev nD) : iprop(records (ins m) κ ∗ (linear c ∗ bundle m c)) ⊢ T₀ m c := by
  unfold bundle T₀ R start
  iintro ⟨#HR, Hl, Hh, Hc, HO, Hp⟩
  isplitl [Hh]; · iexact Hh
  isplitl [Hl Hc]
  · isplitr; · iexists κ; iexact HR
    isplitl [Hl] <;> iassumption
  isplitl [Hp]; · iexact Hp
  iexists ∅; iexact HO

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c.tc : Thread nD τ).loc b)) = StableHlo.held (c.tc : Thread nD τ) 𝕌 (U0 m c) from Pipeline.unscopedBufs_held c (U0 m c),
      unscopedSems0_eq]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  iintro ⟨H, -⟩
  ihave H' := (show (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := halves $$ H'; icases H2 with ⟨HB, H3⟩
  ihave H4 := halves $$ H3; icases H4 with ⟨Hv, HG⟩
  ihave Hu := (show bigSep Finset.univ (G (F := F)) ⊢ BI.own (ER (launchOf barCells scCells talkToks)) from
    Entails.of_eq (bigSep_onDev (F := F) (BI.own (ER (launchOf barCells scCells talkToks))))) $$ HG
  imod (Rounds.fund_launch ER (talkRd (ins m)) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := records (ins m) κ) (Φ := fun c => iprop(linear c ∗ bundle m c)) fun c _ => T₀_of m κ c)
  isplitr
  · unfold records invs
    isplitr; · iexact Hinv
    iexact Hr
  iapply joined
  isplitr [HB]
  · unfold linear
    iapply joined; isplitl [Hat]; · iapply hat $$ Hat
    iapply joined; isplitl [Hopen]; · iapply (open_eq (F := F)) $$ Hopen
    iapply (toks_eq (F := F)) $$ Htok
  · iexact HB

/-! ## The run -/

/-- The end of the run, read against the machine: every buffer the host names holds what the last step left. -/
theorem end_read (c : Dev nD) (s' : Phys nD τ sig (Elt F)) :
    iprop(Tₙ m c ∗ SI s') ⊢ (|={Set.univ}=> iprop(⌜(∀ b ∈ 𝕌, s'.mem.mem (c, b) = U4 m c b) ∧ s'.mem.sem (barCell c) = 0⌝ ∗ SI s') : sProp 𝕄) := by
  unfold Tₙ StableHlo.held
  iintro ⟨⟨Hh, Hb⟩, HSI⟩
  icombine HSI Hb gives %hb
  ihave H := (pointsTo_read_all (Ix := Unit) (Name := ℕ) (U := UU) (Lvl := ℕ) 𝕌 (fun b : DevRef τ sig => ((c, b) : Loc nD τ sig)) (fun b => U4 m c b) s') $$ [Hh HSI]
  · isplitl [Hh] <;> iassumption
  icases H with ⟨%hm, HSI⟩
  imodintro
  isplitr
  · ipureintro; exact ⟨hm, by simpa using hb⟩
  iexact HSI

theorem mem_uc (b : Ref sig .tc) (h : (Proc.devRef .tc b : DevRef τ sig).isScoped = false) : (Proc.devRef .tc b : DevRef τ sig) ∈ 𝕌 :=
  Finset.mem_filter.mpr ⟨StableHlo.devRef_mem_tcRefs _, fun h' => Bool.false_ne_true (h.symm.trans h')⟩

/-- The last host operation writes the result only. -/
theorem U4_arg (c : Dev nD) (b : Ref sig .tc) (h : b ≠ main_v11) : U4 m c (Proc.devRef .tc b) = U3 m c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne h))

theorem U3_arg (c : Dev nD) (b : Ref sig .tc) (h : ∀ w, Pipeline.arrRef spec0 w ≠ b) : U3 m c (Proc.devRef .tc b) = V m c b :=
  Pipeline.withArrays_of_ne spec0 c (V0 m c) _ b h

theorem U3_arg0 (c : Dev nD) : U3 m c (Proc.devRef .tc main_arg0) = V m c main_arg0 :=
  (Pipeline.withArrays_arr spec0 launch0.win.arr_inj c (V0 m c) _ 0).trans ((dat0 m c).arrAt_in 0 rfl cfg0.N)

set_option backward.isDefEq.respectTransparency.types false in
/-- Every weakly fair run ends, with the arguments as they were, the result at what the last step computes, and every counter at zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
        ∧ r.2.mem ((c : Thread nD τ).loc main_v11) = U4 m c (Proc.devRef .tc main_v11)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := hu₀)
    (T₀ := T₀ m) (Tₙ := Tₙ m)
    (hch := by
      refine ⟨fun c => BI.Entails.refl _, fun c => BI.Entails.refl _, fun c => region_pre m c, fun c => region_post m c, fun c => ?_⟩
      show iprop(StableHlo.held (c.tc : Thread nD τ) 𝕌 (U4 m c) ∗ R' c) ⊢ iprop(Tₙ m c ∗ ∃ W, owes (c : Thread nD τ) (0 : CellTallies nD τ sig Unit) W)
      unfold R'
      iintro ⟨Hh, Hb0, HO⟩
      isplitr [HO]
      · isplitl [Hh] <;> iassumption
      · iexact HO)
    (hinit := init m ρ)
    (QY := fun c s => (∀ b ∈ 𝕌, s.mem (c, b) = U4 m c b) ∧ s.sem (barCell c) = 0)
    (hfin := fun c s' => end_read m c s')
    (hQ := fun s h hs => ⟨fun c => by
        have hm := (h c).1
        refine ⟨⟨?_, ?_, ?_, ?_, ?_⟩, hm _ (mem_uc main_v11 rfl)⟩
        · exact (hm _ (mem_uc main_arg0 rfl)).trans ((U4_arg m c main_arg0 (by decide)).trans ((U3_arg0 m c).trans (V_main_arg0 m c)))
        · exact (hm _ (mem_uc main_arg1 rfl)).trans ((U4_arg m c main_arg1 (by decide)).trans ((U3_arg m c main_arg1 (by decide)).trans (V_main_arg1 m c)))
        · exact (hm _ (mem_uc main_arg2 rfl)).trans ((U4_arg m c main_arg2 (by decide)).trans ((U3_arg m c main_arg2 (by decide)).trans (V_main_arg2 m c)))
        · exact (hm _ (mem_uc main_arg3 rfl)).trans ((U4_arg m c main_arg3 (by decide)).trans ((U3_arg m c main_arg3 (by decide)).trans (V_main_arg3 m c)))
        · exact (hm _ (mem_uc main_arg4 rfl)).trans ((U4_arg m c main_arg4 (by decide)).trans ((U3_arg m c main_arg4 (by decide)).trans (V_main_arg4 m c))),
      sem_eq_zero hs fun c sm hsm => by
        obtain rfl := unscoped_eq sm hsm
        exact (h c).2⟩)

end Cert.KernelIdeal.Talk
-- ==== Proof.Algebra.lean ====
/-
# The sums behind the combination of two halves of a softmax

Everything here is about finite families of real scores, real counts and extended-real values: a half of a softmax taken
against its own maximum, two halves rescaled to a common maximum and normalised, and a softmax over the slots of a table
written as a sum over pages weighted by how often each occurs.
-/
module

public import Idealize.ShloMosaic.PureOps.Ideal
public import Idealize.ShloMosaic.PureOps.Ideal.Laws
public import Idealize.ShloMosaic.Lib.Pointwise

@[expose] public section

noncomputable section

namespace Cert.Halves

open Idealize.ShloMosaic

variable {ι κ : Type} [Fintype ι] [Fintype κ]

/-- A factor that is a nonnegative real goes into a sum of extended reals. -/
theorem sum_mul_real (f : ι → EReal) (r : ℝ) (hr : 0 ≤ r) : (∑ i, f i) * (r : EReal) = ∑ i, f i * (r : EReal) := by
  classical
  have h : ∀ s : Finset ι, (∑ i ∈ s, f i) * (r : EReal) = ∑ i ∈ s, f i * (r : EReal) := by
    intro s
    induction s using Finset.induction with
    | empty => simp
    | insert a s ha ih =>
      rw [Finset.sum_insert ha, Finset.sum_insert ha, ← ih, mul_comm _ (r : EReal), mul_comm _ (r : EReal), mul_comm _ (r : EReal)]
      exact EReal.left_distrib_of_nonneg_of_ne_top (EReal.coe_nonneg.mpr hr) (EReal.coe_ne_top r) _ _
  exact h Finset.univ

/-- A sum of nonnegative real factors of one extended real. -/
theorem real_sum_mul (r : ι → ℝ) (hr : ∀ i, 0 ≤ r i) (x : EReal) : ((∑ i, r i : ℝ) : EReal) * x = ∑ i, (r i : EReal) * x := by
  classical
  have h : ∀ s : Finset ι, ((∑ i ∈ s, r i : ℝ) : EReal) * x = ∑ i ∈ s, (r i : EReal) * x := by
    intro s
    induction s using Finset.induction with
    | empty => simp
    | insert a s ha ih =>
      rw [Finset.sum_insert ha, Finset.sum_insert ha, ← ih, EReal.coe_add]
      exact EReal.right_distrib_of_nonneg (EReal.coe_nonneg.mpr (hr a)) (EReal.coe_nonneg.mpr (Finset.sum_nonneg fun i _ => hr i))
  exact h Finset.univ

theorem coe_sum (r : ι → ℝ) : ((∑ i, r i : ℝ) : EReal) = ∑ i, (r i : EReal) := by
  classical
  have h : ∀ s : Finset ι, ((∑ i ∈ s, r i : ℝ) : EReal) = ∑ i ∈ s, (r i : EReal) := by
    intro s
    induction s using Finset.induction with
    | empty => simp
    | insert a s ha ih => rw [Finset.sum_insert ha, Finset.sum_insert ha, ← ih, EReal.coe_add]
  exact h Finset.univ

/-- A finite family's maximum, not all of it −∞ and none of it +∞, is a real. -/
theorem fold_real (S : ι → EReal) (i₀ : ι) (h₀ : S i₀ ≠ ⊥) (h : ∀ i, S i ≠ ⊤) :
    ∃ M : ℝ, Finset.fold max ⊥ S Finset.univ = (M : EReal) := by
  have e : Finset.fold max ⊥ S Finset.univ = Finset.univ.sup S := rfl
  obtain ⟨i, -, hi⟩ := Finset.exists_mem_eq_sup (Finset.univ : Finset ι) ⟨i₀, Finset.mem_univ _⟩ S
  have hb : Finset.univ.sup S ≠ ⊥ := fun hc => h₀ (le_bot_iff.mp (hc ▸ Finset.le_sup (Finset.mem_univ i₀)))
  rw [e]
  exact ⟨(Finset.univ.sup S).toReal, (EReal.coe_toReal (hi ▸ h i) hb).symm⟩

theorem exp_sub (a b : ℝ) : Ideal.exp ((a : EReal) - (b : EReal)) = ((Real.exp (a - b) : ℝ) : EReal) := by
  rw [← EReal.coe_sub]; rfl

/-- A half against its own maximum `m`, rescaled to `M`. -/
theorem half_out (s c : ι → ℝ) (hc : ∀ i, 0 ≤ c i) (v : ι → EReal) (m M : ℝ) :
    (∑ i, Ideal.exp ((s i : EReal) - (m : EReal)) * (c i : EReal) * v i) * Ideal.exp ((m : EReal) - (M : EReal))
      = ∑ i, ((Real.exp (s i - M) * c i : ℝ) : EReal) * v i := by
  rw [exp_sub, sum_mul_real _ _ (Real.exp_pos _).le]
  refine Finset.sum_congr rfl fun i _ => ?_
  rw [exp_sub, ← EReal.coe_mul, mul_right_comm, ← EReal.coe_mul, mul_right_comm, ← Real.exp_add, sub_add_sub_cancel]

theorem half_len (s c : ι → ℝ) (m M : ℝ) :
    (∑ i, Ideal.exp ((s i : EReal) - (m : EReal)) * (c i : EReal)) * Ideal.exp ((m : EReal) - (M : EReal))
      = ((∑ i, Real.exp (s i - M) * c i : ℝ) : EReal) := by
  rw [exp_sub, sum_mul_real _ _ (Real.exp_pos _).le, coe_sum]
  refine Finset.sum_congr rfl fun i _ => ?_
  rw [exp_sub, mul_right_comm, ← EReal.coe_mul, ← EReal.coe_mul, ← Real.exp_add, sub_add_sub_cancel]

theorem shift (a M Z c : ℝ) : Real.exp (a - M) * c * (1 / (Real.exp (-M) * Z)) = Real.exp a * c / Z := by
  rw [sub_eq_add_neg, Real.exp_add]
  have := (Real.exp_pos (-M)).ne'
  by_cases hZ : Z = 0
  · subst hZ; simp
  · field_simp

/-- Two halves, each against its own maximum, rescaled to a common one and normalised, are one softmax. -/
theorem combine (s c : ι → ℝ) (hc : ∀ i, 0 ≤ c i) (v : ι → EReal) (m : ℝ)
    (s' c' : κ → ℝ) (hc' : ∀ i, 0 ≤ c' i) (v' : κ → EReal) (m' M Z : ℝ)
    (hZ : Z = (∑ i, Real.exp (s i) * c i) + ∑ i, Real.exp (s' i) * c' i) (hpos : 0 < Z) :
    ((∑ i, Ideal.exp ((s i : EReal) - (m : EReal)) * (c i : EReal) * v i) * Ideal.exp ((m : EReal) - (M : EReal))
      + (∑ i, Ideal.exp ((s' i : EReal) - (m' : EReal)) * (c' i : EReal) * v' i) * Ideal.exp ((m' : EReal) - (M : EReal)))
      * Ideal.div 1 ((∑ i, Ideal.exp ((s i : EReal) - (m : EReal)) * (c i : EReal)) * Ideal.exp ((m : EReal) - (M : EReal))
        + (∑ i, Ideal.exp ((s' i : EReal) - (m' : EReal)) * (c' i : EReal)) * Ideal.exp ((m' : EReal) - (M : EReal)))
      = (∑ i, ((Real.exp (s i) * c i / Z : ℝ) : EReal) * v i) + ∑ i, ((Real.exp (s' i) * c' i / Z : ℝ) : EReal) * v' i := by
  have hd : (∑ i, Real.exp (s i - M) * c i) + ∑ i, Real.exp (s' i - M) * c' i = Real.exp (-M) * Z := by
    rw [hZ, mul_add, Finset.mul_sum, Finset.mul_sum]
    congr 1 <;>
    · refine Finset.sum_congr rfl fun i _ => ?_
      rw [sub_eq_add_neg, Real.exp_add]; ring
  have hw : 0 < Real.exp (-M) * Z := mul_pos (Real.exp_pos _) hpos
  rw [half_out s c hc, half_out s' c' hc', half_len, half_len, ← EReal.coe_add, hd, Ideal.div_coe hw.ne', one_mul,
    mul_comm _ ((1 / (Real.exp (-M) * Z) : ℝ) : EReal),
    EReal.left_distrib_of_nonneg_of_ne_top (EReal.coe_nonneg.mpr (by positivity)) (EReal.coe_ne_top _),
    mul_comm ((1 / (Real.exp (-M) * Z) : ℝ) : EReal), mul_comm ((1 / (Real.exp (-M) * Z) : ℝ) : EReal),
    sum_mul_real _ _ (by positivity), sum_mul_real _ _ (by positivity)]
  congr 1 <;>
  · refine Finset.sum_congr rfl fun i _ => ?_
    rw [mul_right_comm, ← EReal.coe_mul, shift]

/-- A softmax over keys some of which are masked. -/
theorem softmax (L : ι → Prop) [DecidablePred L] (s : ι → ℝ) (v : ι → EReal) (i₀ : ι) (h₀ : L i₀) (Z : ℝ)
    (hZ : Z = ∑ i, if L i then Real.exp (s i) else 0) (S : ι → EReal) (hS : ∀ i, S i = if L i then (s i : EReal) else ⊥) :
    ∑ i, v i * Ideal.div (Ideal.exp (S i - Finset.fold max ⊥ S Finset.univ)) (∑ j, Ideal.exp (S j - Finset.fold max ⊥ S Finset.univ))
      = ∑ i, if L i then ((Real.exp (s i) / Z : ℝ) : EReal) * v i else 0 := by
  obtain ⟨M, hM⟩ := fold_real S i₀ (by rw [hS, if_pos h₀]; exact EReal.coe_ne_bot _)
    (fun i => by rw [hS]; split; exacts [EReal.coe_ne_top _, bot_ne_top])
  have he : ∀ i, Ideal.exp (S i - (M : EReal)) = ((if L i then Real.exp (s i - M) else 0 : ℝ) : EReal) := by
    intro i
    rw [hS]
    split
    · exact exp_sub _ _
    · rw [EReal.bot_sub]; rfl
  have hd : (∑ i, if L i then Real.exp (s i - M) else 0) = Real.exp (-M) * Z := by
    rw [hZ, Finset.mul_sum]
    refine Finset.sum_congr rfl fun i _ => ?_
    split
    · rw [sub_eq_add_neg, Real.exp_add]; ring
    · rw [mul_zero]
  have hpos : 0 < Z := by
    rw [hZ]
    refine Finset.sum_pos' (fun i _ => by split; exacts [(Real.exp_pos _).le, le_rfl]) ⟨i₀, Finset.mem_univ _, ?_⟩
    rw [if_pos h₀]; exact Real.exp_pos _
  have hw : 0 < Real.exp (-M) * Z := mul_pos (Real.exp_pos _) hpos
  rw [hM]
  simp only [he]
  rw [← coe_sum, hd]
  refine Finset.sum_congr rfl fun i _ => ?_
  rw [Ideal.div_coe hw.ne', ← EReal.coe_mul]
  split
  · have := shift (s i) M Z 1
    rw [mul_one, mul_one] at this
    rw [this, mul_comm]
  · rw [zero_mul, EReal.coe_zero, mul_zero]

/-- A sum over pages, each as often as a table of slots names it, is the sum over the slots. -/
theorem slots {π τ : Type} [Fintype π] [DecidableEq π] [Fintype τ] (L : ι → Prop) [DecidablePred L] (P : ι → π)
    (e : π → τ → ℝ) (he : ∀ p t, 0 ≤ e p t) (v : π → τ → EReal) :
    ∑ p, ∑ t, ((e p t * ∑ j, (if L j ∧ P j = p then 1 else 0) : ℝ) : EReal) * v p t
      = ∑ j, ∑ t, if L j then (e (P j) t : EReal) * v (P j) t else 0 := by
  have h : ∀ p t, ((e p t * ∑ j, (if L j ∧ P j = p then 1 else 0) : ℝ) : EReal) * v p t
      = ∑ j, if P j = p then (if L j then (e (P j) t : EReal) * v (P j) t else 0) else 0 := by
    intro p t
    rw [Finset.mul_sum, real_sum_mul _ (fun j => mul_nonneg (he p t) (by split <;> norm_num))]
    refine Finset.sum_congr rfl fun j _ => ?_
    by_cases hP : P j = p
    · by_cases hL : L j
      · rw [if_pos ⟨hL, hP⟩, if_pos hP, if_pos hL, mul_one, hP]
      · rw [if_neg (fun h => hL h.1), if_pos hP, if_neg hL, mul_zero, EReal.coe_zero, zero_mul]
    · rw [if_neg (fun h => hP h.2), if_neg hP, mul_zero, EReal.coe_zero, zero_mul]
  simp only [h]
  rw [Finset.sum_congr rfl fun p _ => Finset.sum_comm, Finset.sum_comm]
  refine Finset.sum_congr rfl fun j _ => ?_
  rw [Finset.sum_comm]
  refine Finset.sum_congr rfl fun t _ => ?_
  rw [Finset.sum_ite_eq, if_pos (Finset.mem_univ _)]

theorem slots_real {π τ : Type} [Fintype π] [DecidableEq π] [Fintype τ] (L : ι → Prop) [DecidablePred L] (P : ι → π) (e : π → τ → ℝ) :
    ∑ p, ∑ t, (e p t * ∑ j, (if L j ∧ P j = p then (1 : ℝ) else 0)) = ∑ j, ∑ t, if L j then e (P j) t else 0 := by
  have h : ∀ p t, (e p t * ∑ j, (if L j ∧ P j = p then (1 : ℝ) else 0))
      = ∑ j, if P j = p then (if L j then e (P j) t else 0) else 0 := by
    intro p t
    rw [Finset.mul_sum]
    refine Finset.sum_congr rfl fun j _ => ?_
    by_cases hP : P j = p
    · by_cases hL : L j
      · rw [if_pos ⟨hL, hP⟩, if_pos hP, if_pos hL, mul_one, hP]
      · rw [if_neg (fun h => hL h.1), if_pos hP, if_neg hL, mul_zero]
    · rw [if_neg (fun h => hP h.2), if_neg hP, mul_zero]
  simp only [h]
  rw [Finset.sum_congr rfl fun p _ => Finset.sum_comm, Finset.sum_comm]
  refine Finset.sum_congr rfl fun j _ => ?_
  rw [Finset.sum_comm]
  refine Finset.sum_congr rfl fun t _ => ?_
  rw [Finset.sum_ite_eq, if_pos (Finset.mem_univ _)]

end Cert.Halves
-- ==== Proof.KernelValue.lean ====
/-
# What the kernel computes, read at an index over the extended reals
-/
module

public import proofs.«01_k».proof.Proof.Proto
public import proofs.«01_k».proof.Proof.Algebra
public import Idealize.ShloMosaic.PureOps.Ideal
public import Idealize.ShloMosaic.Lib.Pointwise
public import Idealize.ShloMosaic.Lib.Pipeline.Value

@[expose] public section

noncomputable section

namespace Cert.KernelIdeal.Talk

open Cert.KernelIdeal Cert.KernelIdeal.Gen
open Idealize.ShloMosaic Idealize.ShloMosaic.TcCoe

theorem ofBits_eighth : Ideal.ofBits .f32 0x3E000000#32 = (((1 : ℝ) / 8 : ℝ) : EReal) := by
  simp [Ideal.ofBits, Ideal.ieee]
  rw [← EReal.coe_mul]; norm_num
theorem ofBits_bot : Ideal.ofBits .f32 0xFF800000#32 = ⊥ := by simp [Ideal.ofBits, Ideal.ieee]

/-! ## One head on one device -/

theorem pay97_at (q : FVec Ideal S16x64 .f32) (k : Vec Ideal S1x64x2048 .f32) (b : Fin 16) (n : Fin 2048) :
    k0_pay97 q k (ix2 b n) = ∑ d : Fin 64, q (ix2 b d) * k (ix3 0 d n) := by
  pointwise [k0_pay97]
theorem pay98_at (q : FVec Ideal S16x64 .f32) (k : Vec Ideal S1x64x2048 .f32) (b : Fin 16) :
    k0_pay98 q k (ix2 b 0) = Finset.fold max ⊥ (fun n => k0_pay97 q k (ix2 b n)) Finset.univ := by
  pointwise [k0_pay98]
  rw [ofBits_bot]
theorem pay99_at (c : FVec Ideal S16x2048 .f32) (q : FVec Ideal S16x64 .f32) (k : Vec Ideal S1x64x2048 .f32) (b : Fin 16) (n : Fin 2048) :
    k0_pay99 c q k (ix2 b n) = Ideal.exp (k0_pay97 q k (ix2 b n) - k0_pay98 q k (ix2 b 0)) * c (ix2 b n) := by
  pointwise [k0_pay99]
theorem pay100_at (c : FVec Ideal S16x2048 .f32) (q : FVec Ideal S16x64 .f32) (k v : Vec Ideal S1x64x2048 .f32) (b : Fin 16) (d : Fin 64) :
    k0_pay100 c q k v (ix3 0 b d) = ∑ n : Fin 2048, k0_pay99 c q k (ix2 b n) * v (ix3 0 d n) := by
  pointwise [k0_pay100]
theorem pay101_at (q : FVec Ideal S16x64 .f32) (k : Vec Ideal S1x64x2048 .f32) (b : Fin 16) :
    k0_pay101 q k (ix3 0 b 0) = k0_pay98 q k (ix2 b 0) := by
  pointwise [k0_pay101]
theorem pay102_at (c : FVec Ideal S16x2048 .f32) (q : FVec Ideal S16x64 .f32) (k : Vec Ideal S1x64x2048 .f32) (b : Fin 16) :
    k0_pay102 c q k (ix3 0 b 0) = ∑ n : Fin 2048, k0_pay99 c q k (ix2 b n) := by
  pointwise [k0_pay102]
theorem pay95_at (x : Vec Ideal S16x1x8x64 .f32) (b : Fin 16) (i : Fin 8) (d : Fin 64) :
    k0_pay95 x (ix3 b i d) = x (ix4 b 0 i d) * (((1 : ℝ) / 8 : ℝ) : EReal) := by
  pointwise [k0_pay95]
  rw [ofBits_eighth]
theorem qRow_at (x : FVec Ideal S16x8x64 .f32) (b : Fin 16) (i : Fin 8) (d : Fin 64) :
    qRow x i (ix2 b d) = x (ix3 b i d) := by
  pointwise [qRow]

/-! ## The combination of two halves -/

theorem comb1_at (a b w : FVec Ideal S16x8 .f32) (oa ob : Vec Ideal S1x16x64 .f32) (i : Fin 8) (r : Fin 16) (d : Fin 64) :
    comb1 a b w oa ob i (ix2 r d) = (oa (ix3 0 r d) * a (ix2 r i) + ob (ix3 0 r d) * b (ix2 r i)) * w (ix2 r i) := by
  pointwise [comb1]
theorem pay156_at (ma mb : Vec Ideal S1x16x8 .f32) (r : Fin 16) (i : Fin 8) :
    k0_pay156 ma mb (ix2 r i) = Ideal.exp (ma (ix3 0 r i) - max (ma (ix3 0 r i)) (mb (ix3 0 r i))) := by
  pointwise [k0_pay156, k0_pay153, k0_pay154, k0_pay155]
theorem pay157_at (ma mb : Vec Ideal S1x16x8 .f32) (r : Fin 16) (i : Fin 8) :
    k0_pay157 ma mb (ix2 r i) = Ideal.exp (mb (ix3 0 r i) - max (ma (ix3 0 r i)) (mb (ix3 0 r i))) := by
  pointwise [k0_pay157, k0_pay153, k0_pay154, k0_pay155]
theorem pay158_at (ma la mb lb : Vec Ideal S1x16x8 .f32) (r : Fin 16) (i : Fin 8) :
    k0_pay158 ma la mb lb (ix2 r i) = Ideal.div 1
      (la (ix3 0 r i) * Ideal.exp (ma (ix3 0 r i) - max (ma (ix3 0 r i)) (mb (ix3 0 r i)))
        + lb (ix3 0 r i) * Ideal.exp (mb (ix3 0 r i) - max (ma (ix3 0 r i)) (mb (ix3 0 r i)))) := by
  pointwise [k0_pay158, k0_pay156, k0_pay157, k0_pay153, k0_pay154, k0_pay155]

/-! ## The counts -/

/-- One comparison, as a number. -/
def hit (x y : BitVec 32) : ℝ := if x = y then 1 else 0
theorem sitofp_hit (x y : BitVec 32) : (FloatOps.sitofp FTy.f32 (BitVec.setWidth 32 (IntOp.cmpi CmpIPredicate.eq x y)) : Ideal .f32) = ((hit x y : ℝ) : EReal) := by
  unfold hit
  by_cases h : x = y
  · subst h
    rw [if_pos rfl, show IntOp.cmpi CmpIPredicate.eq x x = 1#1 by simp [IntOp.cmpi]]
    show (((BitVec.setWidth 32 1#1).toInt : ℝ) : EReal) = _
    simp
  · rw [if_neg h, show IntOp.cmpi CmpIPredicate.eq x y = 0#1 by show BitVec.ofBool (x == y) = 0#1; rw [beq_false_of_ne h]; rfl]
    show (((BitVec.setWidth 32 0#1).toInt : ℝ) : EReal) = _
    simp

theorem accStep_at (pg : IVec S16x128 32) (a : FVec Ideal S16x128 .f32) (v : Vec Ideal S16x1 .i32) (r : Fin 16) (n : Fin 128) :
    accStep pg a v (ix2 r n) = a (ix2 r n) + ((hit (v (ix2 r 0)) (pg (ix2 r n)) : ℝ) : EReal) := by
  pointwise [accStep]
  rw [sitofp_hit]

theorem acc_at (pg : IVec S16x128 32) (v : Fin 128 → Vec Ideal S16x1 .i32) (a n : ℕ) (r : Fin 16) (g : Fin 128) :
    acc pg v a n (ix2 r g) = ((∑ i ∈ Finset.range n, hit (v (Fin.ofNat 128 (4 * i + a)) (ix2 r 0)) (pg (ix2 r g)) : ℝ) : EReal) := by
  induction n with
  | zero => show k0_pay2 (ix2 r g) = _; pointwise [k0_pay2]; simp
  | succ n ih =>
    show accStep pg (acc pg v a n) _ (ix2 r g) = _
    rw [accStep_at, ih, Finset.sum_range_succ, EReal.coe_add]

theorem pay94_at (pg : IVec S16x128 32) (a b c d : FVec Ideal S16x128 .f32) (v w : Vec Ideal S16x1 .i32) (r : Fin 16) (k : Fin 2048) (g : Fin 128) (hg : g.val = k.val % 128) :
    k0_pay94 pg a b c d (shapeCast S16x1 v shapeCasts_S16x1_S16x1) w (ix2 r k) = c (ix2 r g) + d (ix2 r g)
      + ((a (ix2 r g) + ((hit (v (ix2 r 0)) (pg (ix2 r g)) : ℝ) : EReal)) + (b (ix2 r g) + ((hit (w (ix2 r 0)) (pg (ix2 r g)) : ℝ) : EReal))) := by
  refine (concatenate_replicate_apply (t := S16x2048) (s₁ := S16x128) 1 16
    (addf (addf c d) (addf (accStep pg a v) (accStep pg b w))) concatenates_S16x128_S16x128_S16x128_S16x128_S16x128_S16x128_S16x128_S16x128_S16x128_S16x128_S16x128_S16x128_S16x128_S16x128_S16x128_S16x128_S16x2048_d1 rfl (ix2 r k) (ix2 r g) ?_ ?_).trans ?_
  · exact hg
  · intro x hx
    match x with
    | ⟨0, _⟩ => rfl
    | ⟨1, _⟩ => exact absurd rfl hx
  · show (c (ix2 r g) + d (ix2 r g)) + (accStep pg a v (ix2 r g) + accStep pg b w (ix2 r g)) = _
    rw [accStep_at, accStep_at]

/-- A row's 128 columns taken four at a time. -/
theorem sum_by_fours (f : Fin 128 → ℝ) : ∑ j, f j = ∑ a : Fin 4, ∑ i ∈ Finset.range 32, f (Fin.ofNat 128 (4 * i + a.val)) := by
  rw [← (finProdFinEquiv (m := 32) (n := 4)).sum_comp (fun j : Fin (32 * 4) => f j), Fintype.sum_prod_type, Finset.sum_comm]
  refine Finset.sum_congr rfl fun a _ => ?_
  rw [Finset.sum_range]
  refine Finset.sum_congr rfl fun i _ => congrArg f (Fin.ext ?_)
  show a.val + 4 * i.val = (4 * i.val + a.val) % 128
  omega

/-- How often a page number stands in a row of the table. -/
theorem cKeyOf_at (pg : IVec S16x128 32) (v : Fin 128 → Vec Ideal S16x1 .i32) (r : Fin 16) (k : Fin 2048) (g : Fin 128) (hg : g.val = k.val % 128) :
    cKeyOf pg v (ix2 r k) = ((∑ j, hit (v j (ix2 r 0)) (pg (ix2 r g)) : ℝ) : EReal) := by
  unfold cKeyOf
  rw [pay94_at pg _ _ _ _ _ _ r k g hg, acc_at, acc_at, acc_at, acc_at, sum_by_fours, Fin.sum_univ_four]
  simp only [← EReal.coe_add, EReal.coe_eq_coe_iff]
  rw [show (2 : Fin 4).val = 2 from rfl, show (3 : Fin 4).val = 3 from rfl, show (0 : Fin 4).val = 0 from rfl, show (1 : Fin 4).val = 1 from rfl,
    Finset.sum_range_succ (fun i => hit (v (Fin.ofNat 128 (4 * i + 2)) (ix2 r 0)) (pg (ix2 r g))) 31,
    Finset.sum_range_succ (fun i => hit (v (Fin.ofNat 128 (4 * i + 3)) (ix2 r 0)) (pg (ix2 r g))) 31]
  rw [show (Fin.ofNat 128 (4 * 31 + 2)) = (126 : Fin 128) from rfl, show (Fin.ofNat 128 (4 * 31 + 3)) = (127 : Fin 128) from rfl]
  ring

theorem ids_at (p : Dev nD) (r : Fin 16) (g : Fin 128) : ids p (ix2 r g) = BitVec.ofNat 32 (128 * (p.val % 2) + g.val) := by
  unfold ids
  pointwise [k0_pay1]
  have hy : yWord p = BitVec.ofNat 32 (p.val % 2) := by revert p; decide
  rw [hy]
  have hp : p.val % 2 = 0 ∨ p.val % 2 = 1 := by omega
  apply BitVec.eq_of_toNat_eq
  have := g.isLt
  rcases hp with h | h <;> rw [h] <;> simp [IntOp.addi, Scalar.muli, IntOp.muli] <;> omega

end Cert.KernelIdeal.Talk
-- ==== Proof.Heads.lean ====
/-
# What a device leaves in the result, as a softmax over the pages
-/
module

public import proofs.«01_k».proof.Proof.KernelValue

@[expose] public section

noncomputable section

namespace Cert.KernelIdeal.Talk

open Cert.KernelIdeal Cert.KernelIdeal.Gen
open Idealize.ShloMosaic Idealize.ShloMosaic.TcCoe

/-- The global number of the `n`-th page of a device, and of its `i`-th head. -/
def page (p : Dev nD) (n : Fin 128) : Fin 256 := ⟨128 * (p.val % 2) + n.val, by have := n.isLt; omega⟩
def head (p : Dev nD) (i : Fin 8) : Fin 16 := ⟨8 * (p.val / 2) + i.val, by have := i.isLt; have : p.val < 4 := p.isLt; omega⟩
/-- The page and the place in it of a device's key. -/
def keyN (k : Fin 2048) : Fin 128 := ⟨k.val % 128, Nat.mod_lt _ (by decide)⟩
def keyT (k : Fin 2048) : Fin 16 := ⟨k.val / 128, by have := k.isLt; omega⟩

/-- The kernels' inputs in terms of whole arrays: real queries and keys, any values, the live slots and the page of each. -/
structure Given (I : Ins Ideal) (Q : Fin 16 → Fin 16 → Fin 64 → ℝ) (K : Fin 256 → Fin 16 → Fin 16 → Fin 64 → ℝ)
    (V : Fin 256 → Fin 16 → Fin 16 → Fin 64 → EReal) (L : Fin 16 → Fin 128 → Prop) (P : Fin 16 → Fin 128 → Fin 256) [∀ b j, Decidable (L b j)] : Prop where
  q : ∀ (p : Dev nD) (b h : Fin 16) (d : Fin 64), I.q p (ix4 b 0 h d : S16x1x16x64.Idx) = ((Q b h d : ℝ) : EReal)
  k : ∀ (p : Dev nD) (t h : Fin 16) (d : Fin 64) (n : Fin 128), I.kt p (ix4 t h d n : S16x16x64x128.Idx) = ((K (page p n) t h d : ℝ) : EReal)
  v : ∀ (p : Dev nD) (t h : Fin 16) (d : Fin 64) (n : Fin 128), I.vt p (ix4 t h d n : S16x16x64x128.Idx) = V (page p n) t h d
  bt : ∀ (p : Dev nD) (b : Fin 16) (j : Fin 128) (g : Fin 256), hit (I.bt p (ix2 b j : S16x128.Idx)) (BitVec.ofNat 32 g.val) = if L b j ∧ P b j = g then 1 else 0

theorem half_peer0 (p : Dev nD) : (peer 0 p).val / 2 = p.val / 2 := by revert p; decide
theorem half_peer1 (p : Dev nD) : (peer 1 p).val / 2 = 1 - p.val / 2 := by revert p; decide
theorem peer2_eq (p : Dev nD) : peer 2 p = peer 0 (peer 1 p) := by revert p; decide

/-- The score of a key. -/
def score (Q : Fin 16 → Fin 16 → Fin 64 → ℝ) (K : Fin 256 → Fin 16 → Fin 16 → Fin 64 → ℝ) (b h : Fin 16) (g : Fin 256) (t : Fin 16) : ℝ :=
  ∑ d, Q b h d * (1 / 8) * K g t h d

/-- A sum over the keys of a device and those of the device with the other pages is a sum over all pages. -/
theorem sum_keys {M : Type} [AddCommMonoid M] (f : Fin 128 → Fin 16 → M) : ∑ k : Fin 2048, f (keyN k) (keyT k) = ∑ n, ∑ t, f n t := by
  rw [← (finProdFinEquiv (m := 16) (n := 128)).sum_comp (fun k : Fin (16 * 128) => f (keyN k) (keyT k)), Fintype.sum_prod_type, Finset.sum_comm]
  refine Finset.sum_congr rfl fun n _ => Finset.sum_congr rfl fun t _ => ?_
  have hn := n.isLt
  rw [show keyN (finProdFinEquiv (t, n)) = n from Fin.ext (by show (n.val + 128 * t.val) % 128 = n.val; omega),
    show keyT (finProdFinEquiv (t, n)) = t from Fin.ext (by show (n.val + 128 * t.val) / 128 = t.val; omega)]
theorem sum_pages {M : Type} [AddCommMonoid M] (p : Dev nD) (f : Fin 256 → M) : (∑ n, f (page p n)) + ∑ n, f (page (peer 0 p) n) = ∑ g, f g := by
  rw [← (finProdFinEquiv (m := 2) (n := 128)).sum_comp (fun g : Fin (2 * 128) => f g), Fintype.sum_prod_type, Fin.sum_univ_two]
  have h : ∀ (y : Fin 2) (p : Dev nD) (e : p.val % 2 = y.val), ∑ n, f (page p n) = ∑ n, f (finProdFinEquiv (y, n)) := fun y p e =>
    Finset.sum_congr rfl fun n _ => congrArg f (Fin.ext (by show 128 * (p.val % 2) + n.val = n.val + 128 * y.val; rw [e]; omega))
  have hp : (p.val % 2 = 0 ∧ (peer 0 p).val % 2 = 1) ∨ (p.val % 2 = 1 ∧ (peer 0 p).val % 2 = 0) := by revert p; decide
  rcases hp with ⟨h0, h1⟩ | ⟨h1, h0⟩
  · rw [h 0 p h0, h 1 _ h1]
  · rw [h 1 p h1, h 0 _ h0, add_comm]
theorem sum_both {M : Type} [AddCommMonoid M] (p : Dev nD) (f : Fin 256 → Fin 16 → M) :
    (∑ k : Fin 2048, f (page p (keyN k)) (keyT k)) + ∑ k : Fin 2048, f (page (peer 0 p) (keyN k)) (keyT k) = ∑ g, ∑ t, f g t := by
  rw [sum_keys (fun n t => f (page p n) t), sum_keys (fun n t => f (page (peer 0 p) n) t)]
  exact sum_pages p fun g => ∑ t, f g t

theorem read_q (p : Dev nD) (x : (cc0_stg0_0 : Ref sig .tc).ty.Contents (Elt Ideal)) (b : Fin 16) (i : Fin 8) (d : Fin 64) :
    (Memref.whole cc0_stg0_0).view.readAt (Elt Ideal) (Rect.unit (s := S16x1x16x64) (k0_off17 p) S16x1x8x64.size (k0_off17_inb p)).toLoadRect x (ix4 b 0 i d : S16x1x8x64.Idx)
      = x (ix4 b 0 (head p i) d : S16x1x16x64.Idx) := by
  have ho := k0_off17_eq p
  show x _ = x _
  refine congrArg x (funext fun a => Fin.ext ?_)
  match a with
  | ⟨0, _⟩ => show k0_off17 p 0 + 1 * b.val = b.val; rw [ho]; show 0 + 1 * b.val = b.val; omega
  | ⟨1, _⟩ => show k0_off17 p 1 + 1 * 0 = 0; rw [ho]; rfl
  | ⟨2, _⟩ => show k0_off17 p 2 + 1 * i.val = 8 * (p.val / 2) + i.val; rw [ho]; show 8 * (p.val / 2) + 1 * i.val = _; omega
  | ⟨3, _⟩ => show k0_off17 p 3 + 1 * d.val = d.val; rw [ho]; show 0 + 1 * d.val = d.val; omega
theorem read_col (x : (cc0_stg1_0 : Ref sig .tc).ty.Contents (Elt Ideal)) (j : Fin 128) (b : Fin 16) :
    col (F := Ideal) x j (ix2 b 0 : S16x1.Idx) = x (ix2 b j : S16x128.Idx) := by
  show x _ = x _
  refine congrArg x (funext fun a => Fin.ext ?_)
  match a with
  | ⟨0, _⟩ => show 0 + 1 * b.val = b.val; omega
  | ⟨1, _⟩ => show j.val + 1 * 0 = j.val; omega

theorem kRow_at (I : Ins Ideal) (p : Dev nD) (i : Fin 8) (d : Fin 64) (k : Fin 2048) :
    kRow I p i (ix3 0 d k) = I.kt p (ix4 (keyT k) (head p i) d (keyN k) : S16x16x64x128.Idx) := by
  rw [ix3_eq_valueIdx, ix4_eq_valueIdx]; rfl
theorem vRow_at (I : Ins Ideal) (p : Dev nD) (i : Fin 8) (d : Fin 64) (k : Fin 2048) :
    vRow I p i (ix3 0 d k) = I.vt p (ix4 (keyT k) (head p i) d (keyN k) : S16x16x64x128.Idx) := by
  rw [ix3_eq_valueIdx, ix4_eq_valueIdx]; rfl
theorem mRow_at (I : Ins Ideal) (p : Dev nD) (b : Fin 16) (i : Fin 8) : mRow I p (ix3 0 b i) = hM I p i (ix3 0 b 0) := by
  rw [ix3_eq_valueIdx, ix3_eq_valueIdx]; rfl
theorem lRow_at (I : Ins Ideal) (p : Dev nD) (b : Fin 16) (i : Fin 8) : lRow I p (ix3 0 b i) = hL I p i (ix3 0 b 0) := by
  rw [ix3_eq_valueIdx, ix3_eq_valueIdx]; rfl

variable {I : Ins Ideal} {Q : Fin 16 → Fin 16 → Fin 64 → ℝ} {K : Fin 256 → Fin 16 → Fin 16 → Fin 64 → ℝ}
  {V : Fin 256 → Fin 16 → Fin 16 → Fin 64 → EReal} {L : Fin 16 → Fin 128 → Prop} {P : Fin 16 → Fin 128 → Fin 256} [∀ b j, Decidable (L b j)]
  (G : Given I Q K V L P)
include G

/-- How often a row names a page. -/
def cnt (L : Fin 16 → Fin 128 → Prop) (P : Fin 16 → Fin 128 → Fin 256) [∀ b j, Decidable (L b j)] (b : Fin 16) (g : Fin 256) : ℝ :=
  ∑ j, if L b j ∧ P b j = g then 1 else 0

theorem score_at (p : Dev nD) (i : Fin 8) (b : Fin 16) (k : Fin 2048) :
    k0_pay97 (qRow (qHalf I p) i) (kRow I p i) (ix2 b k) = ((score Q K b (head p i) (page p (keyN k)) (keyT k) : ℝ) : EReal) := by
  rw [pay97_at]
  unfold score
  rw [Cert.Halves.coe_sum]
  refine Finset.sum_congr rfl fun d _ => ?_
  rw [qRow_at, show qHalf I p = k0_pay95 _ from rfl, pay95_at, read_q, G.q, kRow_at, G.k, ← EReal.coe_mul, ← EReal.coe_mul]

theorem count_at (p : Dev nD) (b : Fin 16) (k : Fin 2048) : cKey I p (ix2 b k) = ((cnt L P b (page p (keyN k)) : ℝ) : EReal) := by
  rw [show cKey I p = cKeyOf _ _ from rfl, cKeyOf_at _ _ b k (keyN k) rfl, ids_at]
  unfold cnt
  refine congrArg _ (Finset.sum_congr rfl fun j _ => ?_)
  rw [read_col]
  exact G.bt p b j (page p (keyN k))

theorem max_at (p : Dev nD) (i : Fin 8) (b : Fin 16) : ∃ m : ℝ, k0_pay98 (qRow (qHalf I p) i) (kRow I p i) (ix2 b 0) = (m : EReal) := by
  rw [pay98_at]
  exact Cert.Halves.fold_real _ 0 (by rw [score_at G]; exact EReal.coe_ne_bot _) (fun k => by rw [score_at G]; exact EReal.coe_ne_top _)

theorem combH_at (p : Dev nD) (i : Fin 8) (b : Fin 16) (d : Fin 64) (Z : ℝ)
    (hZ : Z = ∑ j, ∑ t, if L b j then Real.exp (score Q K b (head p i) (P b j) t) else 0) (hpos : 0 < Z) :
    combH I p (peer 0 p) i (ix2 b d)
      = ∑ j, ∑ t, if L b j then ((Real.exp (score Q K b (head p i) (P b j) t) / Z : ℝ) : EReal) * V (P b j) t (head p i) d else 0 := by
  have hh : head (peer 0 p) i = head p i := Fin.ext (by show 8 * ((peer 0 p).val / 2) + i.val = 8 * (p.val / 2) + i.val; rw [half_peer0])
  obtain ⟨m, hm⟩ := max_at G p i b
  obtain ⟨m', hm'⟩ := max_at G (peer 0 p) i b
  unfold combH
  rw [comb1_at, pay156_at, pay157_at, pay158_at, mRow_at, mRow_at, lRow_at, lRow_at]
  unfold hM hL hO
  rw [pay101_at, pay101_at, pay102_at, pay102_at, pay100_at, pay100_at]
  simp only [pay99_at]
  rw [hm, hm']
  simp only [score_at G, count_at G, vRow_at, G.v, hh]
  obtain ⟨M, hM⟩ : ∃ M : ℝ, max (m : EReal) (m' : EReal) = (M : EReal) := by
    rcases le_total m m' with h | h
    · exact ⟨m', max_eq_right (EReal.coe_le_coe_iff.mpr h)⟩
    · exact ⟨m, max_eq_left (EReal.coe_le_coe_iff.mpr h)⟩
  have hc : ∀ g, 0 ≤ cnt L P b g := fun g => Finset.sum_nonneg fun j _ => by split <;> norm_num
  rw [hM, Cert.Halves.combine (fun k => score Q K b (head p i) (page p (keyN k)) (keyT k)) (fun k => cnt L P b (page p (keyN k))) (fun k => hc _)
    (fun k => V (page p (keyN k)) (keyT k) (head p i) d) m
    (fun k => score Q K b (head p i) (page (peer 0 p) (keyN k)) (keyT k)) (fun k => cnt L P b (page (peer 0 p) (keyN k))) (fun k => hc _)
    (fun k => V (page (peer 0 p) (keyN k)) (keyT k) (head p i) d) m' M Z ?_ hpos,
    sum_both p (fun g t => ((Real.exp (score Q K b (head p i) g t) * cnt L P b g / Z : ℝ) : EReal) * V g t (head p i) d)]
  · rw [← Cert.Halves.slots (L b) (P b) (fun g t => Real.exp (score Q K b (head p i) g t) / Z) (fun g t => div_nonneg (Real.exp_pos _).le hpos.le) (fun g t => V g t (head p i) d)]
    refine Finset.sum_congr rfl fun g _ => Finset.sum_congr rfl fun t _ => ?_
    rw [mul_div_right_comm]; rfl
  · rw [sum_both p (fun g t => Real.exp (score Q K b (head p i) g t) * cnt L P b g), hZ]
    exact (Cert.Halves.slots_real (L b) (P b) (fun g t => Real.exp (score Q K b (head p i) g t))).symm

/-- The result of any device, at a row and a lane. -/
theorem outV_at (c : Dev nD) (b : Fin 16) (h : Fin 16) (d : Fin 64) (Z : ℝ)
    (hZ : Z = ∑ j, ∑ t, if L b j then Real.exp (score Q K b h (P b j) t) else 0) (hpos : 0 < Z) :
    outV I c (ix2 b ⟨64 * h.val + d.val, by have := h.isLt; have := d.isLt; omega⟩ : S16x1024.Idx)
      = ∑ j, ∑ t, if L b j then ((Real.exp (score Q K b h (P b j) t) / Z : ℝ) : EReal) * V (P b j) t h d else 0 := by
  have hh := h.isLt
  have hd := d.isLt
  have hc : c.val < 4 := c.isLt
  have e1 : (⟨(64 * h.val + d.val) % 512 / 64, by omega⟩ : Fin 8) = ⟨h.val % 8, by omega⟩ := Fin.ext (by show (64 * h.val + d.val) % 512 / 64 = h.val % 8; omega)
  have e2 : (⟨(64 * h.val + d.val) % 64, by omega⟩ : Fin 64) = d := Fin.ext (by show (64 * h.val + d.val) % 64 = d.val; omega)
  show (if (64 * h.val + d.val) / 512 = c.val / 2 then
      combH I c (peer 0 c) ⟨(64 * h.val + d.val) % 512 / 64, _⟩ (ValueIdx.ix2 b ⟨(64 * h.val + d.val) % 64, _⟩)
    else combH I (peer 1 c) (peer 2 c) ⟨(64 * h.val + d.val) % 512 / 64, _⟩ (ValueIdx.ix2 b ⟨(64 * h.val + d.val) % 64, _⟩)) = _
  rw [e1, e2, ← ix2_eq_valueIdx]
  split
  · rename_i hx
    have hq : head c ⟨h.val % 8, by omega⟩ = h := Fin.ext (by show 8 * (c.val / 2) + h.val % 8 = h.val; omega)
    rw [← hq] at hZ
    rw [combH_at G c _ b d Z hZ hpos, hq]
  · rename_i hx
    have hq : head (peer 1 c) ⟨h.val % 8, by omega⟩ = h := Fin.ext (by show 8 * ((peer 1 c).val / 2) + h.val % 8 = h.val; rw [half_peer1]; omega)
    rw [← hq] at hZ
    rw [peer2_eq, combH_at G (peer 1 c) _ b d Z hZ hpos, hq]

end Cert.KernelIdeal.Talk
-- ==== Proof.RefValue.lean ====
/-
# What the reference computes, read at an index over the extended reals
-/
module

public import proofs.«01_k».proof.Proof.Gen.ReferenceIdeal.Run
public import Idealize.ShloMosaic.PureOps.Ideal
public import Idealize.ShloMosaic.Lib.Pointwise
public import proofs.«01_k».proof.Proof.Algebra

@[expose] public section

noncomputable section

namespace Cert.ReferenceIdeal.Value

open Cert.ReferenceIdeal Cert.ReferenceIdeal.Gen
open Idealize.ShloMosaic Idealize.ShloMosaic.TcCoe

variable (q : FVec Ideal S16x1x16x64 .f32) (K V : FVec Ideal S256x16x16x64 .f32) (bt : IVec S16x128 32) (len : IVec S16 32)

/-- The page a slot of the table names, as the reference indexes. -/
def tab : IVec S16x128x1 32 := broadcastInDim S16x128x1 ![0, 1] bcast_S16x128_S16x128x1_0_1 (select (cmpi .slt bt (broadcastInDim S16x128 ![] bcast_S_S16x128 (constantI S_ 32 0#32))) (addi bt (broadcastInDim S16x128 ![] bcast_S_S16x128 (constantI S_ 32 256#32))) bt)
/-- The gathered keys (or values) of a row. -/
def flat : FVec Ideal S16x2048x16x64 .f32 := shapeCast S16x2048x16x64 (Host.gather gather_S256x16x16x64_S16x128x1_S16x128x16x16x64_234_0_n_n_0_2_1161664 K (tab bt)) shapeCasts_S16x128x16x16x64_S16x2048x16x64
/-- Which of a row's keys are live. -/
def live : IVec S16x16x1x2048 1 := broadcastInDim S16x16x1x2048 ![0, 1, 2, 3] bcast_S16x1x1x2048_S16x16x1x2048_0_1_2_3 (broadcastInDim S16x1x1x2048 ![0, 3] bcast_S16x2048_S16x1x1x2048_0_3 (shapeCast S16x2048 (broadcastInDim S16x128x16 ![0, 1] bcast_S16x128_S16x128x16_0_1 (cmpi .slt (broadcastInDim S16x128 ![0, 1] bcast_S1x128_S16x128_0_1 (broadcastInDim S1x128 ![1] bcast_S128_S1x128_1 (iotaInDim S128 32 0))) (broadcastInDim S16x128 ![0, 1] bcast_S16x1_S16x128_0_1 (broadcastInDim S16x1 ![0] bcast_S16_S16x1_0 len)))) shapeCasts_S16x128x16_S16x2048))
/-- The masked scores. -/
def masked : FVec Ideal S16x16x1x2048 .f32 := select (live len) (mulf (Host.dotGeneral dot_S16x1x16x64_S16x2048x16x64_S16x16x1x2048_3_3_1_1_02_02 none q (flat K bt)) (broadcastInDim S16x16x1x2048 ![] bcast_S_S16x16x1x2048 (constant S_ .f32 0x3E000000#32))) (broadcastInDim S16x16x1x2048 ![] bcast_S_S16x16x1x2048 (id (constant S_ .f32 0xFF800000#32)))
/-- Their exponentials against the row's maximum. -/
def weights : FVec Ideal S16x16x1x2048 .f32 := Host.exp (subf (masked q K bt len) (broadcastInDim S16x16x1x2048 ![0, 1, 2, 3] bcast_S16x16x1x1_S16x16x1x2048_0_1_2_3 (broadcastInDim S16x16x1x1 ![0, 1, 2] bcast_S16x16x1_S16x16x1x1_0_1_2 (Host.reduce FloatOps.maximumf (masked q K bt len) (constant S_ .f32 0xFF800000#32) reducesTo_S16x16x1x2048_S16x16x1_d3 h_S_))))
/-- The result. -/
def result : FVec Ideal S16x1x16x64 .f32 := transpose S16x1x16x64 [0, 3, 1, 2] (Host.dotGeneral dot_S16x2048x16x64_S16x16x1x2048_S16x16x64x1_1_3_3_2_02_01 none (flat V bt) (Host.divf (weights q K bt len) (broadcastInDim S16x16x1x2048 ![0, 1, 2, 3] bcast_S16x16x1x1_S16x16x1x2048_0_1_2_3 (broadcastInDim S16x16x1x1 ![0, 1, 2] bcast_S16x16x1_S16x16x1x1_0_1_2 (Host.reduceAdd (weights q K bt len) (constant S_ .f32 0x00000000#32) reducesTo_S16x16x1x2048_S16x16x1_d3 h_S_))))) transposes_S16x16x64x1_S16x1x16x64_0_3_1_2

theorem res_eq (m : (ℓ : Loc nD τ sig) → Buf (Elt Ideal) ℓ) (c : Dev nD) : res_main_v39 m c
    = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

theorem tab_at (b : Fin 16) (j : Fin 128) : tab bt (ix3 b j 0) = Scalar.select (IntOp.cmpi .slt (bt (ix2 b j)) 0#32) (IntOp.addi (bt (ix2 b j)) 256#32) (bt (ix2 b j)) := by
  pointwise [tab]

/-- The page the gather reads at a slot: the table's word, wrapped and clamped. -/
def pick (b : Fin 16) (j : Fin 128) : Fin 256 := ⟨min (tab bt (ix3 b j 0)).toInt.toNat 255, by omega⟩

theorem gather_at (b : Fin 16) (j : Fin 128) (t h : Fin 16) (d : Fin 64) :
    Host.gather gather_S256x16x16x64_S16x128x1_S16x128x16x16x64_234_0_n_n_0_2_1161664 K (tab bt) (ix5 b j t h d) = K (ix4 (pick bt b j) t h d) := by
  have hsi : ∀ l, gather_S256x16x16x64_S16x128x1_S16x128x16x16x64_234_0_n_n_0_2_1161664.siIdx (ix5 b j t h d) l = (ix3 b j 0 : S16x128x1.Idx) := by
    intro l
    funext a
    refine Fin.ext ?_
    match a with
    | ⟨0, _⟩ => rfl
    | ⟨1, _⟩ => rfl
    | ⟨2, _⟩ => exact Nat.lt_one_iff.mp (Fin.isLt _)
  show K _ = K _
  refine congrArg K (funext fun a => Fin.ext ?_)
  match a with
  | ⟨0, _⟩ =>
    show GatherDims.start _ (ix5 b j t h d) (tab bt) 0 + GatherDims.batchCoord _ _ 0 + GatherDims.offCoord _ _ 0 = min (tab bt (ix3 b j 0)).toInt.toNat 255
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin S256x16x16x64.rank) ∈ gather_S256x16x16x64_S16x128x1_S16x128x16x16x64_234_0_n_n_0_2_1161664.startIndexMap from List.mem_singleton.mpr rfl), hsi]
    rfl
  | ⟨1, _⟩ => show 0 + 0 + t.val = t.val; omega
  | ⟨2, _⟩ => show 0 + 0 + h.val = h.val; omega
  | ⟨3, _⟩ => show 0 + 0 + d.val = d.val; omega

/-- The slot and the place in the page of a key. -/
def slotOf (n : Fin 2048) : Fin 128 := ⟨n.val / 16, by have := n.isLt; omega⟩
def placeOf (n : Fin 2048) : Fin 16 := ⟨n.val % 16, Nat.mod_lt _ (by decide)⟩

theorem flat_at (b : Fin 16) (n : Fin 2048) (h : Fin 16) (d : Fin 64) : flat K bt (ix4 b n h d) = K (ix4 (pick bt b (slotOf n)) (placeOf n) h d) := by
  pointwise [flat]
  exact gather_at K bt b (slotOf n) (placeOf n) h d
theorem live_at (b : Fin 16) (n : Fin 2048) (h : Fin 16) : live len (ix4 b h 0 n) = IntOp.cmpi .slt (BitVec.ofNat 32 (slotOf n).val) (len (ix1 b)) := by
  pointwise [live]
  rfl

theorem masked_at (b : Fin 16) (n : Fin 2048) (h : Fin 16) : masked q K bt len (ix4 b h 0 n)
    = Scalar.select (live len (ix4 b h 0 n)) ((∑ x, q (ix4 b 0 h x) * flat K bt (ix4 b n h x)) * (((1 : ℝ) / 8 : ℝ) : EReal)) ⊥ := by
  pointwise [masked]
  rw [show (id (constant S_ FTy.f32 4286578688#32) ix0 : Ideal .f32) = Ideal.ofBits .f32 0xFF800000#32 from rfl,
    show Ideal.ofBits .f32 0xFF800000#32 = ⊥ by simp [Ideal.ofBits, Ideal.ieee],
    show Ideal.ofBits .f32 0x3E000000#32 = (((1 : ℝ) / 8 : ℝ) : EReal) by
      simp [Ideal.ofBits, Ideal.ieee]
      rw [← EReal.coe_mul]; norm_num]
theorem weights_at (b : Fin 16) (n : Fin 2048) (h : Fin 16) : weights q K bt len (ix4 b h 0 n)
    = Ideal.exp (masked q K bt len (ix4 b h 0 n) - Finset.fold max ⊥ (fun x => masked q K bt len (ix4 b h 0 x)) Finset.univ) := by
  pointwise [weights]
  rw [show Ideal.ofBits .f32 0xFF800000#32 = ⊥ by simp [Ideal.ofBits, Ideal.ieee]]
theorem result_at (b : Fin 16) (h : Fin 16) (d : Fin 64) : result q K V bt len (ix4 b 0 h d)
    = ∑ n, flat V bt (ix4 b n h d) * Ideal.div (weights q K bt len (ix4 b h 0 n)) (∑ x, weights q K bt len (ix4 b h 0 x)) := by
  pointwise [result]

/-- A slot is live, and the page it names. -/
def Live (b : Fin 16) (j : Fin 128) : Prop := IntOp.cmpi .slt (BitVec.ofNat 32 j.val) (len (ix1 b)) = 1#1
instance (b : Fin 16) (j : Fin 128) : Decidable (Live len b j) := by unfold Live; infer_instance
def pageOf (b : Fin 16) (j : Fin 128) : Fin 256 := ⟨(bt (ix2 b j)).toNat % 256, Nat.mod_lt _ (by decide)⟩

theorem pick_eq (b : Fin 16) (j : Fin 128) (h : (bt (ix2 b j)).toNat < 256) : pick bt b j = pageOf bt b j := by
  refine Fin.ext ?_
  show min (tab bt (ix3 b j 0)).toInt.toNat 255 = (bt (ix2 b j)).toNat % 256
  have hi : (bt (ix2 b j)).toInt = (bt (ix2 b j)).toNat := BitVec.toInt_eq_toNat_of_lt (by omega)
  have hs : (bt (ix2 b j)).slt 0#32 = false := by
    rw [BitVec.slt_eq_decide, hi]; simp
  rw [tab_at, show IntOp.cmpi .slt (bt (ix2 b j)) 0#32 = 0#1 by show BitVec.ofBool _ = 0#1; rw [hs]; rfl]
  show min (bt (ix2 b j)).toInt.toNat 255 = _
  rw [hi, Int.toNat_natCast, Nat.mod_eq_of_lt h]; omega

theorem sum_slots {M : Type} [AddCommMonoid M] (f : Fin 128 → Fin 16 → M) : ∑ n : Fin 2048, f (slotOf n) (placeOf n) = ∑ j, ∑ t, f j t := by
  rw [← (finProdFinEquiv (m := 128) (n := 16)).sum_comp (fun k : Fin (128 * 16) => f (slotOf k) (placeOf k)), Fintype.sum_prod_type]
  refine Finset.sum_congr rfl fun j _ => Finset.sum_congr rfl fun t _ => ?_
  have ht := t.isLt
  rw [show slotOf (finProdFinEquiv (j, t)) = j from Fin.ext (by show (t.val + 16 * j.val) / 16 = j.val; omega),
    show placeOf (finProdFinEquiv (j, t)) = t from Fin.ext (by show (t.val + 16 * j.val) % 16 = t.val; omega)]

/-- The result, as a softmax over the slots, when queries and keys are real and the live slots name pages. -/
theorem result_eq (Q : Fin 16 → Fin 16 → Fin 64 → ℝ) (Kr : Fin 256 → Fin 16 → Fin 16 → Fin 64 → ℝ)
    (hq : ∀ b h d, q (ix4 b 0 h d) = ((Q b h d : ℝ) : EReal)) (hk : ∀ g t h d, K (ix4 g t h d) = ((Kr g t h d : ℝ) : EReal))
    (hbt : ∀ b j, Live len b j → (bt (ix2 b j)).toNat < 256) (b h : Fin 16) (d : Fin 64) (j₀ : Fin 128) (h₀ : Live len b j₀)
    (s : Fin 256 → Fin 16 → ℝ) (hs : ∀ g t, s g t = ∑ d, Q b h d * (1 / 8) * Kr g t h d) (Z : ℝ)
    (hZ : Z = ∑ j, ∑ t, if Live len b j then Real.exp (s (pageOf bt b j) t) else 0) :
    result q K V bt len (ix4 b 0 h d)
      = ∑ j, ∑ t, if Live len b j then ((Real.exp (s (pageOf bt b j) t) / Z : ℝ) : EReal) * V (ix4 (pageOf bt b j) t h d) else 0 := by
  have hm : ∀ n, masked q K bt len (ix4 b h 0 n)
      = if Live len b (slotOf n) then ((s (pageOf bt b (slotOf n)) (placeOf n) : ℝ) : EReal) else ⊥ := by
    intro n
    rw [masked_at, live_at]
    split
    · rename_i hl
      rw [show IntOp.cmpi .slt (BitVec.ofNat 32 (slotOf n).val) (len (ix1 b)) = 1#1 from hl, hs, Cert.Halves.coe_sum]
      show (∑ x, q (ix4 b 0 h x) * flat K bt (ix4 b n h x)) * (((1 : ℝ) / 8 : ℝ) : EReal) = _
      rw [Cert.Halves.sum_mul_real _ _ (by norm_num)]
      refine Finset.sum_congr rfl fun x _ => ?_
      rw [hq, flat_at, hk, pick_eq bt b _ (hbt b _ hl), ← EReal.coe_mul, ← EReal.coe_mul, mul_right_comm]
    · rename_i hl
      unfold Scalar.select
      exact if_neg hl
  rw [result_at]
  simp only [weights_at]
  rw [Cert.Halves.softmax (fun n => Live len b (slotOf n)) (fun n => s (pageOf bt b (slotOf n)) (placeOf n)) (fun n => flat V bt (ix4 b n h d))
    ⟨16 * j₀.val, by have := j₀.isLt; omega⟩ (by rw [show slotOf ⟨16 * j₀.val, _⟩ = j₀ from Fin.ext (by show 16 * j₀.val / 16 = j₀.val; omega)]; exact h₀)
    Z (by rw [hZ]; exact (sum_slots fun j t => if Live len b j then Real.exp (s (pageOf bt b j) t) else 0).symm) _ hm]
  rw [← sum_slots]
  refine Finset.sum_congr rfl fun n _ => ?_
  split
  · rename_i hl
    rw [flat_at, pick_eq bt b _ (hbt b _ hl)]
  · rfl

end Cert.ReferenceIdeal.Value
-- ==== Proof.Tame.lean ====
/-
# What the precondition says, entry by entry
-/
module

public import proofs.«01_k».proof.Pre_tame_KernelIdeal
public import proofs.«01_k».proof.Pre_tame_ReferenceIdeal
public import Idealize.ShloMosaic.PureOps.Ideal
public import Idealize.ShloMosaic.Lib.Pointwise
public import Idealize.ShloMosaic.Lib.ReduceAll

@[expose] public section

noncomputable section

theorem Cert.Pre_tame_KernelIdeal.facts : Cert.Pre_tame_KernelIdeal.Facts := by
  constructor <;> decide
theorem Cert.Pre_tame_ReferenceIdeal.facts : Cert.Pre_tame_ReferenceIdeal.Facts := by
  constructor <;> decide

namespace Cert.Pre_tame_KernelIdeal

open Idealize.ShloMosaic

/-- A comparison that came out one held. -/
theorem sge_one {x y : BitVec 32} (h : IntOp.cmpi .sge x y = 1#1) : y.toInt ≤ x.toInt := by
  have h' : BitVec.ofBool (y.sle x) = 1#1 := h
  cases e : y.sle x
  · rw [e] at h'; exact absurd h' (by decide)
  · simpa [BitVec.sle_eq_decide] using e
theorem slt_one {x y : BitVec 32} (h : IntOp.cmpi .slt x y = 1#1) : x.toInt < y.toInt := by
  have h' : BitVec.ofBool (x.slt y) = 1#1 := h
  cases e : x.slt y
  · rw [e] at h'; exact absurd h' (by decide)
  · simpa [BitVec.slt_eq_decide] using e

theorem one_slt {x y : BitVec 32} (h : x.toInt < y.toInt) : IntOp.cmpi .slt x y = 1#1 := by
  show BitVec.ofBool (x.slt y) = 1#1
  rw [BitVec.slt_eq_decide, decide_eq_true h]; rfl
/-- A word that is small and not negative, as a number. -/
theorem toNat_lt {x : BitVec 32} (h0 : 0 ≤ x.toInt) (h1 : x.toInt < 256) : x.toNat < 256 := by
  rw [BitVec.toInt_eq_toNat_cond] at h0 h1
  have := x.isLt
  split at h0 <;> split at h1 <;> omega

/-- A value whose size is below the infinite one is real. -/
theorem real_of {x : EReal} (h : FloatOps.cmpf (F := Ideal) (φ := .f32) .olt (FloatOps.absf (F := Ideal) (φ := .f32) x) (Ideal.ofBits .f32 0x7F800000#32) = 1#1) : ∃ r : ℝ, x = (r : EReal) := by
  rw [show Ideal.ofBits .f32 0x7F800000#32 = ⊤ by simp [Ideal.ofBits, Ideal.ieee]] at h
  have h' : BitVec.ofBool (decide (max x (-x) < (⊤ : EReal))) = 1#1 := h
  induction x with
  | bot => simp at h'
  | top => simp at h'
  | coe r => exact ⟨r, rfl⟩

instance : Subsingleton S_.Idx := ⟨fun a b => funext fun i => i.elim0⟩

variable [Facts] (q : FVec Ideal S16x1x16x64 .f32) (k v : FVec Ideal S128x16x16x64 .f32) (bt : IVec S16x128 32) (len : IVec S16 32)

structure Says : Prop where
  hq : ∀ i, ∃ r : ℝ, q i = (r : EReal)
  hk : ∀ i, ∃ r : ℝ, k i = (r : EReal)
  hlen : ∀ b : Fin 16, 1 ≤ (len (ix1 b)).toInt
  hbt : ∀ (b : Fin 16) (j : Fin 128), (0 ≤ (bt (ix2 b j)).toInt ∧ (bt (ix2 b j)).toInt < 256) ∨ (len (ix1 b)).toInt ≤ (BitVec.ofNat 32 j.val).toInt

theorem tame_says (h : fn (F := Ideal) q k v bt len = fun _ => 1#1) : Says q k bt len := by
  have h0 := congrFun h ix0
  unfold fn fn_part1 at h0
  obtain ⟨h1, hb⟩ := IntOp.andi_eq_one.1 h0
  obtain ⟨h2, hl⟩ := IntOp.andi_eq_one.1 h1
  obtain ⟨hq, hk⟩ := IntOp.andi_eq_one.1 h2
  refine ⟨fun i => real_of (Host.reduce_andi_all _ _ _ _ _ hq i), fun i => real_of (Host.reduce_andi_all _ _ _ _ _ hk i), fun b => ?_, fun b j => ?_⟩
  · exact sge_one (Host.reduce_andi_all _ _ _ _ _ hl (ix1 b))
  · have := Host.reduce_andi_all _ _ _ _ _ hb (ix2 b j)
    revert this
    pointwise
    intro hs
    rcases IntOp.ori_eq_one.1 hs with hs | hs
    · obtain ⟨h0, h1⟩ := IntOp.andi_eq_one.1 hs
      exact Or.inl ⟨sge_one h0, slt_one h1⟩
    · exact Or.inr (sge_one hs)

end Cert.Pre_tame_KernelIdeal

end
-- ==== Proof.Value.lean ====
/-
# The result of the four devices is the reference's
-/
module

public import proofs.«01_k».proof.Proof.Run
public import proofs.«01_k».proof.Proof.Heads
public import proofs.«01_k».proof.Proof.RefValue
public import proofs.«01_k».proof.Proof.Tame
public import Idealize.ShloMosaic.Lib.StableHlo.ReadAt
public import Idealize.ShloMosaic.Lib.LayoutAt
public import Idealize.ShloMosaic.Lib.Pipeline.ValueKit

@[expose] public section

set_option maxRecDepth 16384

noncomputable section

namespace Cert.KernelIdeal.Talk

open Cert.KernelIdeal Cert.KernelIdeal.Gen
open Idealize.ShloMosaic Idealize.ShloMosaic.TcCoe

variable (m : (ℓ : Loc nD τ sig) → Buf (Elt Ideal) ℓ)

/-! ## What the kernels are given -/

theorem kt_at (c : Dev nD) (t h : Fin 16) (d : Fin 64) (n : Fin 128) :
    (ins m).kt c (ix4 t h d n : S16x16x64x128.Idx) = m ((c : Thread nD τ).loc main_arg1) (ix4 n t h d : S128x16x16x64.Idx) := by
  show V m c main_v1 (ix4 t h d n : S16x16x64x128.Idx) = _
  unfold V V0 hostOps0 hostOps0_1
  after_reads_at
theorem vt_at (c : Dev nD) (t h : Fin 16) (d : Fin 64) (n : Fin 128) :
    (ins m).vt c (ix4 t h d n : S16x16x64x128.Idx) = m ((c : Thread nD τ).loc main_arg2) (ix4 n t h d : S128x16x16x64.Idx) := by
  show V m c main_v2 (ix4 t h d n : S16x16x64x128.Idx) = _
  unfold V V0 hostOps0 hostOps0_1
  after_reads_at
theorem table_at (c : Dev nD) (b : Fin 16) (j : Fin 128) : (V m c main_v9 : IVec S16x128 32) (ix2 b j)
    = Scalar.select (IntOp.cmpi .slt (BitVec.ofNat 32 j.val) ((m ((c : Thread nD τ).loc main_arg4) : IVec S16 32) (ix1 b)))
      ((m ((c : Thread nD τ).loc main_arg3) : IVec S16x128 32) (ix2 b j)) 4294967295#32 := by
  unfold V V0 hostOps0 hostOps0_1
  after_reads_at
  rfl

theorem idx0 : ∀ t : Fin cfg0.N, win0_0.index t = fun _ => 0 := by decide +kernel
theorem idx1 : ∀ t : Fin cfg0.N, win0_1.index t = fun _ => 0 := by decide +kernel
theorem idx2 : ∀ t : Fin cfg0.N, win0_2.index t = fun _ => 0 := by decide +kernel
theorem q_at (c : Dev nD) (i : S16x1x16x64.Idx) : (ins m).q c i = m ((c : Thread nD τ).loc main_arg0) i := by
  show iblk m c 0 t0_0 i = _
  rw [← V_main_arg0 m c]
  blk_simp [iblk]
  refine congrArg (V m c main_arg0) ?_
  blk_ext [idx0]
theorem bt_at (c : Dev nD) (i : S16x128.Idx) : (ins m).bt c i = V m c main_v9 i := by
  show iblk m c 1 t0_0 i = _
  blk_simp [iblk]
  refine congrArg (V m c main_v9) ?_
  blk_ext [idx1]

/-! ## What they leave -/

theorem res_at (c : Dev nD) : (dat0 m c).arrAt 2 cfg0.N = outV (ins m) c := by
  refine (dat0 m c).arrAt_eq_of_covers 2 _ (by decide +kernel) fun t hf y => ?_
  blk_simp
  show outV (ins m) c y = _
  refine congrArg (outV (ins m) c) ?_
  blk_ext [idx2]

theorem U3_res (c : Dev nD) : U3 m c (Proc.devRef .tc main_v10) = outV (ins m) c :=
  (Pipeline.withArrays_arr spec0 launch0.win.arr_inj c (V0 m c) _ 2).trans (res_at m c)

theorem end_at (c : Dev nD) (b h : Fin 16) (d : Fin 64) :
    U4 m c (Proc.devRef .tc main_v11) (ix4 b 0 h d : S16x1x16x64.Idx) = outV (ins m) c (ix2 b ⟨64 * h.val + d.val, by have := h.isLt; have := d.isLt; omega⟩ : S16x1024.Idx) := by
  unfold U4 hostOps1
  after_reads_at
  rw [U3_res]
  exact congrArg (fun l => outV (ins m) c (ix2 b l : S16x1024.Idx)) (Fin.ext (by show h.val * 64 + d.val = 64 * h.val + d.val; omega))

/-! ## The whole arrays -/

/-- A device's pages of a whole array. -/
theorem block_at (c : Dev nD) (x : FVec Ideal Cert.ReferenceIdeal.S256x16x16x64 .f32) (n : Fin 128) (t h : Fin 16) (d : Fin 64) :
    (Layout.blockN ⟨4, ![128, 16, 16, 64]⟩ ⟨4, ![256, 16, 16, 64]⟩ (Layout.meshBlock [2, 2] ![[1], [], [], []] c) x : FVec Ideal S128x16x16x64 .f32) (ix4 n t h d)
      = x (ix4 (page c n) t h d) := by
  rw [Layout.blockN_apply]
  refine congrArg x (funext fun a => Fin.ext ?_)
  rw [Layout.TilesN.idx_val]
  have hc : Layout.meshLin [2, 2] c.val [1] = c.val % 2 := by revert c; decide
  match a with
  | ⟨0, _⟩ =>
    show Layout.meshLin [2, 2] c.val [1] * 128 + n.val = 128 * (c.val % 2) + n.val
    rw [hc]; omega
  | ⟨1, _⟩ => show 0 * 16 + t.val = t.val; omega
  | ⟨2, _⟩ => show 0 * 16 + h.val = h.val; omega
  | ⟨3, _⟩ => show 0 * 64 + d.val = d.val; omega

theorem page_of (g : Fin 256) : ∃ (c : Dev nD) (n : Fin 128), page c n = g := by
  have hg := g.isLt
  refine ⟨⟨g.val / 128, by show g.val / 128 < 4; omega⟩, ⟨g.val % 128, Nat.mod_lt _ (by decide)⟩, Fin.ext ?_⟩
  show 128 * (g.val / 128 % 2) + g.val % 128 = g.val
  omega

section
open Cert.ReferenceIdeal.Value (Live pageOf)
open Cert.Pre_tame_KernelIdeal (Says)

variable (qR : FVec Ideal Cert.ReferenceIdeal.S16x1x16x64 .f32) (kR vR : FVec Ideal Cert.ReferenceIdeal.S256x16x16x64 .f32)
  (btR : IVec Cert.ReferenceIdeal.S16x128 32) (lenR : IVec Cert.ReferenceIdeal.S16 32)

/-- Every device holds its part of the whole arrays. -/
structure Holds : Prop where
  q : ∀ c : Dev nD, m ((c : Thread nD τ).loc main_arg0) = qR
  k : ∀ c : Dev nD, m ((c : Thread nD τ).loc main_arg1) = Layout.blockN ⟨4, ![128, 16, 16, 64]⟩ ⟨4, ![256, 16, 16, 64]⟩ (Layout.meshBlock [2, 2] ![[1], [], [], []] c) kR
  v : ∀ c : Dev nD, m ((c : Thread nD τ).loc main_arg2) = Layout.blockN ⟨4, ![128, 16, 16, 64]⟩ ⟨4, ![256, 16, 16, 64]⟩ (Layout.meshBlock [2, 2] ![[1], [], [], []] c) vR
  bt : ∀ c : Dev nD, m ((c : Thread nD τ).loc main_arg3) = btR
  len : ∀ c : Dev nD, m ((c : Thread nD τ).loc main_arg4) = lenR

def qr (b h : Fin 16) (d : Fin 64) : ℝ := (qR (ix4 b 0 h d) : EReal).toReal
def kr (g : Fin 256) (t h : Fin 16) (d : Fin 64) : ℝ := (kR (ix4 g t h d) : EReal).toReal

variable {m qR kR vR btR lenR} (H : Holds m qR kR vR btR lenR)
  (S : ∀ c : Dev nD, Says (m ((c : Thread nD τ).loc main_arg0)) (m ((c : Thread nD τ).loc main_arg1)) (m ((c : Thread nD τ).loc main_arg3)) (m ((c : Thread nD τ).loc main_arg4)))

include H S
theorem q_real (b h : Fin 16) (d : Fin 64) : qR (ix4 b 0 h d) = ((qr qR b h d : ℝ) : EReal) := by
  obtain ⟨r, e⟩ := (S 0).hq (ix4 b 0 h d)
  rw [H.q 0] at e
  unfold qr
  rw [e, EReal.toReal_coe]
theorem k_real (g : Fin 256) (t h : Fin 16) (d : Fin 64) : kR (ix4 g t h d) = ((kr kR g t h d : ℝ) : EReal) := by
  obtain ⟨c, n, rfl⟩ := page_of g
  obtain ⟨r, e⟩ := (S c).hk (ix4 n t h d)
  rw [H.k c, block_at] at e
  unfold kr
  rw [e, EReal.toReal_coe]
theorem in_range (b : Fin 16) (j : Fin 128) (hl : Live lenR b j) : (btR (ix2 b j)).toNat < 256 := by
  have h := (S 0).hbt b j
  rw [H.bt 0, H.len 0] at h
  rcases h with ⟨h0, h1⟩ | h
  · exact Cert.Pre_tame_KernelIdeal.toNat_lt h0 h1
  · exact absurd (Cert.Pre_tame_KernelIdeal.slt_one hl) (by omega)
theorem live_first (b : Fin 16) : Live lenR b 0 := by
  have h := (S 0).hlen b
  rw [H.len 0] at h
  exact Cert.Pre_tame_KernelIdeal.one_slt (by show (0#32).toInt < _; rw [show (0#32).toInt = 0 by decide]; omega)

theorem given : Given (ins m) (qr qR) (kr kR) (fun g t h d => vR (ix4 g t h d)) (Live lenR) (pageOf btR) where
  q p b h d := by rw [q_at, H.q p]; exact q_real H S b h d
  k p t h d n := by rw [kt_at, H.k p, block_at]; exact k_real H S _ t h d
  v p t h d n := by rw [vt_at, H.v p, block_at]
  bt p b j g := by
    rw [bt_at, table_at, H.bt p, H.len p]
    have hg := g.isLt
    by_cases hl : Live lenR b j
    · have hr := in_range H S b j hl
      rw [show IntOp.cmpi .slt (BitVec.ofNat 32 j.val) (lenR (ix1 b)) = 1#1 from hl]
      show hit (btR (ix2 b j)) _ = _
      unfold hit
      refine if_congr ⟨fun e => ⟨hl, Fin.ext ?_⟩, fun e => ?_⟩ rfl rfl
      · show (btR (ix2 b j)).toNat % 256 = g.val
        rw [e, BitVec.toNat_ofNat]; omega
      · rw [← e.2]
        refine BitVec.eq_of_toNat_eq ?_
        show (btR (ix2 b j)).toNat = (BitVec.ofNat 32 ((btR (ix2 b j)).toNat % 256)).toNat
        rw [BitVec.toNat_ofNat]; omega
    · rw [if_neg (fun e => hl e.1)]
      unfold Scalar.select hit
      rw [if_neg (show ¬ IntOp.cmpi .slt (BitVec.ofNat 32 j.val) (lenR (ix1 b)) = 1 from hl), if_neg]
      intro e
      have h' : (4294967295#32).toNat = (BitVec.ofNat 32 g.val).toNat := congrArg BitVec.toNat e
      rw [BitVec.toNat_ofNat, BitVec.toNat_ofNat] at h'
      omega

/-- The result of every device is the reference's. -/
theorem value (c : Dev nD) : U4 m c (Proc.devRef .tc main_v11) = Cert.ReferenceIdeal.Value.result qR kR vR btR lenR := by
  have key : ∀ (b h : Fin 16) (d : Fin 64), U4 m c (Proc.devRef .tc main_v11) (ix4 b 0 h d : S16x1x16x64.Idx)
      = Cert.ReferenceIdeal.Value.result qR kR vR btR lenR (ix4 b 0 h d) := by
    intro b h d
    have hl := live_first H S b
    rw [end_at, outV_at (given H S) c b h d _ rfl ?_]
    · rw [Cert.ReferenceIdeal.Value.result_eq qR kR vR btR lenR (qr qR) (kr kR) (q_real H S) (k_real H S) (in_range H S) b h d 0 hl
        (score (qr qR) (kr kR) b h) (fun _ _ => rfl) _ rfl]
    · have h0 : ∀ (j : Fin 128) (t : Fin 16), (0 : ℝ) ≤ if Live lenR b j then Real.exp (score (qr qR) (kr kR) b h (pageOf btR b j) t) else 0 := by
        intro j t; split
        · exact (Real.exp_pos _).le
        · exact le_rfl
      refine Finset.sum_pos' (fun j _ => Finset.sum_nonneg fun t _ => h0 j t) ⟨0, Finset.mem_univ _, ?_⟩
      refine Finset.sum_pos' (fun t _ => h0 0 t) ⟨0, Finset.mem_univ _, ?_⟩
      rw [if_pos hl]; exact Real.exp_pos _
  funext i
  have hi : i = (ix4 (i 0) 0 (i 2) (i 3) : S16x1x16x64.Idx) := by
    funext a
    match a with
    | ⟨0, _⟩ => rfl
    | ⟨1, _⟩ => exact Fin.ext (Nat.lt_one_iff.mp (i 1).isLt)
    | ⟨2, _⟩ => rfl
    | ⟨3, _⟩ => rfl
  rw [hi]
  exact key (i 0) (i 2) (i 3)
end

end Cert.KernelIdeal.Talk

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-! ## The kernel's own run: the two programs have one text, so the run over every reading of the floats is read at the bits -/

theorem body_table : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

theorem table : Cert.Kernel.defs (F := Bits) = Cert.KernelIdeal.defs (F := Bits) :=
  congrArg (Idealize.ShloMosaic.Pipeline.defs Cert.KernelIdeal.pcfgs) body_table

theorem frame_kernel : Cert.quiescent_Kernel := fun m ρ _ => by
  have e : θ_run (Cert.Kernel.defs (F := Bits)) (onTc (τ := Cert.Kernel.τ) (Cert.Kernel.main (F := Bits))) ⟨m, fun _ => 0, ρ⟩
      = θ_run (Cert.KernelIdeal.defs (F := Bits)) (onTc (τ := Cert.KernelIdeal.τ) (Cert.KernelIdeal.main (F := Bits))) ⟨m, fun _ => 0, ρ⟩ :=
    congrArg (fun d => θ_run d (onTc (τ := Cert.KernelIdeal.τ) (Cert.KernelIdeal.main (F := Bits))) ⟨m, fun _ => 0, ρ⟩) table
  rw [e]
  exact (θ_run Cert.KernelIdeal.defs _ _).mono (fun _ h => ⟨fun c => (h.1 c).1, h.2⟩) (Cert.KernelIdeal.Talk.run_main (F := Bits) m ρ)

theorem frame_ideal : Cert.quiescent_KernelIdeal := fun m ρ _ =>
  (θ_run Cert.KernelIdeal.defs _ _).mono (fun _ h => ⟨fun c => (h.1 c).1, h.2⟩) (Cert.KernelIdeal.Talk.run_main (F := Ideal) m ρ)

/-- The reference's run on its one device, which declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- From arguments placed as the statement places them, every device of the kernel ends with the reference's result. -/
theorem algebraic : Cert.algebraic_KernelIdeal_ReferenceIdeal_pre_tame_KernelIdeal (hPre_tame_KernelIdeal := Cert.Pre_tame_KernelIdeal.facts) := by
  intro m g m' g' hP hin
  have H : Cert.KernelIdeal.Talk.Holds m _ _ _ _ _ :=
    ⟨fun c => (hin c).1, fun c => (hin c).2.1, fun c => (hin c).2.2.1, fun c => (hin c).2.2.2.1, fun c => (hin c).2.2.2.2⟩
  have hv := Cert.KernelIdeal.Talk.value H fun c => @Cert.Pre_tame_KernelIdeal.tame_says Cert.Pre_tame_KernelIdeal.facts _ _ _ _ _ (hP c)
  refine ⟨Cert.ReferenceIdeal.Value.res_main_v39 m' 0, ?_, ?_⟩
  · refine (θ_run Cert.KernelIdeal.defs _ _).mono (fun r h c => ?_) (Cert.KernelIdeal.Talk.run_main (F := Ideal) m g)
    exact ⟨(h.1 c).2.trans ((hv c).trans (Cert.ReferenceIdeal.Value.res_eq m' 0).symm), (h.1 c).1⟩
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts,
  Cert.Pre_tame_KernelIdeal.facts, Cert.Pre_tame_ReferenceIdeal.facts,
  frame_kernel, frame_ideal, fun m g _ => frame_ideal m g trivial, frame_reference, fun m g _ => frame_reference m g trivial, trivial, algebraic⟩

end Cert.Proof

end
